-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)) (v5 : (c : Dev Cert.Kernel2Ideal.nD) → Buf (Elt Ideal) ((c.tc : Thread Cert.Kernel2Ideal.nD Cert.Kernel2Ideal.τ).loc Cert.Kernel2Ideal.main_v21_5)) (v6 : (c : Dev Cert.Kernel2Ideal.nD) → Buf (Elt Ideal) ((c.tc : Thread Cert.Kernel2Ideal.nD Cert.Kernel2Ideal.τ).loc Cert.Kernel2Ideal.main_v21_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_v21_5) = v5 c
          ∧ r.2.mem ((c.tc : Thread Cert.Kernel2Ideal.nD Cert.Kernel2Ideal.τ).loc Cert.Kernel2Ideal.main_v21_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v91) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v86) = v4 c
          ∧ r.2.mem ((c.tc : Thread Cert.Reference2Ideal.nD Cert.Reference2Ideal.τ).loc Cert.Reference2Ideal.main_v92) = v5 c
          ∧ r.2.mem ((c.tc : Thread Cert.Reference2Ideal.nD Cert.Reference2Ideal.τ).loc Cert.Reference2Ideal.main_v93) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)) (v3 : (c : Dev Cert.Kernel7Ideal.nD) → Buf (Elt Ideal) ((c.tc : Thread Cert.Kernel7Ideal.nD Cert.Kernel7Ideal.τ).loc Cert.Kernel7Ideal.main_v5_3)) (v4 : (c : Dev Cert.Kernel7Ideal.nD) → Buf (Elt Ideal) ((c.tc : Thread Cert.Kernel7Ideal.nD Cert.Kernel7Ideal.τ).loc Cert.Kernel7Ideal.main_v5_4)) (v5 : (c : Dev Cert.Kernel7Ideal.nD) → Buf (Elt Ideal) ((c.tc : Thread Cert.Kernel7Ideal.nD Cert.Kernel7Ideal.τ).loc Cert.Kernel7Ideal.main_v5_5)) (v6 : (c : Dev Cert.Kernel7Ideal.nD) → Buf (Elt Ideal) ((c.tc : Thread Cert.Kernel7Ideal.nD Cert.Kernel7Ideal.τ).loc Cert.Kernel7Ideal.main_v5_6)) (v7 : (c : Dev Cert.Kernel7Ideal.nD) → Buf (Elt Ideal) ((c.tc : Thread Cert.Kernel7Ideal.nD Cert.Kernel7Ideal.τ).loc Cert.Kernel7Ideal.main_v5_7)) (v8 : (c : Dev Cert.Kernel7Ideal.nD) → Buf (Elt Ideal) ((c.tc : Thread Cert.Kernel7Ideal.nD Cert.Kernel7Ideal.τ).loc Cert.Kernel7Ideal.main_v5_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_v5_3) = v3 c
          ∧ r.2.mem ((c.tc : Thread Cert.Kernel7Ideal.nD Cert.Kernel7Ideal.τ).loc Cert.Kernel7Ideal.main_v5_4) = v4 c
          ∧ r.2.mem ((c.tc : Thread Cert.Kernel7Ideal.nD Cert.Kernel7Ideal.τ).loc Cert.Kernel7Ideal.main_v5_5) = v5 c
          ∧ r.2.mem ((c.tc : Thread Cert.Kernel7Ideal.nD Cert.Kernel7Ideal.τ).loc Cert.Kernel7Ideal.main_v5_6) = v6 c
          ∧ r.2.mem ((c.tc : Thread Cert.Kernel7Ideal.nD Cert.Kernel7Ideal.τ).loc Cert.Kernel7Ideal.main_v5_7) = v7 c
          ∧ r.2.mem ((c.tc : Thread Cert.Kernel7Ideal.nD Cert.Kernel7Ideal.τ).loc Cert.Kernel7Ideal.main_v5_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_v88) = v2 c
          ∧ r.2.mem ((c.tc : Thread Cert.Reference7Ideal.nD Cert.Reference7Ideal.τ).loc Cert.Reference7Ideal.main_v89) = v3 c
          ∧ r.2.mem ((c.tc : Thread Cert.Reference7Ideal.nD Cert.Reference7Ideal.τ).loc Cert.Reference7Ideal.main_v91) = v4 c
          ∧ r.2.mem ((c.tc : Thread Cert.Reference7Ideal.nD Cert.Reference7Ideal.τ).loc Cert.Reference7Ideal.main_v92) = v5 c
          ∧ r.2.mem ((c.tc : Thread Cert.Reference7Ideal.nD Cert.Reference7Ideal.τ).loc Cert.Reference7Ideal.main_v68) = v6 c
          ∧ r.2.mem ((c.tc : Thread Cert.Reference7Ideal.nD Cert.Reference7Ideal.τ).loc Cert.Reference7Ideal.main_v94) = v7 c
          ∧ r.2.mem ((c.tc : Thread Cert.Reference7Ideal.nD Cert.Reference7Ideal.τ).loc Cert.Reference7Ideal.main_v87) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_all_finite.lean ====
abbrev S8192x512 : Shape := ⟨2, ![8192, 512]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)

variable [Facts]

def fn {F : FTy → Type} [FloatOps F] (main_arg0 : FVec F S8192x512 .f32) (main_arg1 : FVec F S8192x128 .f32) (main_arg2 : FVec F S8192x128 .f32) (main_arg3 : FVec F S8192x512 .f32) : IVec S8192x512 1 × IVec S8192x128 1 × IVec S8192x128 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S8192x128 .f32 := Host.absf main_arg2
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Kernel.lean ====
abbrev S8192x512 : Shape := ⟨2, ![8192, 512]⟩
abbrev S8192x128 : Shape := ⟨2, ![8192, 128]⟩
abbrev S2x4096x2x4x64 : Shape := ⟨5, ![2, 4096, 2, 4, 64]⟩
abbrev S2x2x4x4096x64 : Shape := ⟨5, ![2, 2, 4, 4096, 64]⟩
abbrev S2x4096x2x64 : Shape := ⟨4, ![2, 4096, 2, 64]⟩
abbrev S2x2x4096x64 : Shape := ⟨4, ![2, 2, 4096, 64]⟩
abbrev S2x2x4x4096x4096 : Shape := ⟨5, ![2, 2, 4, 4096, 4096]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x4x2x4096x4096 : Shape := ⟨5, ![2, 4, 2, 4096, 4096]⟩
abbrev S2x4x8192x4096 : Shape := ⟨4, ![2, 4, 8192, 4096]⟩
abbrev S2x2x4096x4x1 : Shape := ⟨5, ![2, 2, 4096, 4, 1]⟩
abbrev S2x8192x4 : Shape := ⟨3, ![2, 8192, 4]⟩
abbrev S2x4096x128 : Shape := ⟨3, ![2, 4096, 128]⟩
abbrev S2x128x4096 : Shape := ⟨3, ![2, 128, 4096]⟩
abbrev S256x256 : Shape := ⟨2, ![256, 256]⟩
abbrev S4096x128 : Shape := ⟨2, ![4096, 128]⟩
abbrev S1x64x4096 : Shape := ⟨3, ![1, 64, 4096]⟩
abbrev S1x4x256x4096 : Shape := ⟨4, ![1, 4, 256, 4096]⟩
abbrev S1x256x4 : Shape := ⟨3, ![1, 256, 4]⟩
abbrev S64x4096 : Shape := ⟨2, ![64, 4096]⟩
abbrev S256x64 : Shape := ⟨2, ![256, 64]⟩
abbrev S256 : Shape := ⟨1, ![256]⟩
abbrev S256x1 : Shape := ⟨2, ![256, 1]⟩
abbrev S1x256x1 : Shape := ⟨3, ![1, 256, 1]⟩
abbrev S256x128 : Shape := ⟨2, ![256, 128]⟩
abbrev S1x1x256x2048 : Shape := ⟨4, ![1, 1, 256, 2048]⟩
abbrev S256x2048 : Shape := ⟨2, ![256, 2048]⟩
abbrev S64x2048 : Shape := ⟨2, ![64, 2048]⟩
abbrev S2048x128 : Shape := ⟨2, ![2048, 128]⟩
abbrev S1x64x2048 : Shape := ⟨3, ![1, 64, 2048]⟩

abbrev nBuf : Space → Nat
  | .hbm => 41
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S2x4096x2x4x64, .f32⟩
  | .hbm, ⟨5, _⟩ => ⟨S2x2x4x4096x64, .f32⟩
  | .hbm, ⟨6, _⟩ => ⟨S2x4096x2x64, .f32⟩
  | .hbm, ⟨7, _⟩ => ⟨S2x2x4096x64, .f32⟩
  | .hbm, ⟨8, _⟩ => ⟨S2x4096x2x64, .f32⟩
  | .hbm, ⟨9, _⟩ => ⟨S2x2x4096x64, .f32⟩
  | .hbm, ⟨10, _⟩ => ⟨S2x2x4x4096x4096, .f32⟩
  | .hbm, ⟨11, _⟩ => ⟨S_, .f32⟩
  | .hbm, ⟨12, _⟩ => ⟨S2x2x4x4096, .f32⟩
  | .hbm, ⟨13, _⟩ => ⟨S2x2x4x4096x1, .f32⟩
  | .hbm, ⟨14, _⟩ => ⟨S2x2x4x4096x4096, .f32⟩
  | .hbm, ⟨15, _⟩ => ⟨S2x2x4x4096x4096, .f32⟩
  | .hbm, ⟨16, _⟩ => ⟨S2x2x4x4096x4096, .f32⟩
  | .hbm, ⟨17, _⟩ => ⟨S_, .f32⟩
  | .hbm, ⟨18, _⟩ => ⟨S2x2x4x4096, .f32⟩
  | .hbm, ⟨19, _⟩ => ⟨S2x2x4x4096x1, .f32⟩
  | .hbm, ⟨20, _⟩ => ⟨S_, .f32⟩
  | .hbm, ⟨21, _⟩ => ⟨S2x2x4x4096x1, .f32⟩
  | .hbm, ⟨22, _⟩ => ⟨S2x2x4x4096x1, .f32⟩
  | .hbm, ⟨23, _⟩ => ⟨S2x2x4x4096x64, .f32⟩
  | .hbm, ⟨24, _⟩ => ⟨S2x2x4x4096x64, .f32⟩
  | .hbm, ⟨25, _⟩ => ⟨S2x2x4x4096x64, .f32⟩
  | .hbm, ⟨26, _⟩ => ⟨S2x4x2x4096x4096, .f32⟩
  | .hbm, ⟨27, _⟩ => ⟨S2x4x8192x4096, .f32⟩
  | .hbm, ⟨28, _⟩ => ⟨S2x4x8192x4096, .bf16⟩
  | .hbm, ⟨29, _⟩ => ⟨S2x2x4096x4x1, .f32⟩
  | .hbm, ⟨30, _⟩ => ⟨S2x8192x4, .f32⟩
  | .hbm, ⟨31, _⟩ => ⟨S2x4096x2x4x64, .f32⟩
  | .hbm, ⟨32, _⟩ => ⟨S8192x512, .f32⟩
  | .hbm, ⟨33, _⟩ => ⟨S2x4096x128, .f32⟩
  | .hbm, ⟨34, _⟩ => ⟨S2x128x4096, .f32⟩
  | .hbm, ⟨35, _⟩ => ⟨S2x128x4096, .bf16⟩
  | .hbm, ⟨36, _⟩ => ⟨S8192x512, .bf16⟩
  | .hbm, ⟨37, _⟩ => ⟨S8192x128, .bf16⟩
  | .hbm, ⟨38, _⟩ => ⟨S8192x512, .f32⟩
  | .hbm, ⟨39, _⟩ => ⟨S2x128x4096, .f32⟩
  | .hbm, ⟨40, _⟩ => ⟨S2x128x4096, .f32⟩
  | .local _ .vmem, ⟨0, _⟩ => ⟨S256x256, .bf16⟩
  | .local _ .vmem, ⟨1, _⟩ => ⟨S256x256, .bf16⟩
  | .local _ .vmem, ⟨2, _⟩ => ⟨S4096x128, .bf16⟩
  | .local _ .vmem, ⟨3, _⟩ => ⟨S4096x128, .bf16⟩
  | .local _ .vmem, ⟨4, _⟩ => ⟨S1x64x4096, .bf16⟩
  | .local _ .vmem, ⟨5, _⟩ => ⟨S1x64x4096, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x4x256x4096, .bf16⟩
  | .local _ .vmem, ⟨11, _⟩ => ⟨S1x4x256x4096, .bf16⟩
  | .local _ .vmem, ⟨12, _⟩ => ⟨S1x256x4, .f32⟩
  | .local _ .vmem, ⟨13, _⟩ => ⟨S1x256x4, .f32⟩
  | .local _ .vmem, ⟨14, _⟩ => ⟨S256x256, .f32⟩
  | .local _ .vmem, ⟨15, _⟩ => ⟨S256x256, .f32⟩
  | .local _ .vmem, ⟨16, _⟩ => ⟨S1x64x4096, .f32⟩
  | .local _ .vmem, ⟨17, _⟩ => ⟨S1x64x4096, .f32⟩
  | .local _ .vmem, ⟨18, _⟩ => ⟨S1x64x4096, .f32⟩
  | .local _ .vmem, ⟨19, _⟩ => ⟨S1x64x4096, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![arg1.toNat, c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S8192x512 : Shape := ⟨2, ![8192, 512]⟩
abbrev S8192x128 : Shape := ⟨2, ![8192, 128]⟩
abbrev S2x4096x2x4x64 : Shape := ⟨5, ![2, 4096, 2, 4, 64]⟩
abbrev S2x2x4x4096x64 : Shape := ⟨5, ![2, 2, 4, 4096, 64]⟩
abbrev S2x4096x2x64 : Shape := ⟨4, ![2, 4096, 2, 64]⟩
abbrev S2x2x4096x64 : Shape := ⟨4, ![2, 2, 4096, 64]⟩
abbrev S2x2x4x4096x4096 : Shape := ⟨5, ![2, 2, 4, 4096, 4096]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x64x4096 : Shape := ⟨4, ![2, 2, 64, 4096]⟩
abbrev S2x4096x128 : Shape := ⟨3, ![2, 4096, 128]⟩
abbrev S2x128x4096 : Shape := ⟨3, ![2, 128, 4096]⟩

abbrev nBuf : Space → Nat
  | .hbm => 83
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S2x4096x2x4x64, .f32⟩
  | .hbm, ⟨5, _⟩ => ⟨S2x2x4x4096x64, .f32⟩
  | .hbm, ⟨6, _⟩ => ⟨S2x4096x2x64, .f32⟩
  | .hbm, ⟨7, _⟩ => ⟨S2x2x4096x64, .f32⟩
  | .hbm, ⟨8, _⟩ => ⟨S2x4096x2x64, .f32⟩
  | .hbm, ⟨9, _⟩ => ⟨S2x2x4096x64, .f32⟩
  | .hbm, ⟨10, _⟩ => ⟨S2x2x4x4096x4096, .f32⟩
  | .hbm, ⟨11, _⟩ => ⟨S_, .f32⟩
  | .hbm, ⟨12, _⟩ => ⟨S2x2x4x4096, .f32⟩
  | .hbm, ⟨13, _⟩ => ⟨S2x2x4x4096x1, .f32⟩
  | .hbm, ⟨14, _⟩ => ⟨S2x2x4x4096x4096, .f32⟩
  | .hbm, ⟨15, _⟩ => ⟨S2x2x4x4096x4096, .i1⟩
  | .hbm, ⟨16, _⟩ => ⟨S2x2x4x4096x4096, .f32⟩
  | .hbm, ⟨17, _⟩ => ⟨S_, .f32⟩
  | .hbm, ⟨18, _⟩ => ⟨S2x2x4x4096, .f32⟩
  | .hbm, ⟨19, _⟩ => ⟨S_, .f32⟩
  | .hbm, ⟨20, _⟩ => ⟨S2x2x4x4096, .f32⟩
  | .hbm, ⟨21, _⟩ => ⟨S2x2x4x4096, .f32⟩
  | .hbm, ⟨22, _⟩ => ⟨S_, .f32⟩
  | .hbm, ⟨23, _⟩ => ⟨S2x2x4x4096, .f32⟩
  | .hbm, ⟨24, _⟩ => ⟨S2x2x4x4096, .i1⟩
  | .hbm, ⟨25, _⟩ => ⟨S_, .f32⟩
  | .hbm, ⟨26, _⟩ => ⟨S2x2x4x4096, .f32⟩
  | .hbm, ⟨27, _⟩ => ⟨S2x2x4x4096, .i1⟩
  | .hbm, ⟨28, _⟩ => ⟨S_, .f32⟩
  | .hbm, ⟨29, _⟩ => ⟨S2x2x4x4096, .f32⟩
  | .hbm, ⟨30, _⟩ => ⟨S_, .f32⟩
  | .hbm, ⟨31, _⟩ => ⟨S2x2x4x4096, .f32⟩
  | .hbm, ⟨32, _⟩ => ⟨S_, .f32⟩
  | .hbm, ⟨33, _⟩ => ⟨S2x2x4x4096, .f32⟩
  | .hbm, ⟨34, _⟩ => ⟨S2x2x4x4096, .f32⟩
  | .hbm, ⟨35, _⟩ => ⟨S2x2x4x4096, .f32⟩
  | .hbm, ⟨36, _⟩ => ⟨S2x2x4x4096x1, .f32⟩
  | .hbm, ⟨37, _⟩ => ⟨S2x2x4x4096x4096, .f32⟩
  | .hbm, ⟨38, _⟩ => ⟨S2x2x4x4096x4096, .f32⟩
  | .hbm, ⟨39, _⟩ => ⟨S2x2x4x4096x4096, .f32⟩
  | .hbm, ⟨40, _⟩ => ⟨S_, .f32⟩
  | .hbm, ⟨41, _⟩ => ⟨S2x2x4x4096, .f32⟩
  | .hbm, ⟨42, _⟩ => ⟨S2x2x4x4096x1, .f32⟩
  | .hbm, ⟨43, _⟩ => ⟨S2x2x4x4096x4096, .f32⟩
  | .hbm, ⟨44, _⟩ => ⟨S2x2x4x4096x4096, .f32⟩
  | .hbm, ⟨45, _⟩ => ⟨S2x2x4x4096x1, .f32⟩
  | .hbm, ⟨46, _⟩ => ⟨S_, .f32⟩
  | .hbm, ⟨47, _⟩ => ⟨S2x2x4x4096x1, .f32⟩
  | .hbm, ⟨48, _⟩ => ⟨S2x2x4x4096x1, .f32⟩
  | .hbm, ⟨49, _⟩ => ⟨S2x2x4x4096x64, .f32⟩
  | .hbm, ⟨50, _⟩ => ⟨S2x4096x2x4x64, .f32⟩
  | .hbm, ⟨51, _⟩ => ⟨S8192x512, .f32⟩
  | .hbm, ⟨52, _⟩ => ⟨S2x4096x2x4x64, .f32⟩
  | .hbm, ⟨53, _⟩ => ⟨S2x2x4x4096x64, .f32⟩
  | .hbm, ⟨54, _⟩ => ⟨S2x2x64x4096, .f32⟩
  | .hbm, ⟨55, _⟩ => ⟨S2x2x4096x64, .f32⟩
  | .hbm, ⟨56, _⟩ => ⟨S2x2x4x4096x4096, .f32⟩
  | .hbm, ⟨57, _⟩ => ⟨S2x2x4x4096x4096, .f32⟩
  | .hbm, ⟨58, _⟩ => ⟨S2x2x4x4096x4096, .f32⟩
  | .hbm, ⟨59, _⟩ => ⟨S2x2x4x4096x4096, .f32⟩
  | .hbm, ⟨60, _⟩ => ⟨S_, .f32⟩
  | .hbm, ⟨61, _⟩ => ⟨S2x2x4x4096, .f32⟩
  | .hbm, ⟨62, _⟩ => ⟨S2x2x4x4096x1, .f32⟩
  | .hbm, ⟨63, _⟩ => ⟨S2x2x4x4096x1, .f32⟩
  | .hbm, ⟨64, _⟩ => ⟨S2x2x4x4096x4096, .f32⟩
  | .hbm, ⟨65, _⟩ => ⟨S2x2x4x4096x4096, .f32⟩
  | .hbm, ⟨66, _⟩ => ⟨S_, .f32⟩
  | .hbm, ⟨67, _⟩ => ⟨S2x2x4x4096, .f32⟩
  | .hbm, ⟨68, _⟩ => ⟨S2x2x4x4096x4096, .f32⟩
  | .hbm, ⟨69, _⟩ => ⟨S2x2x4x4096x4096, .f32⟩
  | .hbm, ⟨70, _⟩ => ⟨S2x2x4x4096x4096, .f32⟩
  | .hbm, ⟨71, _⟩ => ⟨S2x2x4096x64, .f32⟩
  | .hbm, ⟨72, _⟩ => ⟨S2x2x4x4096x64, .f32⟩
  | .hbm, ⟨73, _⟩ => ⟨S2x4096x2x64, .f32⟩
  | .hbm, ⟨74, _⟩ => ⟨S8192x128, .f32⟩
  | .hbm, ⟨75, _⟩ => ⟨S2x4096x2x64, .f32⟩
  | .hbm, ⟨76, _⟩ => ⟨S8192x128, .f32⟩
  | .hbm, ⟨77, _⟩ => ⟨S2x4096x2x4x64, .f32⟩
  | .hbm, ⟨78, _⟩ => ⟨S8192x512, .f32⟩
  | .hbm, ⟨79, _⟩ => ⟨S2x4096x128, .f32⟩
  | .hbm, ⟨80, _⟩ => ⟨S2x128x4096, .f32⟩
  | .hbm, ⟨81, _⟩ => ⟨S2x4096x128, .f32⟩
  | .hbm, ⟨82, _⟩ => ⟨S2x128x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S32x1x1024 : Shape := ⟨3, ![32, 1, 1024]⟩
abbrev S8192x512 : Shape := ⟨2, ![8192, 512]⟩
abbrev S256x1024 : Shape := ⟨2, ![256, 1024]⟩
abbrev S256x4096 : Shape := ⟨2, ![256, 4096]⟩
abbrev S1x1x1024 : Shape := ⟨3, ![1, 1, 1024]⟩
abbrev S256x512 : Shape := ⟨2, ![256, 512]⟩
abbrev S1x1024x1024 : Shape := ⟨3, ![1, 1024, 1024]⟩
abbrev S256 : Shape := ⟨1, ![256]⟩
abbrev S256x1 : Shape := ⟨2, ![256, 1]⟩
abbrev S1024 : Shape := ⟨1, ![1024]⟩
abbrev S512x1024 : Shape := ⟨2, ![512, 1024]⟩

abbrev nBuf : Space → Nat
  | .hbm => 42
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S1024x4x1024, .f32⟩
  | .hbm, ⟨29, _⟩ => ⟨S4x1024x1024, .f32⟩
  | .hbm, ⟨30, _⟩ => ⟨S8192x1024, .bf16⟩
  | .hbm, ⟨31, _⟩ => ⟨S4096x1024, .bf16⟩
  | .hbm, ⟨32, _⟩ => ⟨S8192x4096, .bf16⟩
  | .hbm, ⟨33, _⟩ => ⟨S4x1024x1024, .bf16⟩
  | .hbm, ⟨34, _⟩ => ⟨S1024x1024, .bf16⟩
  | .hbm, ⟨35, _⟩ => ⟨S8192x4096, .bf16⟩
  | .hbm, ⟨36, _⟩ => ⟨S8192x1024, .f32⟩
  | .hbm, ⟨37, _⟩ => ⟨S8192x1024, .bf16⟩
  | .hbm, ⟨38, _⟩ => ⟨S32x1x1024, .f32⟩
  | .hbm, ⟨39, _⟩ => ⟨S32x1x1024, .f32⟩
  | .hbm, ⟨40, _⟩ => ⟨S8192x512, .f32⟩
  | .hbm, ⟨41, _⟩ => ⟨S8192x512, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S256x4096, .bf16⟩
  | .local _ .vmem, ⟨4, _⟩ => ⟨S256x4096, .bf16⟩
  | .local _ .vmem, ⟨5, _⟩ => ⟨S4x1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev main_v21_4 : Ref sig .tc := ⟨.hbm, 39, rfl⟩
abbrev main_v21_5 : Ref sig .tc := ⟨.hbm, 40, rfl⟩
abbrev main_v21_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S32x1x1024 : Shape := ⟨3, ![32, 1, 1024]⟩
abbrev S32x256x1024 : Shape := ⟨3, ![32, 256, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S32x1024 : Shape := ⟨2, ![32, 1024]⟩
abbrev S8192x512 : Shape := ⟨2, ![8192, 512]⟩

abbrev nBuf : Space → Nat
  | .hbm => 125
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S32x1x1024, .f32⟩
  | .hbm, ⟨10, _⟩ => ⟨S32x1x1024, .f32⟩
  | .hbm, ⟨11, _⟩ => ⟨S32x256x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .i1⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S32x256x1024, .f32⟩
  | .hbm, ⟨70, _⟩ => ⟨S_, .f32⟩
  | .hbm, ⟨71, _⟩ => ⟨S32x1024, .f32⟩
  | .hbm, ⟨72, _⟩ => ⟨S32x1x1024, .f32⟩
  | .hbm, ⟨73, _⟩ => ⟨S8192x1024, .f32⟩
  | .hbm, ⟨74, _⟩ => ⟨S32x256x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192, .f32⟩
  | .hbm, ⟨99, _⟩ => ⟨S8192x1, .f32⟩
  | .hbm, ⟨100, _⟩ => ⟨S8192x1024, .f32⟩
  | .hbm, ⟨101, _⟩ => ⟨S8192x1024, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S32x256x1024, .f32⟩
  | .hbm, ⟨114, _⟩ => ⟨S_, .f32⟩
  | .hbm, ⟨115, _⟩ => ⟨S32x1024, .f32⟩
  | .hbm, ⟨116, _⟩ => ⟨S32x1x1024, .f32⟩
  | .hbm, ⟨117, _⟩ => ⟨S_, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x4096, .bf16⟩
  | .hbm, ⟨122, _⟩ => ⟨S8192x1024, .bf16⟩
  | .hbm, ⟨123, _⟩ => ⟨S8192x512, .f32⟩
  | .hbm, ⟨124, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_3 : BitVec 32 := 0#32
  let v10 : BitVec 1 := Scalar.cmpi .ne v9 c0_i32_3
  v10

def k0_cond2 (i : grid0.Coords) : BitVec 1 :=
  let arg2 : BitVec 32 := BitVec.ofNat 32 (i 2).val
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S1024x4096, .f32⟩
  | .hbm, ⟨7, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S8192x1536 : Shape := ⟨2, ![8192, 1536]⟩
abbrev S4x1024x384 : Shape := ⟨3, ![4, 1024, 384]⟩
abbrev S4096x1024 : Shape := ⟨2, ![4096, 1024]⟩
abbrev S4096x768 : Shape := ⟨2, ![4096, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S8192x1024, .bf16⟩
  | .hbm, ⟨3, _⟩ => ⟨S8192x1536, .bf16⟩
  | .hbm, ⟨4, _⟩ => ⟨S4x1024x384, .f32⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S2x1024x384, .f32⟩
  | .local _ .vmem, ⟨5, _⟩ => ⟨S2x1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v10 : BitVec 1 := Scalar.cmpi .eq arg2 c0_i32
  let v11 : BitVec 32 := Scalar.extui v10
  let c0_i32_3 : BitVec 32 := 0#32
  let v12 : BitVec 1 := Scalar.cmpi .ne v11 c0_i32_3
  v12

def k0_cond2 (i : grid0.Coords) : BitVec 1 :=
  let arg2 : BitVec 32 := BitVec.ofNat 32 (i 2).val
  let c0_i32_4 : BitVec 32 := 0#32
  let v13 : BitVec 1 := Scalar.cmpi .sgt arg2 c0_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | .hbm, ⟨7, _⟩ => ⟨S1024x4x384, .f32⟩
  | .hbm, ⟨8, _⟩ => ⟨S4x1024x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x512 : Shape := ⟨2, ![8192, 512]⟩
abbrev S8192x1024 : Shape := ⟨2, ![8192, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S32x8x128 : Shape := ⟨3, ![32, 8, 128]⟩
abbrev S32x1x1024 : Shape := ⟨3, ![32, 1, 1024]⟩
abbrev S256x512 : Shape := ⟨2, ![256, 512]⟩
abbrev S256x1024 : Shape := ⟨2, ![256, 1024]⟩
abbrev S256x4096 : Shape := ⟨2, ![256, 4096]⟩
abbrev S1x8x128 : Shape := ⟨3, ![1, 8, 128]⟩
abbrev S1x1x1024 : Shape := ⟨3, ![1, 1, 1024]⟩
abbrev S256 : Shape := ⟨1, ![256]⟩
abbrev S256x1 : Shape := ⟨2, ![256, 1]⟩
abbrev S1x1024x1024 : Shape := ⟨3, ![1, 1024, 1024]⟩
abbrev S1 : Shape := ⟨1, ![1]⟩
abbrev S1x1 : Shape := ⟨2, ![1, 1]⟩
abbrev S8x128 : Shape := ⟨2, ![8, 128]⟩
abbrev S1024 : Shape := ⟨1, ![1024]⟩

abbrev nBuf : Space → Nat
  | .hbm => 24
  | .vmem => 32
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x4096, .f32⟩
  | .hbm, ⟨9, _⟩ => ⟨S4096x1024, .f32⟩
  | .hbm, ⟨10, _⟩ => ⟨S1024x4x1024, .f32⟩
  | .hbm, ⟨11, _⟩ => ⟨S4x1024x1024, .f32⟩
  | .hbm, ⟨12, _⟩ => ⟨S1024x1024, .bf16⟩
  | .hbm, ⟨13, _⟩ => ⟨S4x1024x1024, .bf16⟩
  | .hbm, ⟨14, _⟩ => ⟨S4096x1024, .bf16⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x4096, .bf16⟩
  | .hbm, ⟨20, _⟩ => ⟨S8192x1024, .bf16⟩
  | .hbm, ⟨21, _⟩ => ⟨S8192x1024, .f32⟩
  | .hbm, ⟨22, _⟩ => ⟨S32x8x128, .f32⟩
  | .hbm, ⟨23, _⟩ => ⟨S32x1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S4x1024x1024, .bf16⟩
  | .local _ .vmem, ⟨10, _⟩ => ⟨S4096x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x4096, .bf16⟩
  | .local _ .vmem, ⟨23, _⟩ => ⟨S256x4096, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .f32⟩
  | .local _ .vmem, ⟨27, _⟩ => ⟨S256x1024, .f32⟩
  | .local _ .vmem, ⟨28, _⟩ => ⟨S1x8x128, .f32⟩
  | .local _ .vmem, ⟨29, _⟩ => ⟨S1x8x128, .f32⟩
  | .local _ .vmem, ⟨30, _⟩ => ⟨S1x1x1024, .f32⟩
  | .local _ .vmem, ⟨31, _⟩ => ⟨S1x1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference7Ideal.lean ====
abbrev S8192x512 : Shape := ⟨2, ![8192, 512]⟩
abbrev S8192x1024 : Shape := ⟨2, ![8192, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S32x1x1024 : Shape := ⟨3, ![32, 1, 1024]⟩
abbrev S32x256x1024 : Shape := ⟨3, ![32, 256, 1024]⟩
abbrev S32x256 : Shape := ⟨2, ![32, 256]⟩
abbrev S32 : Shape := ⟨1, ![32]⟩
abbrev S32x1024 : Shape := ⟨2, ![32, 1024]⟩
abbrev S32x1x1 : Shape := ⟨3, ![32, 1, 1]⟩
abbrev S32x8x128 : Shape := ⟨3, ![32, 8, 128]⟩

abbrev nBuf : Space → Nat
  | .hbm => 131
  | .vmem => 0
  | .smem => 0
  | _ => 0

abbrev hbmTy0_0 (i : Nat) : BufTy := match i % 128 with
  | 0 => ⟨S8192x512, .f32⟩
  | 1 => ⟨S8192x512, .f32⟩
  | 2 => ⟨S8192x1024, .f32⟩
  | 3 => ⟨S8192x1024, .f32⟩
  | 4 => ⟨S1x1024, .f32⟩
  | 5 => ⟨S1x1024, .f32⟩
  | 6 => ⟨S1x1024, .f32⟩
  | 7 => ⟨S1024x1024, .f32⟩
  | 8 => ⟨S1024x4096, .f32⟩
  | 9 => ⟨S4096x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1024, .f32⟩
  | 40 => ⟨S8192x1024, .f32⟩
  | 41 => ⟨S8192x1024, .f32⟩
  | 42 => ⟨S8192x1024, .f32⟩
  | 43 => ⟨S8192x4096, .f32⟩
  | 44 => ⟨S_, .f32⟩
  | 45 => ⟨S8192x4096, .f32⟩
  | 46 => ⟨S8192x4096, .f32⟩
  | 47 => ⟨S8192x4096, .f32⟩
  | 48 => ⟨S8192x1024, .f32⟩
  | 49 => ⟨S32x1x1024, .f32⟩
  | 50 => ⟨S32x256x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192, .f32⟩
  | 78 => ⟨S_, .f32⟩
  | 79 => ⟨S8192, .f32⟩
  | 80 => ⟨S8192, .f32⟩
  | 81 => ⟨S32x256, .f32⟩
  | 82 => ⟨S_, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S_, .f32⟩
  | 90 => ⟨S32, .f32⟩
  | 91 => ⟨S32, .f32⟩
  | 92 => ⟨S32x256, .f32⟩
  | 93 => ⟨S8192, .f32⟩
  | 94 => ⟨S_, .f32⟩
  | 95 => ⟨S8192, .f32⟩
  | 96 => ⟨S8192, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S8192x1024, .f32⟩
  | 106 => ⟨S8192x1024, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S32x256x1024, .f32⟩
  | 119 => ⟨S_, .f32⟩
  | 120 => ⟨S32x1024, .f32⟩
  | 121 => ⟨S32x1x1024, .f32⟩
  | 122 => ⟨S8192x1024, .bf16⟩
  | 123 => ⟨S8192x1024, .bf16⟩
  | 124 => ⟨S_, .f32⟩
  | 125 => ⟨S8192x4096, .f32⟩
  | 126 => ⟨S8192x4096, .f32⟩
  | 127 => ⟨S8192x4096, .bf16⟩
  | _ => ⟨S8192x512, .f32⟩

abbrev hbmTy0_1 (i : Nat) : BufTy := match i % 128 with
  | 0 => ⟨S8192x1024, .bf16⟩
  | 1 => ⟨S32x1x1, .f32⟩
  | 2 => ⟨S32x8x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_18 : Ref sig .tc := ⟨.hbm, 108, rfl⟩
abbrev main_v77 : Ref sig .tc := ⟨.hbm, 109, rfl⟩
abbrev main_v78 : Ref sig .tc := ⟨.hbm, 110, rfl⟩
abbrev main_cst_19 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_20 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call1_cst : Ref sig .tc := ⟨.hbm, 124, rfl⟩
abbrev main_call1_v0 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]
-- ==== Proof.AttnBwd.Model.lean ====
/-
  The gradient of the attention as formulas over the elements of its four arguments: the queries, the keys, the values
  and the gradient of the output. Two forms: the one the kernel computes and the one the derivative of the forward pass
  computes.
-/
module

public import Idealize.ShloMosaic.Lib.Pointwise

@[expose] public section

noncomputable section

namespace Cert.AttnBwd

open Idealize.ShloMosaic

/-- The shapes of the queries and of the keys: 8192 tokens, 512 and 128 lanes. -/
abbrev SQ : Shape := ⟨2, ![8192, 512]⟩
abbrev SK : Shape := ⟨2, ![8192, 128]⟩

/-- Token `s` of sequence `b`. -/
abbrev tok (b : Fin 2) (s : Fin 4096) : Fin 8192 := ⟨b.val * 4096 + s.val, by omega⟩

/-- Lane `d` of query head `g` of key head `kv`. -/
abbrev qlane (kv : Fin 2) (g : Fin 4) (d : Fin 64) : Fin 512 := ⟨kv.val * 256 + g.val * 64 + d.val, by omega⟩

/-- Lane `d` of key head `kv`. -/
abbrev vlane (kv : Fin 2) (d : Fin 64) : Fin 128 := ⟨kv.val * 64 + d.val, by omega⟩

variable (q : SQ.Idx → EReal) (k v : SK.Idx → EReal) (o : SQ.Idx → EReal)

/-- The score of query `s` against key `t`. -/
def score (b kv : Fin 2) (g : Fin 4) (s t : Fin 4096) : EReal :=
  ∑ d : Fin 64, q (ix2 (tok b s) (qlane kv g d)) * k (ix2 (tok b t) (vlane kv d))

/-- The largest score of query `s`. -/
def top (b kv : Fin 2) (g : Fin 4) (s : Fin 4096) : EReal :=
  Finset.univ.fold max (Ideal.ofBits .f32 0xFF800000#32) fun t => score q k b kv g s t

/-- The exponential of the score less the largest. -/
def wt (b kv : Fin 2) (g : Fin 4) (s t : Fin 4096) : EReal := Ideal.exp (score q k b kv g s t - top q k b kv g s)

/-- A query's sum of exponentials. -/
def tot (b kv : Fin 2) (g : Fin 4) (s : Fin 4096) : EReal := ∑ t : Fin 4096, wt q k b kv g s t

/-- The output of the forward pass, as the kernel is given it: the unscaled sum times the reciprocal of the total. -/
def out (b kv : Fin 2) (g : Fin 4) (s : Fin 4096) (d : Fin 64) : EReal :=
  (∑ t : Fin 4096, wt q k b kv g s t * v (ix2 (tok b t) (vlane kv d))) * Ideal.div 1 (tot q k b kv g s)

/-- The kernel's gradient of the scores. -/
def dsK (b kv : Fin 2) (g : Fin 4) (s t : Fin 4096) : EReal :=
  wt q k b kv g s t
    * ((∑ d : Fin 64, o (ix2 (tok b s) (qlane kv g d)) * Ideal.div 1 (tot q k b kv g s) * v (ix2 (tok b t) (vlane kv d)))
      - (∑ d : Fin 64, o (ix2 (tok b s) (qlane kv g d)) * out q k v b kv g s d) * Ideal.div 1 (tot q k b kv g s))

/-- The gradient of the weight of key `t` for query `s`. -/
def dP (b kv : Fin 2) (g : Fin 4) (s t : Fin 4096) : EReal :=
  ∑ d : Fin 64, o (ix2 (tok b s) (qlane kv g d)) * v (ix2 (tok b t) (vlane kv d))

/-- The derivative's gradient of the scores. -/
def dsR (b kv : Fin 2) (g : Fin 4) (s t : Fin 4096) : EReal :=
  (Ideal.div (dP v o b kv g s t) (tot q k b kv g s)
    + -(∑ u : Fin 4096, dP v o b kv g s u * Ideal.div 1 (tot q k b kv g s * tot q k b kv g s) * wt q k b kv g s u))
    * wt q k b kv g s t

/-- The gradient of the queries, from a gradient of the scores. -/
def dq (ds : Fin 2 → Fin 2 → Fin 4 → Fin 4096 → Fin 4096 → EReal) (b kv : Fin 2) (g : Fin 4) (s : Fin 4096) (d : Fin 64) : EReal :=
  ∑ t : Fin 4096, ds b kv g s t * k (ix2 (tok b t) (vlane kv d))

end Cert.AttnBwd

end
-- ==== Proof.AttnBwd.Host.lean ====
/-
  What the arrays that the kernel's host code prepares hold, at an index, as formulas over the elements of the arguments.
-/
module

public import proofs.«01_k».proof.Proof.Gen.KernelIdeal.Value
public import proofs.«01_k».proof.Proof.AttnBwd.Model
public import Idealize.ShloMosaic.Lib.StableHlo.ReadAt

@[expose] public section

set_option maxRecDepth 16384

noncomputable section

namespace Cert.KernelIdeal.AttnBwd

open Idealize.ShloMosaic Idealize.ShloMosaic.TcCoe Idealize.ShloMosaic.Tactic
open Cert.KernelIdeal Cert.KernelIdeal.Gen Cert.AttnBwd

variable (m : (ℓ : Loc nD τ sig) → Buf (Elt Ideal) ℓ)

/-- The four arguments on device `c`. -/
abbrev argQ (c : Dev nD) : SQ.Idx → EReal := m (c, Proc.tc.devRef main_arg0)
abbrev argK (c : Dev nD) : SK.Idx → EReal := m (c, Proc.tc.devRef main_arg1)
abbrev argV (c : Dev nD) : SK.Idx → EReal := m (c, Proc.tc.devRef main_arg2)
abbrev argO (c : Dev nD) : SQ.Idx → EReal := m (c, Proc.tc.devRef main_arg3)

/-- A token's number, split into its sequence and its place there and put together again. -/
theorem tok_split (b : Fin 2) (s : Fin 4096)
    (h : (b.val * 4096 + s.val) / 4096 * 4096 + (b.val * 4096 + s.val) % 4096 < 8192) :
    (⟨(b.val * 4096 + s.val) / 4096 * 4096 + (b.val * 4096 + s.val) % 4096, h⟩ : Fin 8192) = tok b s := by
  apply Fin.ext
  simp only [tok]
  omega

/-- Another token of the same sequence. -/
theorem tok_same (b : Fin 2) (s u : Fin 4096) (h : (b.val * 4096 + s.val) / 4096 * 4096 + u.val < 8192) :
    (⟨(b.val * 4096 + s.val) / 4096 * 4096 + u.val, h⟩ : Fin 8192) = tok b u := by
  apply Fin.ext
  simp only [tok]
  omega

/-- A query lane's number, split into key head, head and place and put together again. -/
theorem qlane_split (kv : Fin 2) (g : Fin 4) (d e : Fin 64)
    (h : (kv.val * 256 + g.val * 64 + d.val) / 256 * 256 + (kv.val * 256 + g.val * 64 + d.val) / 64 % 4 * 64 + e.val < 512) :
    (⟨(kv.val * 256 + g.val * 64 + d.val) / 256 * 256 + (kv.val * 256 + g.val * 64 + d.val) / 64 % 4 * 64 + e.val, h⟩ : Fin 512)
      = qlane kv g e := by
  apply Fin.ext
  simp only [qlane]
  omega

/-- The key lane of another place in a query lane's key head. -/
theorem vlane_same (kv : Fin 2) (g : Fin 4) (d e : Fin 64)
    (h : (kv.val * 256 + g.val * 64 + d.val) / 256 * 64 + e.val < 128) :
    (⟨(kv.val * 256 + g.val * 64 + d.val) / 256 * 64 + e.val, h⟩ : Fin 128) = vlane kv e := by
  apply Fin.ext
  simp only [vlane]
  omega

/-- The key lane of a query lane's own place. -/
theorem vlane_split (kv : Fin 2) (g : Fin 4) (d : Fin 64)
    (h : (kv.val * 256 + g.val * 64 + d.val) / 256 * 64 + (kv.val * 256 + g.val * 64 + d.val) % 64 < 128) :
    (⟨(kv.val * 256 + g.val * 64 + d.val) / 256 * 64 + (kv.val * 256 + g.val * 64 + d.val) % 64, h⟩ : Fin 128) = vlane kv d := by
  apply Fin.ext
  simp only [vlane]
  omega

/-- The exponentials, one plane per query head. -/
theorem host_wt (c : Dev nD) (b kv : Fin 2) (g : Fin 4) (s t : Fin 4096) :
    (V m c main_v21 : S2x4x8192x4096.Idx → EReal) (ix4 kv g (tok b s) t) = wt (argQ m c) (argK m c) b kv g s t := by
  unfold V
  after_reads_at
  simp only [tok_split, tok_same, wt, top, score]

/-- The reciprocals of the rows' sums. -/
theorem host_linv (c : Dev nD) (b kv : Fin 2) (g : Fin 4) (s : Fin 4096) :
    (V m c main_v23 : S2x8192x4.Idx → EReal) (ix3 kv (tok b s) g) = Ideal.div 1 (tot (argQ m c) (argK m c) b kv g s) := by
  unfold V
  after_reads_at
  simp only [tok_split, tok_same, tot, wt, top, score]

/-- The forward pass's output. -/
theorem host_out (c : Dev nD) (b kv : Fin 2) (g : Fin 4) (s : Fin 4096) (d : Fin 64) :
    (V m c main_v25 : S8192x512.Idx → EReal) (ix2 (tok b s) (qlane kv g d))
      = out (argQ m c) (argK m c) (argV m c) b kv g s d := by
  unfold V
  after_reads_at
  simp only [tok_split, tok_same, qlane_split, vlane_same, vlane_split, out, tot, wt, top, score]

/-- The values, lanes before tokens. -/
theorem host_vt (c : Dev nD) (b kv : Fin 2) (s : Fin 4096) (d : Fin 64) :
    (V m c main_v28 : S2x128x4096.Idx → EReal) (ix3 b (vlane kv d) s) = argV m c (ix2 (tok b s) (vlane kv d)) := by
  unfold V
  after_reads_at

/-- The queries and the keys, cast. -/
theorem host_q (c : Dev nD) (r : Fin 8192) (j : Fin 512) :
    (V m c main_v29 : S8192x512.Idx → EReal) (ix2 r j) = argQ m c (ix2 r j) := by
  unfold V
  after_reads_at

theorem host_k (c : Dev nD) (r : Fin 8192) (j : Fin 128) :
    (V m c main_v30 : S8192x128.Idx → EReal) (ix2 r j) = argK m c (ix2 r j) := by
  unfold V
  after_reads_at

end Cert.KernelIdeal.AttnBwd

end
-- ==== Proof.AttnBwd.Block.lean ====
/-
  What one grid point of the attention's backward kernel computes, over the extended reals: the three blocks it leaves
  in the outputs' buffers, as sums of products of the input blocks' elements.
-/
module

public import proofs.«01_k».proof.Proof.Gen.KernelIdeal.Value
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.KernelIdeal.AttnBwd

open Idealize.ShloMosaic Idealize.ShloMosaic.TcCoe Idealize.ShloMosaic.Tactic
open Cert.KernelIdeal Cert.KernelIdeal.Gen

/-- Lane `d` of head `g` among the four heads of 64 lanes that a block of the query side holds. -/
abbrev lane (g : Fin 4) (d : Fin 64) : Fin 256 := ⟨64 * g.val + d.val, by omega⟩

theorem lane_zero (d : Fin 64) : lane 0 d = ⟨d.val, by omega⟩ := by simp [lane]
theorem lane_one (d : Fin 64) : lane 1 d = ⟨64 + d.val, by omega⟩ := rfl
theorem lane_two (d : Fin 64) : lane 2 d = ⟨128 + d.val, by omega⟩ := rfl
theorem lane_three (d : Fin 64) : lane 3 d = ⟨192 + d.val, by omega⟩ := rfl

/-- The gradient of the scores at query row `r` and key `s` of head `g`, from the blocks of the output's gradient, the
    output, the values, the exponentials and the rows' reciprocal sums:
    `p (∑_d (do_d / l) v_d - (∑_d do_d o_d) / l)`. -/
def ds (dout out : S256x256.Idx → EReal) (vt : S1x64x4096.Idx → EReal) (p : S1x4x256x4096.Idx → EReal)
    (linv : S1x256x4.Idx → EReal) (g : Fin 4) (r : Fin 256) (s : Fin 4096) : EReal :=
  p (ix4 0 g r s) * ((∑ d : Fin 64, dout (ix2 r (lane g d)) * linv (ix3 0 r g) * vt (ix3 0 d s))
    - (∑ d : Fin 64, dout (ix2 r (lane g d)) * out (ix2 r (lane g d))) * linv (ix3 0 r g))

/-- A point's part of the keys' gradient at lane `d` and key `s`: the sum over the heads and query rows of the query
    times the scores' gradient. -/
def dkPart (q dout out : S256x256.Idx → EReal) (vt : S1x64x4096.Idx → EReal) (p : S1x4x256x4096.Idx → EReal)
    (linv : S1x256x4.Idx → EReal) (d : Fin 64) (s : Fin 4096) : EReal :=
  ∑ g : Fin 4, ∑ r : Fin 256, q (ix2 r (lane g d)) * ds dout out vt p linv g r s

/-- A point's part of the values' gradient at lane `d` and key `s`: the sum over the heads and query rows of the
    output's gradient times the weight `p / l`. -/
def dvPart (dout : S256x256.Idx → EReal) (p : S1x4x256x4096.Idx → EReal) (linv : S1x256x4.Idx → EReal)
    (d : Fin 64) (s : Fin 4096) : EReal :=
  ∑ g : Fin 4, ∑ r : Fin 256, dout (ix2 r (lane g d)) * linv (ix3 0 r g) * p (ix4 0 g r s)

/-- Lane `d` of key head `kv` among the two key heads of 64 lanes. -/
def klane (kv : ℕ) (d : Fin 64) : Fin 128 := if kv = 0 then ⟨d.val, by omega⟩ else ⟨64 + d.val, by omega⟩

/-- The queries' gradient at row `r` and lane `d` of head `g`, of key head `kv`: the sum over the keys of the scores'
    gradient times the key. -/
def dqSel (kv : ℕ) (k : S4096x128.Idx → EReal) (dout out : S256x256.Idx → EReal) (vt : S1x64x4096.Idx → EReal)
    (p : S1x4x256x4096.Idx → EReal) (linv : S1x256x4.Idx → EReal) (g : Fin 4) (r : Fin 256) (d : Fin 64) : EReal :=
  ∑ s : Fin 4096, ds dout out vt p linv g r s * k (ix2 s (klane kv d))

/-- A sum over the 4096 keys is the sum over the first half plus the sum over the second. -/
theorem sum_keys (f : Fin 4096 → EReal) :
    ∑ s : Fin 4096, f s = (∑ x : Fin 2048, f ⟨x.val, by omega⟩) + ∑ x : Fin 2048, f ⟨2048 + x.val, by omega⟩ :=
  Fin.sum_univ_two_halves 2048 2048 rfl f

/-- In the second half of the keys, the index that a tile's local index names. -/
theorem emb_hi (d : Fin 64) (x : Fin 2048) (s : Fin 4096) (hs : s.val = 2048 + x.val) : (ix3 0 d s : S1x64x4096.Idx)
    = (Rect.unit ![0, 0, 2048] ![1, 64, 2048] inb_S1x64x4096_S1x64x2048_0_0_2048).emb (ix3 0 d x) := by
  funext a; apply Fin.ext
  change _ = ((Rect.unit ![0, 0, 2048] ![1, 64, 2048] inb_S1x64x4096_S1x64x2048_0_0_2048).idx (ix3 0 d x) a : ℕ)
  rw [Rect.idx_unit_val]
  fin_cases a <;> simp [ix3, hs]

/-- In the first half. -/
theorem emb_lo (d : Fin 64) (x : Fin 2048) (s : Fin 4096) (hs : s.val = x.val) : (ix3 0 d s : S1x64x4096.Idx)
    = (Rect.unit ![0, 0, 0] ![1, 64, 2048] inb_S1x64x4096_S1x64x2048_0_0_0).emb (ix3 0 d x) := by
  funext a; apply Fin.ext
  change _ = ((Rect.unit ![0, 0, 0] ![1, 64, 2048] inb_S1x64x4096_S1x64x2048_0_0_0).idx (ix3 0 d x) a : ℕ)
  rw [Rect.idx_unit_val]
  fin_cases a <;> simp [ix3, hs]

/-- A store over the second half leaves the first half as it was. -/
theorem canon_skip (v : S1x64x2048.Idx → EReal) (L : List (View.Piece (Elt Ideal) S1x64x4096 .f32)) (d : Fin 64) (s : Fin 4096)
    (hs : s.val < 2048) :
    View.canon (⟨Rect.unit ![0, 0, 2048] ![1, 64, 2048] inb_S1x64x4096_S1x64x2048_0_0_2048, v⟩ :: L) (ix3 0 d s)
      = View.canon L (ix3 0 d s) := by
  apply View.canon_cons_of_not_mem
  change ix3 0 d s ∉ (Rect.unit (s := S1x64x4096) ![0, 0, 2048] ![1, 64, 2048] inb_S1x64x4096_S1x64x2048_0_0_2048).set
  rw [Rect.mem_set_unit]
  intro h
  have h2 : 2048 ≤ s.val := (h 2).1
  omega

/-- In the second half of the keys the buffer holds what the last store over that half wrote. -/
theorem canon_hi (w : S1x64x2048.Idx → EReal) (L : List (View.Piece (Elt Ideal) S1x64x4096 .f32)) (d : Fin 64) (x : Fin 2048) (s : Fin 4096)
    (hs : s.val = 2048 + x.val) : View.canon (⟨Rect.unit ![0, 0, 2048] ![1, 64, 2048] inb_S1x64x4096_S1x64x2048_0_0_2048, w⟩ :: L)
      (ix3 0 d s) = w (ix3 0 d x) := by
  rw [emb_hi d x s hs, View.canon_cons_emb]

/-- In the first half it holds what the last store over that half wrote, before the last over the second half. -/
theorem canon_lo (v w : S1x64x2048.Idx → EReal) (L : List (View.Piece (Elt Ideal) S1x64x4096 .f32)) (d : Fin 64)
    (x : Fin 2048) (s : Fin 4096) (hs : s.val = x.val) :
    View.canon (⟨Rect.unit ![0, 0, 2048] ![1, 64, 2048] inb_S1x64x4096_S1x64x2048_0_0_2048, v⟩
      :: ⟨Rect.unit ![0, 0, 0] ![1, 64, 2048] inb_S1x64x4096_S1x64x2048_0_0_0, w⟩ :: L) (ix3 0 d s) = w (ix3 0 d x) := by
  have h : s.val < 2048 := by omega
  rw [canon_skip _ _ d s h, emb_lo d x s hs, View.canon_cons_emb]

variable (m : (ℓ : Loc nD τ sig) → Buf (Elt Ideal) ℓ)

set_option maxHeartbeats 400000 in
/-- At a first query block the keys' gradient buffer ends with this point alone's part (first half of the keys). -/
theorem out8_A_lo (c : Dev nD) (t : Fin cfg0.N) (h0 : t.val % 16 = 0) (d : Fin 64) (x : Fin 2048) (s : Fin 4096) (hs : s.val = x.val) :
    (outsAt0 m c t.val t.isLt).2.1 (ix3 0 d s) = dkPart (iblk m c 0 t) (iblk m c 3 t) (iblk m c 4 t) (iblk m c 2 t) (iblk m c 5 t) (iblk m c 6 t) d s := by
  generalize hX : dkPart (iblk m c 0 t) (iblk m c 3 t) (iblk m c 4 t) (iblk m c 2 t) (iblk m c 5 t) (iblk m c 6 t) d s = X
  rw [outsAt0_A m c t h0]
  dsimp only
  unfold out0_A_8
  rw [View.read_writes_eq_canon _ _ _ (fun y => cover0_A_8 _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_lo _ _ _ d x s hs).trans ?_
  unfold_payloads
  pointwise
  have e : ∀ h, (⟨x.val, h⟩ : Fin 4096) = s := fun _ => Fin.ext hs.symm
  rw [← hX]
  simp only [e, dkPart, ds, Fin.sum_univ_four, lane_zero, lane_one, lane_two, lane_three, Ideal.ofBits_zero_f32, zero_add, ← add_assoc]

set_option maxHeartbeats 400000 in
/-- At a first query block the keys' gradient buffer ends with this point alone's part (second half of the keys). -/
theorem out8_A_hi (c : Dev nD) (t : Fin cfg0.N) (h0 : t.val % 16 = 0) (d : Fin 64) (x : Fin 2048) (s : Fin 4096) (hs : s.val = 2048 + x.val) :
    (outsAt0 m c t.val t.isLt).2.1 (ix3 0 d s) = dkPart (iblk m c 0 t) (iblk m c 3 t) (iblk m c 4 t) (iblk m c 2 t) (iblk m c 5 t) (iblk m c 6 t) d s := by
  generalize hX : dkPart (iblk m c 0 t) (iblk m c 3 t) (iblk m c 4 t) (iblk m c 2 t) (iblk m c 5 t) (iblk m c 6 t) d s = X
  rw [outsAt0_A m c t h0]
  dsimp only
  unfold out0_A_8
  rw [View.read_writes_eq_canon _ _ _ (fun y => cover0_A_8 _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_hi _ _ d x s hs).trans ?_
  unfold_payloads
  pointwise
  have e : ∀ h, (⟨2048 + x.val, h⟩ : Fin 4096) = s := fun _ => Fin.ext hs.symm
  rw [← hX]
  simp only [e, dkPart, ds, Fin.sum_univ_four, lane_zero, lane_one, lane_two, lane_three, Ideal.ofBits_zero_f32, zero_add, ← add_assoc]

set_option maxHeartbeats 400000 in
/-- At a later query block the keys' gradient buffer ends with what it held plus this point's part (first half of the keys). -/
theorem out8_B_lo (c : Dev nD) (t : Fin cfg0.N) (h0 : ¬ t.val % 16 = 0) (d : Fin 64) (x : Fin 2048) (s : Fin 4096) (hs : s.val = x.val) :
    (outsAt0 m c t.val t.isLt).2.1 (ix3 0 d s) = (outsAt0 m c (t.val - 1) (Nat.lt_of_le_of_lt (Nat.sub_le _ _) t.isLt)).2.1 (ix3 0 d s) + dkPart (iblk m c 0 t) (iblk m c 3 t) (iblk m c 4 t) (iblk m c 2 t) (iblk m c 5 t) (iblk m c 6 t) d s := by
  generalize hX : (outsAt0 m c (t.val - 1) (Nat.lt_of_le_of_lt (Nat.sub_le _ _) t.isLt)).2.1 (ix3 0 d s) + dkPart (iblk m c 0 t) (iblk m c 3 t) (iblk m c 4 t) (iblk m c 2 t) (iblk m c 5 t) (iblk m c 6 t) d s = X
  rw [outsAt0_B m c t h0]
  dsimp only
  unfold out0_B_8
  rw [View.read_writes_eq_canon _ _ _ (fun y => cover0_B_8 _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_lo _ _ _ d x s hs).trans ?_
  unfold_payloads
  pointwise
  have e : ∀ h, (⟨x.val, h⟩ : Fin 4096) = s := fun _ => Fin.ext hs.symm
  rw [← hX]
  simp only [e, dkPart, ds, Fin.sum_univ_four, lane_zero, lane_one, lane_two, lane_three, ← add_assoc]

set_option maxHeartbeats 400000 in
/-- At a later query block the keys' gradient buffer ends with what it held plus this point's part (second half of the keys). -/
theorem out8_B_hi (c : Dev nD) (t : Fin cfg0.N) (h0 : ¬ t.val % 16 = 0) (d : Fin 64) (x : Fin 2048) (s : Fin 4096) (hs : s.val = 2048 + x.val) :
    (outsAt0 m c t.val t.isLt).2.1 (ix3 0 d s) = (outsAt0 m c (t.val - 1) (Nat.lt_of_le_of_lt (Nat.sub_le _ _) t.isLt)).2.1 (ix3 0 d s) + dkPart (iblk m c 0 t) (iblk m c 3 t) (iblk m c 4 t) (iblk m c 2 t) (iblk m c 5 t) (iblk m c 6 t) d s := by
  generalize hX : (outsAt0 m c (t.val - 1) (Nat.lt_of_le_of_lt (Nat.sub_le _ _) t.isLt)).2.1 (ix3 0 d s) + dkPart (iblk m c 0 t) (iblk m c 3 t) (iblk m c 4 t) (iblk m c 2 t) (iblk m c 5 t) (iblk m c 6 t) d s = X
  rw [outsAt0_B m c t h0]
  dsimp only
  unfold out0_B_8
  rw [View.read_writes_eq_canon _ _ _ (fun y => cover0_B_8 _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_hi _ _ d x s hs).trans ?_
  unfold_payloads
  pointwise
  have e : ∀ h, (⟨2048 + x.val, h⟩ : Fin 4096) = s := fun _ => Fin.ext hs.symm
  rw [← hX]
  simp only [e, dkPart, ds, Fin.sum_univ_four, lane_zero, lane_one, lane_two, lane_three, ← add_assoc]

set_option maxHeartbeats 400000 in
/-- At a first query block the values' gradient buffer ends with this point alone's part (first half of the keys). -/
theorem out9_A_lo (c : Dev nD) (t : Fin cfg0.N) (h0 : t.val % 16 = 0) (d : Fin 64) (x : Fin 2048) (s : Fin 4096) (hs : s.val = x.val) :
    (outsAt0 m c t.val t.isLt).2.2 (ix3 0 d s) = dvPart (iblk m c 3 t) (iblk m c 5 t) (iblk m c 6 t) d s := by
  generalize hX : dvPart (iblk m c 3 t) (iblk m c 5 t) (iblk m c 6 t) d s = X
  rw [outsAt0_A m c t h0]
  dsimp only
  unfold out0_A_9
  rw [View.read_writes_eq_canon _ _ _ (fun y => cover0_A_9 _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_lo _ _ _ d x s hs).trans ?_
  unfold_payloads
  pointwise
  have e : ∀ h, (⟨x.val, h⟩ : Fin 4096) = s := fun _ => Fin.ext hs.symm
  rw [← hX]
  simp only [e, dvPart, ds, Fin.sum_univ_four, lane_zero, lane_one, lane_two, lane_three, Ideal.ofBits_zero_f32, zero_add, ← add_assoc]

set_option maxHeartbeats 400000 in
/-- At a first query block the values' gradient buffer ends with this point alone's part (second half of the keys). -/
theorem out9_A_hi (c : Dev nD) (t : Fin cfg0.N) (h0 : t.val % 16 = 0) (d : Fin 64) (x : Fin 2048) (s : Fin 4096) (hs : s.val = 2048 + x.val) :
    (outsAt0 m c t.val t.isLt).2.2 (ix3 0 d s) = dvPart (iblk m c 3 t) (iblk m c 5 t) (iblk m c 6 t) d s := by
  generalize hX : dvPart (iblk m c 3 t) (iblk m c 5 t) (iblk m c 6 t) d s = X
  rw [outsAt0_A m c t h0]
  dsimp only
  unfold out0_A_9
  rw [View.read_writes_eq_canon _ _ _ (fun y => cover0_A_9 _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_hi _ _ d x s hs).trans ?_
  unfold_payloads
  pointwise
  have e : ∀ h, (⟨2048 + x.val, h⟩ : Fin 4096) = s := fun _ => Fin.ext hs.symm
  rw [← hX]
  simp only [e, dvPart, ds, Fin.sum_univ_four, lane_zero, lane_one, lane_two, lane_three, Ideal.ofBits_zero_f32, zero_add, ← add_assoc]

set_option maxHeartbeats 400000 in
/-- At a later query block the values' gradient buffer ends with what it held plus this point's part (first half of the keys). -/
theorem out9_B_lo (c : Dev nD) (t : Fin cfg0.N) (h0 : ¬ t.val % 16 = 0) (d : Fin 64) (x : Fin 2048) (s : Fin 4096) (hs : s.val = x.val) :
    (outsAt0 m c t.val t.isLt).2.2 (ix3 0 d s) = (outsAt0 m c (t.val - 1) (Nat.lt_of_le_of_lt (Nat.sub_le _ _) t.isLt)).2.2 (ix3 0 d s) + dvPart (iblk m c 3 t) (iblk m c 5 t) (iblk m c 6 t) d s := by
  generalize hX : (outsAt0 m c (t.val - 1) (Nat.lt_of_le_of_lt (Nat.sub_le _ _) t.isLt)).2.2 (ix3 0 d s) + dvPart (iblk m c 3 t) (iblk m c 5 t) (iblk m c 6 t) d s = X
  rw [outsAt0_B m c t h0]
  dsimp only
  unfold out0_B_9
  rw [View.read_writes_eq_canon _ _ _ (fun y => cover0_B_9 _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_lo _ _ _ d x s hs).trans ?_
  unfold_payloads
  pointwise
  have e : ∀ h, (⟨x.val, h⟩ : Fin 4096) = s := fun _ => Fin.ext hs.symm
  rw [← hX]
  simp only [e, dvPart, ds, Fin.sum_univ_four, lane_zero, lane_one, lane_two, lane_three, ← add_assoc]

set_option maxHeartbeats 400000 in
/-- At a later query block the values' gradient buffer ends with what it held plus this point's part (second half of the keys). -/
theorem out9_B_hi (c : Dev nD) (t : Fin cfg0.N) (h0 : ¬ t.val % 16 = 0) (d : Fin 64) (x : Fin 2048) (s : Fin 4096) (hs : s.val = 2048 + x.val) :
    (outsAt0 m c t.val t.isLt).2.2 (ix3 0 d s) = (outsAt0 m c (t.val - 1) (Nat.lt_of_le_of_lt (Nat.sub_le _ _) t.isLt)).2.2 (ix3 0 d s) + dvPart (iblk m c 3 t) (iblk m c 5 t) (iblk m c 6 t) d s := by
  generalize hX : (outsAt0 m c (t.val - 1) (Nat.lt_of_le_of_lt (Nat.sub_le _ _) t.isLt)).2.2 (ix3 0 d s) + dvPart (iblk m c 3 t) (iblk m c 5 t) (iblk m c 6 t) d s = X
  rw [outsAt0_B m c t h0]
  dsimp only
  unfold out0_B_9
  rw [View.read_writes_eq_canon _ _ _ (fun y => cover0_B_9 _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_hi _ _ d x s hs).trans ?_
  unfold_payloads
  pointwise
  have e : ∀ h, (⟨2048 + x.val, h⟩ : Fin 4096) = s := fun _ => Fin.ext hs.symm
  rw [← hX]
  simp only [e, dvPart, ds, Fin.sum_univ_four, lane_zero, lane_one, lane_two, lane_three, ← add_assoc]

/-- A store over the columns from 192 on leaves the columns before as they were. -/
theorem canon_col_skip192 (v : S256x64.Idx → EReal) (L : List (View.Piece (Elt Ideal) S256x256 .f32)) (r j : Fin 256)
    (hj : j.val < 192) :
    View.canon (⟨Rect.unit ![0, 192] ![256, 64] inb_S256x256_S256x64_0_192, v⟩ :: L) (ix2 r j) = View.canon L (ix2 r j) := by
  apply View.canon_cons_of_not_mem
  change ix2 r j ∉ (Rect.unit (s := S256x256) ![0, 192] ![256, 64] inb_S256x256_S256x64_0_192).set
  rw [Rect.mem_set_unit]
  intro h
  have h2 : 192 ≤ j.val := (h 1).1
  omega

/-- Under a store over the 64 columns from 192 on, those columns hold what it wrote. -/
theorem canon_col192 (v : S256x64.Idx → EReal) (L : List (View.Piece (Elt Ideal) S256x256 .f32)) (r : Fin 256) (d : Fin 64) :
    View.canon (⟨Rect.unit ![0, 192] ![256, 64] inb_S256x256_S256x64_0_192, v⟩ :: L) (ix2 r (lane 3 d)) = v (ix2 r d) := by
  rw [show (ix2 r (lane 3 d) : S256x256.Idx) = (Rect.unit ![0, 192] ![256, 64] inb_S256x256_S256x64_0_192).emb (ix2 r d) from by
    funext a; apply Fin.ext
    change _ = ((Rect.unit ![0, 192] ![256, 64] inb_S256x256_S256x64_0_192).idx (ix2 r d) a : ℕ)
    rw [Rect.idx_unit_val]
    fin_cases a <;> simp [ix2, lane], View.canon_cons_emb]

/-- A store over the columns from 128 on leaves the columns before as they were. -/
theorem canon_col_skip128 (v : S256x64.Idx → EReal) (L : List (View.Piece (Elt Ideal) S256x256 .f32)) (r j : Fin 256)
    (hj : j.val < 128) :
    View.canon (⟨Rect.unit ![0, 128] ![256, 64] inb_S256x256_S256x64_0_128, v⟩ :: L) (ix2 r j) = View.canon L (ix2 r j) := by
  apply View.canon_cons_of_not_mem
  change ix2 r j ∉ (Rect.unit (s := S256x256) ![0, 128] ![256, 64] inb_S256x256_S256x64_0_128).set
  rw [Rect.mem_set_unit]
  intro h
  have h2 : 128 ≤ j.val := (h 1).1
  omega

/-- Under a store over the 64 columns from 128 on, those columns hold what it wrote. -/
theorem canon_col128 (v : S256x64.Idx → EReal) (L : List (View.Piece (Elt Ideal) S256x256 .f32)) (r : Fin 256) (d : Fin 64) :
    View.canon (⟨Rect.unit ![0, 128] ![256, 64] inb_S256x256_S256x64_0_128, v⟩ :: L) (ix2 r (lane 2 d)) = v (ix2 r d) := by
  rw [show (ix2 r (lane 2 d) : S256x256.Idx) = (Rect.unit ![0, 128] ![256, 64] inb_S256x256_S256x64_0_128).emb (ix2 r d) from by
    funext a; apply Fin.ext
    change _ = ((Rect.unit ![0, 128] ![256, 64] inb_S256x256_S256x64_0_128).idx (ix2 r d) a : ℕ)
    rw [Rect.idx_unit_val]
    fin_cases a <;> simp [ix2, lane], View.canon_cons_emb]

/-- A store over the columns from 64 on leaves the columns before as they were. -/
theorem canon_col_skip64 (v : S256x64.Idx → EReal) (L : List (View.Piece (Elt Ideal) S256x256 .f32)) (r j : Fin 256)
    (hj : j.val < 64) :
    View.canon (⟨Rect.unit ![0, 64] ![256, 64] inb_S256x256_S256x64_0_64, v⟩ :: L) (ix2 r j) = View.canon L (ix2 r j) := by
  apply View.canon_cons_of_not_mem
  change ix2 r j ∉ (Rect.unit (s := S256x256) ![0, 64] ![256, 64] inb_S256x256_S256x64_0_64).set
  rw [Rect.mem_set_unit]
  intro h
  have h2 : 64 ≤ j.val := (h 1).1
  omega

/-- Under a store over the 64 columns from 64 on, those columns hold what it wrote. -/
theorem canon_col64 (v : S256x64.Idx → EReal) (L : List (View.Piece (Elt Ideal) S256x256 .f32)) (r : Fin 256) (d : Fin 64) :
    View.canon (⟨Rect.unit ![0, 64] ![256, 64] inb_S256x256_S256x64_0_64, v⟩ :: L) (ix2 r (lane 1 d)) = v (ix2 r d) := by
  rw [show (ix2 r (lane 1 d) : S256x256.Idx) = (Rect.unit ![0, 64] ![256, 64] inb_S256x256_S256x64_0_64).emb (ix2 r d) from by
    funext a; apply Fin.ext
    change _ = ((Rect.unit ![0, 64] ![256, 64] inb_S256x256_S256x64_0_64).idx (ix2 r d) a : ℕ)
    rw [Rect.idx_unit_val]
    fin_cases a <;> simp [ix2, lane], View.canon_cons_emb]

/-- Under a store over the 64 columns from 0 on, those columns hold what it wrote. -/
theorem canon_col0 (v : S256x64.Idx → EReal) (L : List (View.Piece (Elt Ideal) S256x256 .f32)) (r : Fin 256) (d : Fin 64) :
    View.canon (⟨Rect.unit ![0, 0] ![256, 64] inb_S256x256_S256x64_0_0, v⟩ :: L) (ix2 r (lane 0 d)) = v (ix2 r d) := by
  rw [show (ix2 r (lane 0 d) : S256x256.Idx) = (Rect.unit ![0, 0] ![256, 64] inb_S256x256_S256x64_0_0).emb (ix2 r d) from by
    funext a; apply Fin.ext
    change _ = ((Rect.unit ![0, 0] ![256, 64] inb_S256x256_S256x64_0_0).idx (ix2 r d) a : ℕ)
    rw [Rect.idx_unit_val]
    fin_cases a <;> simp [ix2, lane], View.canon_cons_emb]

/-- The word compare of a grid coordinate with zero selects the first value at coordinate 0 … -/
theorem select_zero (a b : EReal) : Scalar.select (Scalar.cmpi .eq (BitVec.ofNat 32 0) 0#32) a b = a := rfl

/-- … and the second at coordinate 1. -/
theorem select_one (a b : EReal) : Scalar.select (Scalar.cmpi .eq (BitVec.ofNat 32 1) 0#32) a b = b := rfl

theorem klane_zero (d : Fin 64) : klane 0 d = ⟨d.val, by omega⟩ := rfl
theorem klane_one (d : Fin 64) : klane 1 d = ⟨64 + d.val, by omega⟩ := rfl

/-- The key head's coordinate is 0 or 1. -/
theorem coord_cases (t : Fin cfg0.N) : (grid0.coords t 1).val = 0 ∨ (grid0.coords t 1).val = 1 := by
  have h : (grid0.coords t 1).val < 2 := (grid0.coords t 1).isLt
  omega

set_option maxHeartbeats 400000 in
/-- The queries' gradient block at head 0, at a first query block. -/
theorem out7_A_0 (c : Dev nD) (t : Fin cfg0.N) (h0 : t.val % 16 = 0) (r : Fin 256) (d : Fin 64) :
    (outsAt0 m c t.val t.isLt).1 (ix2 r (lane 0 d)) = dqSel (grid0.coords t 1).val (iblk m c 1 t) (iblk m c 3 t) (iblk m c 4 t) (iblk m c 2 t) (iblk m c 5 t) (iblk m c 6 t) 0 r d := by
  generalize hX : dqSel (grid0.coords t 1).val (iblk m c 1 t) (iblk m c 3 t) (iblk m c 4 t) (iblk m c 2 t) (iblk m c 5 t) (iblk m c 6 t) 0 r d = X
  rw [outsAt0_A m c t h0]
  dsimp only
  unfold out0_A_7
  rw [View.read_writes_eq_canon _ _ _ (fun y => cover0_A_7 _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_col_skip192 _ _ r _ (by show 64 * 0 + d.val < 192; omega)).trans ?_
  refine (canon_col_skip128 _ _ r _ (by show 64 * 0 + d.val < 128; omega)).trans ?_
  refine (canon_col_skip64 _ _ r _ (by show 64 * 0 + d.val < 64; omega)).trans ?_
  refine (canon_col0 _ _ r d).trans ?_
  unfold_payloads
  pointwise
  rw [← hX]
  rcases coord_cases t with hk | hk <;>
    simp only [hk, select_zero, select_one, klane_zero, klane_one, dqSel, sum_keys, ds, lane_zero, lane_one, lane_two, lane_three]

set_option maxHeartbeats 400000 in
/-- The queries' gradient block at head 1, at a first query block. -/
theorem out7_A_1 (c : Dev nD) (t : Fin cfg0.N) (h0 : t.val % 16 = 0) (r : Fin 256) (d : Fin 64) :
    (outsAt0 m c t.val t.isLt).1 (ix2 r (lane 1 d)) = dqSel (grid0.coords t 1).val (iblk m c 1 t) (iblk m c 3 t) (iblk m c 4 t) (iblk m c 2 t) (iblk m c 5 t) (iblk m c 6 t) 1 r d := by
  generalize hX : dqSel (grid0.coords t 1).val (iblk m c 1 t) (iblk m c 3 t) (iblk m c 4 t) (iblk m c 2 t) (iblk m c 5 t) (iblk m c 6 t) 1 r d = X
  rw [outsAt0_A m c t h0]
  dsimp only
  unfold out0_A_7
  rw [View.read_writes_eq_canon _ _ _ (fun y => cover0_A_7 _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_col_skip192 _ _ r _ (by show 64 * 1 + d.val < 192; omega)).trans ?_
  refine (canon_col_skip128 _ _ r _ (by show 64 * 1 + d.val < 128; omega)).trans ?_
  refine (canon_col64 _ _ r d).trans ?_
  unfold_payloads
  pointwise
  rw [← hX]
  rcases coord_cases t with hk | hk <;>
    simp only [hk, select_zero, select_one, klane_zero, klane_one, dqSel, sum_keys, ds, lane_zero, lane_one, lane_two, lane_three]

set_option maxHeartbeats 400000 in
/-- The queries' gradient block at head 2, at a first query block. -/
theorem out7_A_2 (c : Dev nD) (t : Fin cfg0.N) (h0 : t.val % 16 = 0) (r : Fin 256) (d : Fin 64) :
    (outsAt0 m c t.val t.isLt).1 (ix2 r (lane 2 d)) = dqSel (grid0.coords t 1).val (iblk m c 1 t) (iblk m c 3 t) (iblk m c 4 t) (iblk m c 2 t) (iblk m c 5 t) (iblk m c 6 t) 2 r d := by
  generalize hX : dqSel (grid0.coords t 1).val (iblk m c 1 t) (iblk m c 3 t) (iblk m c 4 t) (iblk m c 2 t) (iblk m c 5 t) (iblk m c 6 t) 2 r d = X
  rw [outsAt0_A m c t h0]
  dsimp only
  unfold out0_A_7
  rw [View.read_writes_eq_canon _ _ _ (fun y => cover0_A_7 _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_col_skip192 _ _ r _ (by show 64 * 2 + d.val < 192; omega)).trans ?_
  refine (canon_col128 _ _ r d).trans ?_
  unfold_payloads
  pointwise
  rw [← hX]
  rcases coord_cases t with hk | hk <;>
    simp only [hk, select_zero, select_one, klane_zero, klane_one, dqSel, sum_keys, ds, lane_zero, lane_one, lane_two, lane_three]

set_option maxHeartbeats 400000 in
/-- The queries' gradient block at head 3, at a first query block. -/
theorem out7_A_3 (c : Dev nD) (t : Fin cfg0.N) (h0 : t.val % 16 = 0) (r : Fin 256) (d : Fin 64) :
    (outsAt0 m c t.val t.isLt).1 (ix2 r (lane 3 d)) = dqSel (grid0.coords t 1).val (iblk m c 1 t) (iblk m c 3 t) (iblk m c 4 t) (iblk m c 2 t) (iblk m c 5 t) (iblk m c 6 t) 3 r d := by
  generalize hX : dqSel (grid0.coords t 1).val (iblk m c 1 t) (iblk m c 3 t) (iblk m c 4 t) (iblk m c 2 t) (iblk m c 5 t) (iblk m c 6 t) 3 r d = X
  rw [outsAt0_A m c t h0]
  dsimp only
  unfold out0_A_7
  rw [View.read_writes_eq_canon _ _ _ (fun y => cover0_A_7 _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_col192 _ _ r d).trans ?_
  unfold_payloads
  pointwise
  rw [← hX]
  rcases coord_cases t with hk | hk <;>
    simp only [hk, select_zero, select_one, klane_zero, klane_one, dqSel, sum_keys, ds, lane_zero, lane_one, lane_two, lane_three]

set_option maxHeartbeats 400000 in
/-- The queries' gradient block at head 0, at a later query block. -/
theorem out7_B_0 (c : Dev nD) (t : Fin cfg0.N) (h0 : ¬ t.val % 16 = 0) (r : Fin 256) (d : Fin 64) :
    (outsAt0 m c t.val t.isLt).1 (ix2 r (lane 0 d)) = dqSel (grid0.coords t 1).val (iblk m c 1 t) (iblk m c 3 t) (iblk m c 4 t) (iblk m c 2 t) (iblk m c 5 t) (iblk m c 6 t) 0 r d := by
  generalize hX : dqSel (grid0.coords t 1).val (iblk m c 1 t) (iblk m c 3 t) (iblk m c 4 t) (iblk m c 2 t) (iblk m c 5 t) (iblk m c 6 t) 0 r d = X
  rw [outsAt0_B m c t h0]
  dsimp only
  unfold out0_B_7
  rw [View.read_writes_eq_canon _ _ _ (fun y => cover0_B_7 _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_col_skip192 _ _ r _ (by show 64 * 0 + d.val < 192; omega)).trans ?_
  refine (canon_col_skip128 _ _ r _ (by show 64 * 0 + d.val < 128; omega)).trans ?_
  refine (canon_col_skip64 _ _ r _ (by show 64 * 0 + d.val < 64; omega)).trans ?_
  refine (canon_col0 _ _ r d).trans ?_
  unfold_payloads
  pointwise
  rw [← hX]
  rcases coord_cases t with hk | hk <;>
    simp only [hk, select_zero, select_one, klane_zero, klane_one, dqSel, sum_keys, ds, lane_zero, lane_one, lane_two, lane_three]

set_option maxHeartbeats 400000 in
/-- The queries' gradient block at head 1, at a later query block. -/
theorem out7_B_1 (c : Dev nD) (t : Fin cfg0.N) (h0 : ¬ t.val % 16 = 0) (r : Fin 256) (d : Fin 64) :
    (outsAt0 m c t.val t.isLt).1 (ix2 r (lane 1 d)) = dqSel (grid0.coords t 1).val (iblk m c 1 t) (iblk m c 3 t) (iblk m c 4 t) (iblk m c 2 t) (iblk m c 5 t) (iblk m c 6 t) 1 r d := by
  generalize hX : dqSel (grid0.coords t 1).val (iblk m c 1 t) (iblk m c 3 t) (iblk m c 4 t) (iblk m c 2 t) (iblk m c 5 t) (iblk m c 6 t) 1 r d = X
  rw [outsAt0_B m c t h0]
  dsimp only
  unfold out0_B_7
  rw [View.read_writes_eq_canon _ _ _ (fun y => cover0_B_7 _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_col_skip192 _ _ r _ (by show 64 * 1 + d.val < 192; omega)).trans ?_
  refine (canon_col_skip128 _ _ r _ (by show 64 * 1 + d.val < 128; omega)).trans ?_
  refine (canon_col64 _ _ r d).trans ?_
  unfold_payloads
  pointwise
  rw [← hX]
  rcases coord_cases t with hk | hk <;>
    simp only [hk, select_zero, select_one, klane_zero, klane_one, dqSel, sum_keys, ds, lane_zero, lane_one, lane_two, lane_three]

set_option maxHeartbeats 400000 in
/-- The queries' gradient block at head 2, at a later query block. -/
theorem out7_B_2 (c : Dev nD) (t : Fin cfg0.N) (h0 : ¬ t.val % 16 = 0) (r : Fin 256) (d : Fin 64) :
    (outsAt0 m c t.val t.isLt).1 (ix2 r (lane 2 d)) = dqSel (grid0.coords t 1).val (iblk m c 1 t) (iblk m c 3 t) (iblk m c 4 t) (iblk m c 2 t) (iblk m c 5 t) (iblk m c 6 t) 2 r d := by
  generalize hX : dqSel (grid0.coords t 1).val (iblk m c 1 t) (iblk m c 3 t) (iblk m c 4 t) (iblk m c 2 t) (iblk m c 5 t) (iblk m c 6 t) 2 r d = X
  rw [outsAt0_B m c t h0]
  dsimp only
  unfold out0_B_7
  rw [View.read_writes_eq_canon _ _ _ (fun y => cover0_B_7 _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_col_skip192 _ _ r _ (by show 64 * 2 + d.val < 192; omega)).trans ?_
  refine (canon_col128 _ _ r d).trans ?_
  unfold_payloads
  pointwise
  rw [← hX]
  rcases coord_cases t with hk | hk <;>
    simp only [hk, select_zero, select_one, klane_zero, klane_one, dqSel, sum_keys, ds, lane_zero, lane_one, lane_two, lane_three]

set_option maxHeartbeats 400000 in
/-- The queries' gradient block at head 3, at a later query block. -/
theorem out7_B_3 (c : Dev nD) (t : Fin cfg0.N) (h0 : ¬ t.val % 16 = 0) (r : Fin 256) (d : Fin 64) :
    (outsAt0 m c t.val t.isLt).1 (ix2 r (lane 3 d)) = dqSel (grid0.coords t 1).val (iblk m c 1 t) (iblk m c 3 t) (iblk m c 4 t) (iblk m c 2 t) (iblk m c 5 t) (iblk m c 6 t) 3 r d := by
  generalize hX : dqSel (grid0.coords t 1).val (iblk m c 1 t) (iblk m c 3 t) (iblk m c 4 t) (iblk m c 2 t) (iblk m c 5 t) (iblk m c 6 t) 3 r d = X
  rw [outsAt0_B m c t h0]
  dsimp only
  unfold out0_B_7
  rw [View.read_writes_eq_canon _ _ _ (fun y => cover0_B_7 _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  try simp (disch := decide) only [↓ View.readCov_skip, ↓ View.readCov_cons_toLoadRect, ↓ View.readCov_fill]
  refine (canon_col192 _ _ r d).trans ?_
  unfold_payloads
  pointwise
  rw [← hX]
  rcases coord_cases t with hk | hk <;>
    simp only [hk, select_zero, select_one, klane_zero, klane_one, dqSel, sum_keys, ds, lane_zero, lane_one, lane_two, lane_three]

end Cert.KernelIdeal.AttnBwd

end
-- ==== Proof.AttnBwd.Blocks.lean ====
/-
  The blocks that a grid point is given, at an index, as formulas over the elements of the arguments.
-/
module

public import proofs.«01_k».proof.Proof.AttnBwd.Host
public import proofs.«01_k».proof.Proof.AttnBwd.Block
public import Idealize.ShloMosaic.Lib.Pipeline.ValueKit.Geometry

@[expose] public section

set_option maxRecDepth 16384

noncomputable section

namespace Cert.KernelIdeal.AttnBwd

open Idealize.ShloMosaic Idealize.ShloMosaic.TcCoe Idealize.ShloMosaic.Tactic
open Cert.KernelIdeal Cert.KernelIdeal.Gen Cert.AttnBwd

variable (m : (ℓ : Loc nD τ sig) → Buf (Elt Ideal) ℓ)

/-! ## Where each window's block lies -/

theorem idx0 : ∀ t : Fin cfg0.N, win0_0.index t = ![t.val / 32 * 16 + t.val % 16, t.val / 16 % 2] :=
  (by decide +kernel : ∀ t : Fin grid0.N, _)
theorem idx1 : ∀ t : Fin cfg0.N, win0_1.index t = ![t.val / 32, 0] := (by decide +kernel : ∀ t : Fin grid0.N, _)
theorem idx2 : ∀ t : Fin cfg0.N, win0_2.index t = ![t.val / 32, t.val / 16 % 2, 0] :=
  (by decide +kernel : ∀ t : Fin grid0.N, _)
theorem idx3 : ∀ t : Fin cfg0.N, win0_3.index t = ![t.val / 32 * 16 + t.val % 16, t.val / 16 % 2] :=
  (by decide +kernel : ∀ t : Fin grid0.N, _)
theorem idx4 : ∀ t : Fin cfg0.N, win0_4.index t = ![t.val / 32 * 16 + t.val % 16, t.val / 16 % 2] :=
  (by decide +kernel : ∀ t : Fin grid0.N, _)
theorem idx5 : ∀ t : Fin cfg0.N, win0_5.index t = ![t.val / 16 % 2, 0, t.val / 32 * 16 + t.val % 16, 0] :=
  (by decide +kernel : ∀ t : Fin grid0.N, _)
theorem idx6 : ∀ t : Fin cfg0.N, win0_6.index t = ![t.val / 16 % 2, t.val / 32 * 16 + t.val % 16, 0] :=
  (by decide +kernel : ∀ t : Fin grid0.N, _)
theorem idx7 : ∀ t : Fin cfg0.N, win0_7.index t = ![t.val / 32 * 16 + t.val % 16, t.val / 16 % 2] :=
  (by decide +kernel : ∀ t : Fin grid0.N, _)
theorem idx8 : ∀ t : Fin cfg0.N, win0_8.index t = ![t.val / 32, t.val / 16 % 2, 0] :=
  (by decide +kernel : ∀ t : Fin grid0.N, _)
theorem idx9 : ∀ t : Fin cfg0.N, win0_9.index t = ![t.val / 32, t.val / 16 % 2, 0] :=
  (by decide +kernel : ∀ t : Fin grid0.N, _)
theorem coord1 : ∀ t : Fin cfg0.N, (grid0.coords t 1).val = t.val / 16 % 2 := (by decide +kernel : ∀ t : Fin grid0.N, _)

/-- Row `r` of query block `i`. -/
abbrev qrow (i : Fin 16) (r : Fin 256) : Fin 4096 := ⟨i.val * 256 + r.val, by omega⟩

/-- The grid point of sequence `b`, key head `kv`, query block `i`. -/
abbrev At (t : Fin cfg0.N) (b kv : Fin 2) (i : Fin 16) : Prop := t.val = (b.val * 2 + kv.val) * 16 + i.val

variable (c : Dev nD) (t : Fin cfg0.N) (b kv : Fin 2) (i : Fin 16) (ht : At t b kv i)
include ht

theorem blk_q (r : Fin 256) (g : Fin 4) (d : Fin 64) :
    (iblk m c 0 t : S256x256.Idx → EReal) (ix2 r (lane g d)) = argQ m c (ix2 (tok b (qrow i r)) (qlane kv g d)) := by
  unfold At at ht
  blk_simp [iblk]
  refine Eq.trans ?_ (host_q m c (tok b (qrow i r)) (qlane kv g d))
  blk_ext [idx0]

theorem blk_k (u : Fin 4096) (kv' : Fin 2) (d : Fin 64) :
    (iblk m c 1 t : S4096x128.Idx → EReal) (ix2 u (vlane kv' d)) = argK m c (ix2 (tok b u) (vlane kv' d)) := by
  unfold At at ht
  blk_simp [iblk]
  refine Eq.trans ?_ (host_k m c (tok b u) (vlane kv' d))
  blk_ext [idx1]

theorem blk_vt (u : Fin 4096) (d : Fin 64) :
    (iblk m c 2 t : S1x64x4096.Idx → EReal) (ix3 0 d u) = argV m c (ix2 (tok b u) (vlane kv d)) := by
  unfold At at ht
  blk_simp [iblk]
  refine Eq.trans ?_ (host_vt m c b kv u d)
  blk_ext [idx2]

theorem blk_do (r : Fin 256) (g : Fin 4) (d : Fin 64) :
    (iblk m c 3 t : S256x256.Idx → EReal) (ix2 r (lane g d)) = argO m c (ix2 (tok b (qrow i r)) (qlane kv g d)) := by
  unfold At at ht
  blk_simp [iblk]
  refine Eq.trans ?_ (congrFun (V_main_arg3 m c) (ix2 (tok b (qrow i r)) (qlane kv g d)))
  blk_ext [idx3]

theorem blk_out (r : Fin 256) (g : Fin 4) (d : Fin 64) :
    (iblk m c 4 t : S256x256.Idx → EReal) (ix2 r (lane g d)) = out (argQ m c) (argK m c) (argV m c) b kv g (qrow i r) d := by
  unfold At at ht
  blk_simp [iblk]
  refine Eq.trans ?_ (host_out m c b kv g (qrow i r) d)
  blk_ext [idx4]

theorem blk_p (g : Fin 4) (r : Fin 256) (u : Fin 4096) :
    (iblk m c 5 t : S1x4x256x4096.Idx → EReal) (ix4 0 g r u) = wt (argQ m c) (argK m c) b kv g (qrow i r) u := by
  unfold At at ht
  blk_simp [iblk]
  refine Eq.trans ?_ (host_wt m c b kv g (qrow i r) u)
  blk_ext [idx5]

theorem blk_linv (g : Fin 4) (r : Fin 256) :
    (iblk m c 6 t : S1x256x4.Idx → EReal) (ix3 0 r g) = Ideal.div 1 (tot (argQ m c) (argK m c) b kv g (qrow i r)) := by
  unfold At at ht
  blk_simp [iblk]
  refine Eq.trans ?_ (host_linv m c b kv g (qrow i r))
  blk_ext [idx6]

/-- So the scores' gradient that the point computes is the formula's. -/
theorem blk_ds (g : Fin 4) (r : Fin 256) (u : Fin 4096) :
    ds (iblk m c 3 t) (iblk m c 4 t) (iblk m c 2 t) (iblk m c 5 t) (iblk m c 6 t) g r u
      = dsK (argQ m c) (argK m c) (argV m c) (argO m c) b kv g (qrow i r) u := by
  simp only [ds, dsK, blk_do m c t b kv i ht, blk_out m c t b kv i ht, blk_vt m c t b kv i ht, blk_p m c t b kv i ht,
    blk_linv m c t b kv i ht]

/-- The queries' gradient block. -/
theorem blk_dq (g : Fin 4) (r : Fin 256) (d : Fin 64) :
    (outsAt0 m c t.val t.isLt).1 (ix2 r (lane g d))
      = dq (argK m c) (dsK (argQ m c) (argK m c) (argV m c) (argO m c)) b kv g (qrow i r) d := by
  have e : (outsAt0 m c t.val t.isLt).1 (ix2 r (lane g d))
      = dqSel (grid0.coords t 1).val (iblk m c 1 t) (iblk m c 3 t) (iblk m c 4 t) (iblk m c 2 t) (iblk m c 5 t) (iblk m c 6 t) g r d := by
    by_cases h0 : t.val % 16 = 0
    · fin_cases g
      · exact out7_A_0 m c t h0 r d
      · exact out7_A_1 m c t h0 r d
      · exact out7_A_2 m c t h0 r d
      · exact out7_A_3 m c t h0 r d
    · fin_cases g
      · exact out7_B_0 m c t h0 r d
      · exact out7_B_1 m c t h0 r d
      · exact out7_B_2 m c t h0 r d
      · exact out7_B_3 m c t h0 r d
  have hk : klane (grid0.coords t 1).val d = vlane kv d := by
    have h := coord1 t
    have h1 : t.val / 16 % 2 = kv.val := by unfold At at ht; omega
    rw [h, h1]
    obtain ⟨n, hn⟩ := kv
    interval_cases n <;> (apply Fin.ext; simp [klane])
  rw [e]
  simp only [dqSel, dq, hk, blk_ds m c t b kv i ht, blk_k m c t b kv i ht]

/-- The point's part of the keys' gradient. -/
theorem blk_dk (u : Fin 4096) (d : Fin 64) :
    dkPart (iblk m c 0 t) (iblk m c 3 t) (iblk m c 4 t) (iblk m c 2 t) (iblk m c 5 t) (iblk m c 6 t) d u
      = ∑ g : Fin 4, ∑ r : Fin 256, argQ m c (ix2 (tok b (qrow i r)) (qlane kv g d))
          * dsK (argQ m c) (argK m c) (argV m c) (argO m c) b kv g (qrow i r) u := by
  simp only [dkPart, blk_ds m c t b kv i ht, blk_q m c t b kv i ht]

/-- The point's part of the values' gradient. -/
theorem blk_dv (u : Fin 4096) (d : Fin 64) :
    dvPart (iblk m c 3 t) (iblk m c 5 t) (iblk m c 6 t) d u
      = ∑ g : Fin 4, ∑ r : Fin 256, argO m c (ix2 (tok b (qrow i r)) (qlane kv g d))
          * Ideal.div 1 (tot (argQ m c) (argK m c) b kv g (qrow i r)) * wt (argQ m c) (argK m c) b kv g (qrow i r) u := by
  simp only [dvPart, blk_do m c t b kv i ht, blk_linv m c t b kv i ht, blk_p m c t b kv i ht]

end Cert.KernelIdeal.AttnBwd

end
-- ==== Proof.AttnBwd.Arrays.lean ====
/-
  What the kernel's three result arrays hold after the run, at an index.
-/
module

public import proofs.«01_k».proof.Proof.AttnBwd.Blocks
public import Idealize.ShloMosaic.Lib.Pipeline.ValueKit.Acc

@[expose] public section

set_option maxRecDepth 16384

noncomputable section

namespace Cert.KernelIdeal.AttnBwd

open Idealize.ShloMosaic Idealize.ShloMosaic.TcCoe Idealize.ShloMosaic.Tactic
open Cert.KernelIdeal Cert.KernelIdeal.Gen Cert.KernelIdeal.Value Cert.AttnBwd

variable (m : (ℓ : Loc nD τ sig) → Buf (Elt Ideal) ℓ)

/-- The grid point of sequence `b`, key head `kv`, query block `i`. -/
abbrev pt (b kv : Fin 2) (i : Fin 16) : Fin cfg0.N := ⟨(b.val * 2 + kv.val) * 16 + i.val, by show _ < 64; omega⟩

/-- Query `s` as a row of its block. -/
theorem qrow_split (s : Fin 4096) : qrow ⟨s.val / 256, by omega⟩ ⟨s.val % 256, by omega⟩ = s := by
  apply Fin.ext
  simp only [qrow]
  omega

/-- The first result: the gradient of the queries. -/
theorem arr7 (c : Dev nD) (b kv : Fin 2) (g : Fin 4) (s : Fin 4096) (d : Fin 64) :
    ((dats m 0 c).arrAt 7 cfg0.N : S8192x512.Idx → EReal) (ix2 (tok b s) (qlane kv g d))
      = dq (argK m c) (dsK (argQ m c) (argK m c) (argV m c) (argO m c)) b kv g s d := by
  set i : Fin 16 := ⟨s.val / 256, by omega⟩ with hi
  set r : Fin 256 := ⟨s.val % 256, by omega⟩ with hr
  have hs : qrow i r = s := qrow_split s
  have hiv : i.val = s.val / 256 := rfl
  have hrv : r.val = s.val % 256 := rfl
  have h := (dats m 0 c).arrAt_emb_eq_flushed 7 disjoint7 (pt b kv i) (flush0_7 _) (ix2 r (lane g d))
  rw [flushed7] at h
  have hv : (outsAt0 m c (pt b kv i).val (pt b kv i).isLt).1 (ix2 r (lane g d)) = _ := blk_dq m c (pt b kv i) b kv i rfl g r d
  rw [hs] at hv
  refine Eq.trans ?_ (h.trans (Eq.trans ?_ hv))
  · blk_ext [idx7]
  · rfl

theorem disjoint8 : ∀ t t' : Fin cfg0.N, (cfg0.win 8).flush t = true → (cfg0.win 8).flush t' = true → t ≠ t' →
    Disjoint ((cfg0.win 8).blk t).view.set ((cfg0.win 8).blk t').view.set :=
  (cfg0.win 8).hdisj_of_index_inj fun t t' hf hf' h => by
    have h8 : win0_8.index t = win0_8.index t' := h
    rw [idx8, idx8] at h8
    have e0 := congrFun h8 0
    have e1 := congrFun h8 1
    simp at e0 e1
    have := (flush0_8 t).mp hf
    have := (flush0_8 t').mp hf'
    have : t.val < 64 := t.isLt
    have : t'.val < 64 := t'.isLt
    exact Fin.ext (by omega)

theorem disjoint9 : ∀ t t' : Fin cfg0.N, (cfg0.win 9).flush t = true → (cfg0.win 9).flush t' = true → t ≠ t' →
    Disjoint ((cfg0.win 9).blk t).view.set ((cfg0.win 9).blk t').view.set :=
  (cfg0.win 9).hdisj_of_index_inj fun t t' hf hf' h => by
    have h8 : win0_9.index t = win0_9.index t' := h
    rw [idx9, idx9] at h8
    have e0 := congrFun h8 0
    have e1 := congrFun h8 1
    simp at e0 e1
    have := (flush0_9 t).mp hf
    have := (flush0_9 t').mp hf'
    have : t.val < 64 := t.isLt
    have : t'.val < 64 := t'.isLt
    exact Fin.ext (by omega)

/-- What grid point `t` adds to the keys' gradient. -/
def dkAt (c : Dev nD) (t : Fin cfg0.N) (x : Fin 64 × Fin 4096) : EReal :=
  dkPart (iblk m c 0 t) (iblk m c 3 t) (iblk m c 4 t) (iblk m c 2 t) (iblk m c 5 t) (iblk m c 6 t) x.1 x.2

theorem acc8_first (c : Dev nD) (t : Fin cfg0.N) (h0 : t.val % 16 = 0) (x : Fin 64 × Fin 4096) :
    (outsAt0 m c t.val t.isLt).2.1 (ix3 0 x.1 x.2) = 0 + dkAt m c t x := by
  obtain ⟨d, u⟩ := x
  rw [zero_add]
  by_cases h : u.val < 2048
  · exact out8_A_lo m c t h0 d ⟨u.val, h⟩ u rfl
  · exact out8_A_hi m c t h0 d ⟨u.val - 2048, by omega⟩ u (by simp; omega)

theorem acc8_next (c : Dev nD) (t : Fin cfg0.N) (h0 : ¬ t.val % 16 = 0) (x : Fin 64 × Fin 4096) :
    (outsAt0 m c t.val t.isLt).2.1 (ix3 0 x.1 x.2)
      = (outsAt0 m c (t.val - 1) (Nat.lt_of_le_of_lt (Nat.sub_le _ _) t.isLt)).2.1 (ix3 0 x.1 x.2) + dkAt m c t x := by
  obtain ⟨d, u⟩ := x
  by_cases h : u.val < 2048
  · exact out8_B_lo m c t h0 d ⟨u.val, h⟩ u rfl
  · exact out8_B_hi m c t h0 d ⟨u.val - 2048, by omega⟩ u (by simp; omega)

/-- The keys' gradient buffer after the last query block of a sequence and key head: the sum of the sixteen parts. -/
theorem acc8 (c : Dev nD) (b kv : Fin 2) (x : Fin 64 × Fin 4096) :
    (outsAt0 m c (pt b kv 15).val (pt b kv 15).isLt).2.1 (ix3 0 x.1 x.2) = ∑ i : Fin 16, dkAt m c (pt b kv i) x := by
  have h := Pipeline.eq_sum_fin_of_reset_step_apply_of_flush
    (fun n h (x : Fin 64 × Fin 4096) => (outsAt0 m c n h).2.1 (ix3 0 x.1 x.2)) 16 (fun _ => 0) (dkAt m c)
    (acc8_first m c) (acc8_next m c) (pt b kv 15) (by show ((b.val * 2 + kv.val) * 16 + 15) % 16 = 15; omega) x
  rw [zero_add] at h
  refine h.trans (Finset.sum_congr rfl fun i _ => congrArg (fun t => dkAt m c t x) (Fin.ext ?_))
  simp
  omega

/-- What grid point `t` adds to the values' gradient. -/
def dvAt (c : Dev nD) (t : Fin cfg0.N) (x : Fin 64 × Fin 4096) : EReal :=
  dvPart (iblk m c 3 t) (iblk m c 5 t) (iblk m c 6 t) x.1 x.2

theorem acc9_first (c : Dev nD) (t : Fin cfg0.N) (h0 : t.val % 16 = 0) (x : Fin 64 × Fin 4096) :
    (outsAt0 m c t.val t.isLt).2.2 (ix3 0 x.1 x.2) = 0 + dvAt m c t x := by
  obtain ⟨d, u⟩ := x
  rw [zero_add]
  by_cases h : u.val < 2048
  · exact out9_A_lo m c t h0 d ⟨u.val, h⟩ u rfl
  · exact out9_A_hi m c t h0 d ⟨u.val - 2048, by omega⟩ u (by simp; omega)

theorem acc9_next (c : Dev nD) (t : Fin cfg0.N) (h0 : ¬ t.val % 16 = 0) (x : Fin 64 × Fin 4096) :
    (outsAt0 m c t.val t.isLt).2.2 (ix3 0 x.1 x.2)
      = (outsAt0 m c (t.val - 1) (Nat.lt_of_le_of_lt (Nat.sub_le _ _) t.isLt)).2.2 (ix3 0 x.1 x.2) + dvAt m c t x := by
  obtain ⟨d, u⟩ := x
  by_cases h : u.val < 2048
  · exact out9_B_lo m c t h0 d ⟨u.val, h⟩ u rfl
  · exact out9_B_hi m c t h0 d ⟨u.val - 2048, by omega⟩ u (by simp; omega)

/-- The values' gradient buffer, likewise. -/
theorem acc9 (c : Dev nD) (b kv : Fin 2) (x : Fin 64 × Fin 4096) :
    (outsAt0 m c (pt b kv 15).val (pt b kv 15).isLt).2.2 (ix3 0 x.1 x.2) = ∑ i : Fin 16, dvAt m c (pt b kv i) x := by
  have h := Pipeline.eq_sum_fin_of_reset_step_apply_of_flush
    (fun n h (x : Fin 64 × Fin 4096) => (outsAt0 m c n h).2.2 (ix3 0 x.1 x.2)) 16 (fun _ => 0) (dvAt m c)
    (acc9_first m c) (acc9_next m c) (pt b kv 15) (by show ((b.val * 2 + kv.val) * 16 + 15) % 16 = 15; omega) x
  rw [zero_add] at h
  refine h.trans (Finset.sum_congr rfl fun i _ => congrArg (fun t => dvAt m c t x) (Fin.ext ?_))
  simp
  omega

/-- A sum over the query blocks and the rows of a block is the sum over the queries. -/
theorem sum_rows (f : Fin 4 → Fin 4096 → EReal) :
    ∑ i : Fin 16, ∑ g : Fin 4, ∑ r : Fin 256, f g (qrow i r) = ∑ g : Fin 4, ∑ s : Fin 4096, f g s := by
  rw [Finset.sum_comm]
  refine Finset.sum_congr rfl fun g _ => ?_
  rw [← Finset.sum_product' Finset.univ Finset.univ (fun (i : Fin 16) (r : Fin 256) => f g (qrow i r))]
  refine Fintype.sum_equiv (finProdFinEquiv (m := 16) (n := 256)) _ _ fun x => ?_
  congr 1
  apply Fin.ext
  simp [finProdFinEquiv, qrow]
  omega

/-- The second result: the gradient of the keys. -/
theorem arr8 (c : Dev nD) (b kv : Fin 2) (u : Fin 4096) (d : Fin 64) :
    ((dats m 0 c).arrAt 8 cfg0.N : S2x128x4096.Idx → EReal) (ix3 b (vlane kv d) u)
      = ∑ g : Fin 4, ∑ s : Fin 4096, argQ m c (ix2 (tok b s) (qlane kv g d))
          * dsK (argQ m c) (argK m c) (argV m c) (argO m c) b kv g s u := by
  have h := (dats m 0 c).arrAt_emb_eq_flushed 8 disjoint8 (pt b kv 15) ((flush0_8 _).mpr (by show ((b.val * 2 + kv.val) * 16 + 15) % 16 = 15; omega)) (ix3 0 d u)
  rw [flushed8] at h
  have hv := acc8 m c b kv (d, u)
  refine Eq.trans ?_ (h.trans (Eq.trans ?_ (hv.trans ?_)))
  · blk_ext [idx8]
  · rfl
  · rw [← sum_rows]
    refine Finset.sum_congr rfl fun i _ => ?_
    exact blk_dk m c _ b kv i rfl u d

/-- The third result: the gradient of the values. -/
theorem arr9 (c : Dev nD) (b kv : Fin 2) (u : Fin 4096) (d : Fin 64) :
    ((dats m 0 c).arrAt 9 cfg0.N : S2x128x4096.Idx → EReal) (ix3 b (vlane kv d) u)
      = ∑ g : Fin 4, ∑ s : Fin 4096, argO m c (ix2 (tok b s) (qlane kv g d))
          * Ideal.div 1 (tot (argQ m c) (argK m c) b kv g s) * wt (argQ m c) (argK m c) b kv g s u := by
  have h := (dats m 0 c).arrAt_emb_eq_flushed 9 disjoint9 (pt b kv 15) ((flush0_9 _).mpr (by show ((b.val * 2 + kv.val) * 16 + 15) % 16 = 15; omega)) (ix3 0 d u)
  rw [flushed9] at h
  have hv := acc9 m c b kv (d, u)
  refine Eq.trans ?_ (h.trans (Eq.trans ?_ (hv.trans ?_)))
  · blk_ext [idx9]
  · rfl
  · rw [← sum_rows]
    refine Finset.sum_congr rfl fun i _ => ?_
    exact blk_dv m c _ b kv i rfl u d

end Cert.KernelIdeal.AttnBwd

end
-- ==== Proof.AttnBwd.Reference.lean ====
/-
  What the reference computes: its stages, read at an index, as the formulas of the model.
-/
module

public import proofs.«01_k».proof.Proof.Gen.ReferenceIdeal.Read
public import proofs.«01_k».proof.Proof.AttnBwd.Model

@[expose] public section

set_option maxRecDepth 16384

noncomputable section

namespace Cert.ReferenceIdeal.AttnBwd

open Idealize.ShloMosaic Idealize.ShloMosaic.TcCoe Idealize.ShloMosaic.Tactic
open Cert.ReferenceIdeal Cert.ReferenceIdeal.Gen Cert.ReferenceIdeal.Read Cert.AttnBwd

variable (q : S8192x512.Idx → EReal) (k v : S8192x128.Idx → EReal) (o : S8192x512.Idx → EReal)

/-- The queries by head. -/
theorem q_at (b kv : Fin 2) (g : Fin 4) (s : Fin 4096) (d : Fin 64) :
    val_main_v1 (F := Ideal) q (ix5 b kv g s d) = q (ix2 (tok b s) (qlane kv g d)) := by
  rw [val_main_v1_apply, val_main_v0_apply]
  refine congrArg q (funext fun a => Fin.ext ?_)
  match a with
  | ⟨0, _⟩ => show ((((b.val * 4096 + s.val) * 2 + kv.val) * 4 + g.val) * 64 + d.val) / 512 = b.val * 4096 + s.val; omega
  | ⟨1, _⟩ => show ((((b.val * 4096 + s.val) * 2 + kv.val) * 4 + g.val) * 64 + d.val) % 512 = kv.val * 256 + g.val * 64 + d.val; omega

/-- The keys by head. -/
theorem k_at (b kv : Fin 2) (s : Fin 4096) (d : Fin 64) :
    val_main_v3 (F := Ideal) k (ix4 b kv s d) = k (ix2 (tok b s) (vlane kv d)) := by
  rw [val_main_v3_apply, val_main_v2_apply]
  refine congrArg k (funext fun a => Fin.ext ?_)
  match a with
  | ⟨0, _⟩ => show (((b.val * 4096 + s.val) * 2 + kv.val) * 64 + d.val) / 128 = b.val * 4096 + s.val; omega
  | ⟨1, _⟩ => show (((b.val * 4096 + s.val) * 2 + kv.val) * 64 + d.val) % 128 = kv.val * 64 + d.val; omega

/-- The values by head. -/
theorem v_at (b kv : Fin 2) (s : Fin 4096) (d : Fin 64) :
    val_main_v5 (F := Ideal) v (ix4 b kv s d) = v (ix2 (tok b s) (vlane kv d)) := by
  rw [val_main_v5_apply, val_main_v4_apply]
  refine congrArg v (funext fun a => Fin.ext ?_)
  match a with
  | ⟨0, _⟩ => show (((b.val * 4096 + s.val) * 2 + kv.val) * 64 + d.val) / 128 = b.val * 4096 + s.val; omega
  | ⟨1, _⟩ => show (((b.val * 4096 + s.val) * 2 + kv.val) * 64 + d.val) % 128 = kv.val * 64 + d.val; omega

/-- The gradient of the output by head. -/
theorem o_at (b kv : Fin 2) (g : Fin 4) (s : Fin 4096) (d : Fin 64) :
    val_main_v39 (F := Ideal) o (ix5 b kv g s d) = o (ix2 (tok b s) (qlane kv g d)) := by
  rw [val_main_v39_apply, val_main_v38_apply]
  refine congrArg o (funext fun a => Fin.ext ?_)
  match a with
  | ⟨0, _⟩ => show ((((b.val * 4096 + s.val) * 2 + kv.val) * 4 + g.val) * 64 + d.val) / 512 = b.val * 4096 + s.val; omega
  | ⟨1, _⟩ => show ((((b.val * 4096 + s.val) * 2 + kv.val) * 4 + g.val) * 64 + d.val) % 512 = kv.val * 256 + g.val * 64 + d.val; omega

/-- The scores. -/
theorem score_at (b kv : Fin 2) (g : Fin 4) (s t : Fin 4096) :
    val_main_v6 (F := Ideal) q k (ix5 b kv g s t) = score q k b kv g s t := by
  unfold val_main_v6 score
  simp only [← q_at, ← k_at]
  generalize val_main_v1 (F := Ideal) q = y
  generalize val_main_v3 (F := Ideal) k = z
  pointwise

/-- The largest score of a row. -/
theorem top_at (b kv : Fin 2) (g : Fin 4) (s : Fin 4096) :
    val_main_v7 (F := Ideal) q k (ix4 b kv g s) = top q k b kv g s := by
  unfold val_main_v7 val_main_cst top
  simp only [← score_at]
  generalize val_main_v6 (F := Ideal) q k = y
  pointwise

/-- The word of minus infinity. -/
theorem neg_inf : Ideal.ofBits .f32 0xFF800000#32 = (⊥ : EReal) := by
  simp [Ideal.ofBits, Ideal.ieee]

/-- The maximum with minus infinity, at an index. -/
theorem clamp_at (i : S2x2x4x4096.Idx) :
    val_main_v14 (F := Ideal) q k i = max (Ideal.ofBits .f32 0xFF800000#32) (val_main_v7 (F := Ideal) q k i) := by
  rw [val_main_v14_apply, val_main_v13_apply, val_main_cst_1_apply]
  rfl

/-- The largest score, after the maximum with minus infinity. -/
theorem clamp_top (b kv : Fin 2) (g : Fin 4) (s : Fin 4096) :
    val_main_v14 (F := Ideal) q k (ix4 b kv g s) = top q k b kv g s := by
  rw [clamp_at, top_at, neg_inf, max_bot_left]

/-- The exponentials. -/
theorem wt_at (b kv : Fin 2) (g : Fin 4) (s t : Fin 4096) :
    val_main_v27 (F := Ideal) q k (ix5 b kv g s t) = wt q k b kv g s t := by
  unfold val_main_v27 val_main_v26 val_main_v25 val_main_v24 wt
  rw [← score_at, ← clamp_top]
  generalize val_main_v6 (F := Ideal) q k = y
  generalize val_main_v14 (F := Ideal) q k = z
  pointwise

/-- The rows' sums. -/
theorem tot_at (b kv : Fin 2) (g : Fin 4) (s : Fin 4096) :
    val_main_v29 (F := Ideal) q k (ix5 b kv g s 0) = tot q k b kv g s := by
  unfold val_main_v29 val_main_v28 val_main_cst_7 tot
  simp only [← wt_at]
  generalize val_main_v27 (F := Ideal) q k = y
  pointwise

/-- The attention's weights. -/
theorem weight_at (b kv : Fin 2) (g : Fin 4) (s t : Fin 4096) :
    val_main_v31 (F := Ideal) q k (ix5 b kv g s t) = Ideal.div (wt q k b kv g s t) (tot q k b kv g s) := by
  unfold val_main_v31 val_main_v30
  rw [← wt_at, ← tot_at]
  generalize val_main_v27 (F := Ideal) q k = y
  generalize val_main_v29 (F := Ideal) q k = z
  pointwise

/-- The gradient of the weights. -/
theorem dP_at (b kv : Fin 2) (g : Fin 4) (s t : Fin 4096) :
    val_main_v42 (F := Ideal) v o (ix5 b kv g s t) = dP v o b kv g s t := by
  unfold val_main_v42 dP
  simp only [← o_at, ← v_at]
  generalize val_main_v39 (F := Ideal) o = y
  generalize val_main_v5 (F := Ideal) v = z
  pointwise

/-- The reciprocal of the square of a row's sum. -/
theorem sq_at (b kv : Fin 2) (g : Fin 4) (s : Fin 4096) :
    val_main_v34 (F := Ideal) q k (ix5 b kv g s 0) = Ideal.div 1 (tot q k b kv g s * tot q k b kv g s) := by
  unfold val_main_v34 val_main_v33 val_main_v32 val_main_cst_8
  rw [← tot_at]
  generalize val_main_v29 (F := Ideal) q k = y
  pointwise

/-- The gradient of the scores. -/
theorem ds_at (b kv : Fin 2) (g : Fin 4) (s t : Fin 4096) :
    val_main_v54 (F := Ideal) q k v o (ix5 b kv g s t) = dsR q k v o b kv g s t := by
  unfold dsR
  simp only [← dP_at, ← wt_at, ← sq_at]
  rw [← tot_at]
  unfold val_main_v54 val_main_v53 val_main_v52 val_main_v51 val_main_v50 val_main_v49 val_main_v48 val_main_v47 val_main_v46
    val_main_v45 val_main_v44 val_main_v43 val_main_cst_9 val_main_cst_10
  generalize val_main_v42 (F := Ideal) v o = x
  generalize val_main_v29 (F := Ideal) q k = y
  generalize val_main_v34 (F := Ideal) q k = z
  generalize val_main_v27 (F := Ideal) q k = w
  pointwise
  rw [Fin.sum_univ_one]

/-- The gradient of the queries. -/
theorem dq_at (b kv : Fin 2) (g : Fin 4) (s : Fin 4096) (d : Fin 64) :
    val_main_v62 (F := Ideal) q k v o (ix2 (tok b s) (qlane kv g d)) = dq k (dsR q k v o) b kv g s d := by
  have e : val_main_v61 (F := Ideal) q k v o (ix5 b s kv g d) = dq k (dsR q k v o) b kv g s d := by
    unfold val_main_v61 val_main_v56 dq
    simp only [← ds_at, ← k_at]
    generalize val_main_v54 (F := Ideal) q k v o = y
    generalize val_main_v3 (F := Ideal) k = z
    pointwise
  rw [← e, val_main_v62_apply]
  refine congrArg _ (funext fun a => Fin.ext ?_)
  match a with
  | ⟨0, _⟩ => show ((b.val * 4096 + s.val) * 512 + (kv.val * 256 + g.val * 64 + d.val)) / 2097152 = b.val; omega
  | ⟨1, _⟩ => show ((b.val * 4096 + s.val) * 512 + (kv.val * 256 + g.val * 64 + d.val)) / 512 % 4096 = s.val; omega
  | ⟨2, _⟩ => show ((b.val * 4096 + s.val) * 512 + (kv.val * 256 + g.val * 64 + d.val)) / 256 % 2 = kv.val; omega
  | ⟨3, _⟩ => show ((b.val * 4096 + s.val) * 512 + (kv.val * 256 + g.val * 64 + d.val)) / 64 % 4 = g.val; omega
  | ⟨4, _⟩ => show ((b.val * 4096 + s.val) * 512 + (kv.val * 256 + g.val * 64 + d.val)) % 64 = d.val; omega

/-- The four coordinates that the flat position of lane `d` of head `kv` of token `t` of sequence `b` comes from. -/
theorem back_token (b : Fin 2) (t : Fin 4096) (kv : Fin 2) (d : Fin 64) :
    (((b.val * 4096 + t.val) * 128 + (kv.val * 64 + d.val)) / 128 * 128
        + ((b.val * 4096 + t.val) * 128 + (kv.val * 64 + d.val)) % 128) / 524288 = b.val
      ∧ (((b.val * 4096 + t.val) * 128 + (kv.val * 64 + d.val)) / 128 * 128
        + ((b.val * 4096 + t.val) * 128 + (kv.val * 64 + d.val)) % 128) / 128 % 4096 = t.val
      ∧ (((b.val * 4096 + t.val) * 128 + (kv.val * 64 + d.val)) / 128 * 128
        + ((b.val * 4096 + t.val) * 128 + (kv.val * 64 + d.val)) % 128) / 64 % 2 = kv.val
      ∧ (((b.val * 4096 + t.val) * 128 + (kv.val * 64 + d.val)) / 128 * 128
        + ((b.val * 4096 + t.val) * 128 + (kv.val * 64 + d.val)) % 128) % 64 = d.val := by
  omega

/-- The gradient of the keys, tokens last. -/
theorem dk_at (b kv : Fin 2) (t : Fin 4096) (d : Fin 64) :
    val_main_v64 (F := Ideal) q k v o (ix3 b (vlane kv d) t)
      = ∑ g : Fin 4, ∑ s : Fin 4096, dsR q k v o b kv g s t * q (ix2 (tok b s) (qlane kv g d)) := by
  have e : val_main_v59 (F := Ideal) q k v o (ix4 b t kv d)
      = ∑ g : Fin 4, ∑ s : Fin 4096, dsR q k v o b kv g s t * q (ix2 (tok b s) (qlane kv g d)) := by
    unfold val_main_v59 val_main_v55
    simp only [← ds_at, ← q_at]
    generalize val_main_v54 (F := Ideal) q k v o = y
    generalize val_main_v1 (F := Ideal) q = z
    pointwise
  rw [← e, val_main_v64_apply, val_main_v63_apply, val_main_v60_apply]
  refine congrArg _ (funext fun a => Fin.ext ?_)
  have h := back_token b t kv d
  match a with
  | ⟨0, _⟩ => exact h.1
  | ⟨1, _⟩ => exact h.2.1
  | ⟨2, _⟩ => exact h.2.2.1
  | ⟨3, _⟩ => exact h.2.2.2

/-- The gradient of the values, tokens last. -/
theorem dv_at (b kv : Fin 2) (t : Fin 4096) (d : Fin 64) :
    val_main_v66 (F := Ideal) q k o (ix3 b (vlane kv d) t)
      = ∑ g : Fin 4, ∑ s : Fin 4096, o (ix2 (tok b s) (qlane kv g d)) * Ideal.div (wt q k b kv g s t) (tot q k b kv g s) := by
  have e : val_main_v57 (F := Ideal) q k o (ix4 b t kv d)
      = ∑ g : Fin 4, ∑ s : Fin 4096, o (ix2 (tok b s) (qlane kv g d)) * Ideal.div (wt q k b kv g s t) (tot q k b kv g s) := by
    unfold val_main_v57 val_main_v41 val_main_v40
    simp only [← weight_at, ← o_at]
    generalize val_main_v39 (F := Ideal) o = y
    generalize val_main_v31 (F := Ideal) q k = z
    pointwise
  rw [← e, val_main_v66_apply, val_main_v65_apply, val_main_v58_apply]
  refine congrArg _ (funext fun a => Fin.ext ?_)
  have h := back_token b t kv d
  match a with
  | ⟨0, _⟩ => exact h.1
  | ⟨1, _⟩ => exact h.2.1
  | ⟨2, _⟩ => exact h.2.2.1
  | ⟨3, _⟩ => exact h.2.2.2

end Cert.ReferenceIdeal.AttnBwd

end
-- ==== Proof.AttnBwd.Equation.lean ====
/-
  The two forms of the gradient agree where every argument is a real number: the rows' sums are then positive reals, and
  what remains is an exchange of two finite sums.
-/
module

public import proofs.«01_k».proof.Proof.AttnBwd.Model

@[expose] public section

noncomputable section

namespace Cert.AttnBwd

open Idealize.ShloMosaic

/-- The sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, over at least one, is a real. -/
theorem exists_max {n : Nat} (h : 0 < n) (f : Fin n → ℝ) :
    ∃ r : ℝ, Finset.univ.fold max (Ideal.ofBits .f32 0xFF800000#32) (fun t => (f t : EReal)) = (r : EReal) := by
  have e : Ideal.ofBits .f32 0xFF800000#32 = (⊥ : EReal) := by simp [Ideal.ofBits, Ideal.ieee]
  rw [e]
  have hb : (⊥ : EReal) < Finset.univ.fold max (⊥ : EReal) (fun t => (f t : EReal)) :=
    (Finset.lt_fold_max _).2 (Or.inr ⟨⟨0, h⟩, Finset.mem_univ _, EReal.bot_lt_coe _⟩)
  have ht : Finset.univ.fold max (⊥ : EReal) (fun t => (f t : EReal)) < ⊤ :=
    (Finset.fold_max_lt _).2 ⟨bot_lt_top, fun x _ => EReal.coe_lt_top _⟩
  exact ⟨_, (EReal.coe_toReal ht.ne hb.ne').symm⟩

variable (q o : SQ.Idx → ℝ) (k v : SK.Idx → ℝ)

/-- The real arrays as arrays of extended reals. -/
abbrev up {S : Shape} (x : S.Idx → ℝ) : S.Idx → EReal := fun i => (x i : EReal)

/-- The scores are reals. -/
theorem score_real (b kv : Fin 2) (g : Fin 4) (s t : Fin 4096) :
    score (up q) (up k) b kv g s t
      = ((∑ d : Fin 64, q (ix2 (tok b s) (qlane kv g d)) * k (ix2 (tok b t) (vlane kv d)) : ℝ) : EReal) := by
  rw [coe_sum]
  simp only [score, EReal.coe_mul]

/-- A row's exponentials are positive reals. -/
theorem wt_real (b kv : Fin 2) (g : Fin 4) (s : Fin 4096) :
    ∃ w : Fin 4096 → ℝ, (∀ t, 0 < w t) ∧ ∀ t, wt (up q) (up k) b kv g s t = (w t : EReal) := by
  obtain ⟨r, hr⟩ := exists_max (n := 4096) (by decide) fun t =>
    ∑ d : Fin 64, q (ix2 (tok b s) (qlane kv g d)) * k (ix2 (tok b t) (vlane kv d))
  have ht : top (up q) (up k) b kv g s = (r : EReal) := by
    rw [← hr]
    simp only [top, score_real]
  refine ⟨fun t => Real.exp ((∑ d : Fin 64, q (ix2 (tok b s) (qlane kv g d)) * k (ix2 (tok b t) (vlane kv d))) - r),
    fun t => Real.exp_pos _, fun t => ?_⟩
  rw [wt, ht, score_real, ← EReal.coe_sub, Ideal.exp_coe]

/-- A row's sum of positive reals is a positive real. -/
theorem tot_real (b kv : Fin 2) (g : Fin 4) (s : Fin 4096) (w : Fin 4096 → ℝ)
    (h : ∀ t, wt (up q) (up k) b kv g s t = (w t : EReal)) :
    tot (up q) (up k) b kv g s = ((∑ t, w t : ℝ) : EReal) := by
  rw [coe_sum, tot]
  exact Finset.sum_congr rfl fun t _ => h t

/-- The equation over the reals: `c` is the reciprocal of the row's sum. -/
theorem ds_eq_real (w : Fin 4096 → ℝ) (D : Fin 64 → ℝ) (W : Fin 4096 → Fin 64 → ℝ) (c : ℝ) (t : Fin 4096) :
    w t * ((∑ d, D d * c * W t d) - (∑ d, D d * ((∑ u, w u * W u d) * c)) * c)
      = ((∑ d, D d * W t d) * c + -(∑ u, (∑ d, D d * W u d) * (c * c) * w u)) * w t := by
  have h1 : (∑ d, D d * c * W t d) = (∑ d, D d * W t d) * c := by
    rw [Finset.sum_mul]
    exact Finset.sum_congr rfl fun d _ => by ring
  have h2 : (∑ d, D d * ((∑ u, w u * W u d) * c)) * c = ∑ u, (∑ d, D d * W u d) * (c * c) * w u := by
    simp only [Finset.sum_mul, Finset.mul_sum]
    rw [Finset.sum_comm]
    exact Finset.sum_congr rfl fun u _ => Finset.sum_congr rfl fun d _ => by ring
  rw [h1, h2]
  ring

/-- The kernel's gradient of the scores is the derivative's. -/
theorem ds_eq (b kv : Fin 2) (g : Fin 4) (s t : Fin 4096) :
    dsK (up q) (up k) (up v) (up o) b kv g s t = dsR (up q) (up k) (up v) (up o) b kv g s t := by
  obtain ⟨w, hpos, hw⟩ := wt_real q k b kv g s
  have hL : 0 < ∑ t, w t := Finset.sum_pos (fun t _ => hpos t) ⟨0, Finset.mem_univ _⟩
  have hT := tot_real q k b kv g s w hw
  generalize (∑ t, w t) = L at hL hT
  have hc : Ideal.div 1 (L : EReal) = ((1 / L : ℝ) : EReal) := by rw [Ideal.div_coe hL.ne', one_mul]
  have hd : ∀ x : EReal, Ideal.div x (L : EReal) = x * ((1 / L : ℝ) : EReal) := fun x => Ideal.div_coe hL.ne' x
  have hcc : Ideal.div 1 ((L : EReal) * (L : EReal)) = ((1 / L * (1 / L) : ℝ) : EReal) := by
    rw [← EReal.coe_mul, Ideal.div_coe (mul_pos hL hL).ne', one_mul, one_div_mul_one_div]
  have e := congrArg (fun x : ℝ => (x : EReal)) (ds_eq_real w (fun d => o (ix2 (tok b s) (qlane kv g d)))
    (fun u d => v (ix2 (tok b u) (vlane kv d))) (1 / L) t)
  simp only [EReal.coe_mul, EReal.coe_sub, EReal.coe_add, EReal.coe_neg, coe_sum] at e
  simp only [dsK, dsR, dP, out, hT, hc, hd, hcc, hw, EReal.coe_mul]
  exact e

/-- A term of the gradient of the values: the reciprocal times the exponential is the quotient. -/
theorem weight_eq (b kv : Fin 2) (g : Fin 4) (s t : Fin 4096) (x : EReal) :
    x * Ideal.div 1 (tot (up q) (up k) b kv g s) * wt (up q) (up k) b kv g s t
      = x * Ideal.div (wt (up q) (up k) b kv g s t) (tot (up q) (up k) b kv g s) := by
  obtain ⟨w, hpos, hw⟩ := wt_real q k b kv g s
  have hL : 0 < ∑ t, w t := Finset.sum_pos (fun t _ => hpos t) ⟨0, Finset.mem_univ _⟩
  rw [tot_real q k b kv g s w hw, Ideal.div_coe hL.ne', Ideal.div_coe hL.ne', one_mul, mul_assoc,
    mul_comm (wt (up q) (up k) b kv g s t)]

end Cert.AttnBwd

end
-- ==== Proof.AttnBwd.Finite.lean ====
/-
  The precondition, read: every element of the four arguments is a real number.
-/
module

public import proofs.«01_k».proof.Defs
public import proofs.«01_k».proof.Proof.AttnBwd.Model

@[expose] public section

set_option maxRecDepth 16384

noncomputable section

namespace Cert.Pre_all_finite

open Idealize.ShloMosaic Idealize.ShloMosaic.TcCoe Idealize.ShloMosaic.Tactic

/-- The side conditions of the precondition. -/
theorem facts : Facts where
  bcast_S_S8192x512 := by decide
  bcast_S_S8192x128 := by decide

/-- Where the comparison of the absolute value with infinity is true, the element is a real. -/
theorem real_of_lt (x : EReal) (h : max x (-x) < Ideal.ofBits .f32 0x7F800000#32) : ∃ r : ℝ, x = (r : EReal) := by
  have e : Ideal.ofBits .f32 0x7F800000#32 = (⊤ : EReal) := by simp [Ideal.ofBits, Ideal.ieee]
  rw [e] at h
  refine ⟨x.toReal, (EReal.coe_toReal (fun hx => ?_) (fun hx => ?_)).symm⟩
  · rw [hx] at h; exact absurd h (by simp)
  · rw [hx] at h; exact absurd h (by simp)

/-- The same for an array whose comparison is all ones. -/
theorem real_of_ones (S : Shape) (b : (⟨0, ![]⟩ : Shape).BroadcastsInDim S ![]) (x : FVec Ideal S .f32)
    (h : cmpf .olt (Host.absf x) (broadcastInDim S ![] b (constant ⟨0, ![]⟩ .f32 0x7F800000#32)) = fun _ => 1#1) (i : S.Idx) :
    ∃ r : ℝ, x i = (r : EReal) := by
  have h' : BitVec.ofBool (decide (max (x i) (-(x i)) < Ideal.ofBits .f32 0x7F800000#32)) = 1#1 := congrFun h i
  refine real_of_lt _ ?_
  by_contra hn
  rw [decide_eq_false hn] at h'
  exact absurd h' (by decide)

/-- An array of reals, as such. -/
theorem exists_array {S : Shape} (x : S.Idx → EReal) (h : ∀ i, ∃ r : ℝ, x i = (r : EReal)) :
    ∃ y : S.Idx → ℝ, x = fun i => (y i : EReal) :=
  ⟨fun i => (h i).choose, funext fun i => (h i).choose_spec⟩

end Cert.Pre_all_finite

end
-- ==== Proof.AttnBwd.Results.lean ====
/-
  The three results of the kernel are the reference's three, as arrays.
-/
module

public import proofs.«01_k».proof.Proof.AttnBwd.Arrays
public import proofs.«01_k».proof.Proof.AttnBwd.Reference
public import proofs.«01_k».proof.Proof.AttnBwd.Equation
public import proofs.«01_k».proof.Proof.AttnBwd.Finite

@[expose] public section

set_option maxRecDepth 16384

noncomputable section

namespace Cert.KernelIdeal.AttnBwd

open Idealize.ShloMosaic Idealize.ShloMosaic.TcCoe Idealize.ShloMosaic.Tactic
open Cert.KernelIdeal Cert.KernelIdeal.Gen Cert.AttnBwd
open Cert.ReferenceIdeal.Read (val_main_v62 val_main_v64 val_main_v66)

/-- Every index of a `[token, lane of the queries]` array is a lane of a head of a token of a sequence. -/
theorem index_q (i : S8192x512.Idx) :
    ∃ (b kv : Fin 2) (g : Fin 4) (s : Fin 4096) (d : Fin 64), i = ix2 (tok b s) (qlane kv g d) := by
  have h0 : (i 0).val < 8192 := (i 0).isLt
  have h1 : (i 1).val < 512 := (i 1).isLt
  refine ⟨⟨(i 0).val / 4096, by omega⟩, ⟨(i 1).val / 256, by omega⟩, ⟨(i 1).val % 256 / 64, by omega⟩,
    ⟨(i 0).val % 4096, by omega⟩, ⟨(i 1).val % 64, by omega⟩, funext fun a => Fin.ext ?_⟩
  match a with
  | ⟨0, _⟩ => show (i 0).val = (i 0).val / 4096 * 4096 + (i 0).val % 4096; omega
  | ⟨1, _⟩ => show (i 1).val = (i 1).val / 256 * 256 + (i 1).val % 256 / 64 * 64 + (i 1).val % 64; omega

/-- Every index of a `[sequence, lane of the keys, token]` array is a lane of a head. -/
theorem index_k (i : S2x128x4096.Idx) :
    ∃ (b kv : Fin 2) (t : Fin 4096) (d : Fin 64), i = ix3 b (vlane kv d) t := by
  have h1 : (i 1).val < 128 := (i 1).isLt
  refine ⟨i 0, ⟨(i 1).val / 64, by omega⟩, i 2, ⟨(i 1).val % 64, by omega⟩, funext fun a => Fin.ext ?_⟩
  match a with
  | ⟨0, _⟩ => rfl
  | ⟨1, _⟩ => show (i 1).val = (i 1).val / 64 * 64 + (i 1).val % 64; omega
  | ⟨2, _⟩ => rfl

variable (m : (ℓ : Loc nD τ sig) → Buf (Elt Ideal) ℓ) (c : Dev nD)

/-- Every element of the four arguments is a real. -/
def Reals : Prop :=
  (∃ x : S8192x512.Idx → ℝ, argQ m c = up x) ∧ (∃ x : S8192x128.Idx → ℝ, argK m c = up x)
    ∧ (∃ x : S8192x128.Idx → ℝ, argV m c = up x) ∧ (∃ x : S8192x512.Idx → ℝ, argO m c = up x)

variable {m c}

/-- The two gradients of the scores agree. -/
theorem ds_eq_of (h : Reals m c) :
    dsK (argQ m c) (argK m c) (argV m c) (argO m c) = dsR (argQ m c) (argK m c) (argV m c) (argO m c) := by
  obtain ⟨⟨q, hq⟩, ⟨k, hk⟩, ⟨v, hv⟩, ⟨o, ho⟩⟩ := h
  rw [hq, hk, hv, ho]
  funext b kv g s t
  exact ds_eq q o k v b kv g s t

/-- The gradient of the queries. -/
theorem result_q (h : Reals m c) :
    ((dats m 0 c).arrAt 7 cfg0.N : S8192x512.Idx → EReal)
      = val_main_v62 (F := Ideal) (argQ m c) (argK m c) (argV m c) (argO m c) := by
  funext i
  obtain ⟨b, kv, g, s, d, rfl⟩ := index_q i
  rw [arr7 m c b kv g s d, Cert.ReferenceIdeal.AttnBwd.dq_at, ds_eq_of h]

/-- The gradient of the keys. -/
theorem result_k (h : Reals m c) :
    ((dats m 0 c).arrAt 8 cfg0.N : S2x128x4096.Idx → EReal)
      = val_main_v64 (F := Ideal) (argQ m c) (argK m c) (argV m c) (argO m c) := by
  funext i
  obtain ⟨b, kv, t, d, rfl⟩ := index_k i
  have e : ∑ g : Fin 4, ∑ s : Fin 4096,
        argQ m c (ix2 (tok b s) (qlane kv g d)) * dsK (argQ m c) (argK m c) (argV m c) (argO m c) b kv g s t
      = ∑ g : Fin 4, ∑ s : Fin 4096,
        dsR (argQ m c) (argK m c) (argV m c) (argO m c) b kv g s t * argQ m c (ix2 (tok b s) (qlane kv g d)) := by
    rw [ds_eq_of h]
    exact Finset.sum_congr rfl fun g _ => Finset.sum_congr rfl fun s _ => mul_comm _ _
  exact (arr8 m c b kv t d).trans (e.trans (Cert.ReferenceIdeal.AttnBwd.dk_at _ _ _ _ b kv t d).symm)

/-- The gradient of the values. -/
theorem result_v (h : Reals m c) :
    ((dats m 0 c).arrAt 9 cfg0.N : S2x128x4096.Idx → EReal)
      = val_main_v66 (F := Ideal) (argQ m c) (argK m c) (argO m c) := by
  funext i
  obtain ⟨b, kv, t, d, rfl⟩ := index_k i
  have e : ∑ g : Fin 4, ∑ s : Fin 4096, argO m c (ix2 (tok b s) (qlane kv g d))
          * Ideal.div 1 (tot (argQ m c) (argK m c) b kv g s) * wt (argQ m c) (argK m c) b kv g s t
      = ∑ g : Fin 4, ∑ s : Fin 4096, argO m c (ix2 (tok b s) (qlane kv g d))
          * Ideal.div (wt (argQ m c) (argK m c) b kv g s t) (tot (argQ m c) (argK m c) b kv g s) := by
    obtain ⟨⟨q, hq⟩, ⟨k, hk⟩, _, _⟩ := h
    rw [hq, hk]
    exact Finset.sum_congr rfl fun g _ => Finset.sum_congr rfl fun s _ => weight_eq q k b kv g s t _
  exact (arr9 m c b kv t d).trans (e.trans (Cert.ReferenceIdeal.AttnBwd.dv_at _ _ _ b kv t d).symm)

/-- The precondition gives the reals. -/
theorem reals_of_pre [hP : Cert.Pre_all_finite.Facts] (h : Cert.Pre_KernelIdeal_all_finite m) (c : Dev nD) : Reals m c :=
  ⟨Cert.Pre_all_finite.exists_array _ (Cert.Pre_all_finite.real_of_ones _ _ _ (h c).1),
    Cert.Pre_all_finite.exists_array _ (Cert.Pre_all_finite.real_of_ones _ _ _ (h c).2.1),
    Cert.Pre_all_finite.exists_array _ (Cert.Pre_all_finite.real_of_ones _ _ _ (h c).2.2.1),
    Cert.Pre_all_finite.exists_array _ (Cert.Pre_all_finite.real_of_ones _ _ _ (h c).2.2.2)⟩

end Cert.KernelIdeal.AttnBwd

end
-- ==== Proof.WeightGrad.Down.lean ====
/-
  The gradient of the feed-forward layer's second weight: what the kernel's array and the reference hold, at an index.
-/
module

public import proofs.«01_k».proof.Proof.Gen.Kernel3Ideal.Value
public import proofs.«01_k».proof.Proof.Gen.Reference3Ideal.Read
public import Idealize.ShloMosaic.Lib.Pointwise
public import Idealize.ShloMosaic.Lib.Pipeline.ReadBack
public import Idealize.ShloMosaic.Lib.Pipeline.ValueKit.Tiles
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Kernel3Ideal.WeightGrad

open Idealize.ShloMosaic Idealize.ShloMosaic.TcCoe Idealize.ShloMosaic.Tactic
open Cert.Kernel3Ideal Cert.Kernel3Ideal.Gen Cert.Kernel3Ideal.Value

variable (m : (ℓ : Loc nD τ sig) → Buf (Elt Ideal) ℓ)

/-- The two arguments on device `c`: the activation and the gradient of the layer's output. -/
abbrev argU (c : Dev nD) : S8192x4096.Idx → EReal := m (c, Proc.tc.devRef main_arg0)
abbrev argF (c : Dev nD) : S8192x1024.Idx → EReal := m (c, Proc.tc.devRef main_arg1)

/-- What a grid point adds to an element, of its blocks of the two arguments. -/
def part (a b : S4096x1024.Idx → EReal) (x : Fin 1024 × Fin 1024) : EReal :=
  ∑ r : Fin 4096, (a (ix2 r x.1) * a (ix2 r x.1)) * b (ix2 r x.2)

theorem hz : (![0, 0] : Fin 2 → Nat) = fun _ => 0 := funext fun a => by fin_cases a <;> rfl

/-- The first block of tokens stores its part. -/
theorem first (c : Dev nD) (t : Fin cfg0.N) (h0 : t.val % 2 = 0) (x : Fin 1024 × Fin 1024) :
    outsAt0 m c t.val t.isLt (ix2 x.1 x.2) = 0 + part (iblk m c 0 t) (iblk m c 1 t) x := by
  generalize hX : part (iblk m c 0 t) (iblk m c 1 t) x = X
  rw [outsAt0_A m c t h0 (by omega), zero_add]
  unfold out0_A_2
  rw [View.read_writes_eq_canon _ _ _ (cover0_A_2 _ _ _ _ _ _ _ _ _ _ _ _)]
  unfold kernelRun0_A
  dsimp only
  rw [View.canon_unit_zero hz]
  simp only [View.readAt_eq_ld, (hs0_0 t).read_unread, (hs0_1 t).read_unread]
  unfold_payloads
  pointwise
  rw [← hX]
  rfl

/-- Every later block of tokens adds its part. -/
theorem next (c : Dev nD) (t : Fin cfg0.N) (h0 : ¬ t.val % 2 = 0) (x : Fin 1024 × Fin 1024) :
    outsAt0 m c t.val t.isLt (ix2 x.1 x.2)
      = outsAt0 m c (t.val - 1) (Nat.lt_of_le_of_lt (Nat.sub_le _ _) t.isLt) (ix2 x.1 x.2)
        + part (iblk m c 0 t) (iblk m c 1 t) x := by
  generalize hX : part (iblk m c 0 t) (iblk m c 1 t) x = X
  rw [outsAt0_B m c t h0 (by omega)]
  unfold out0_B_2
  rw [View.read_writes_eq_canon _ _ _ (cover0_B_2 _ _ _ _ _ _ _ _ _ _ _ _ _)]
  unfold kernelRun0_B
  dsimp only
  rw [View.canon_unit_zero hz]
  simp only [View.readAt_eq_ld, (hs0_0 t).read_unread, (hs0_1 t).read_unread, (hs0_2 t).read_unread]
  unfold_payloads
  pointwise
  rw [← hX]
  rfl

/-! ## Where the blocks lie -/

theorem idx0 : ∀ t : Fin cfg0.N, win0_0.index t = ![t.val % 2, t.val / 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

/-- The arguments, cast. -/
theorem host_u (c : Dev nD) (t : Fin 8192) (i : Fin 4096) :
    (V m c main_v0 : S8192x4096.Idx → EReal) (ix2 t i) = argU m c (ix2 t i) := by
  unfold V
  after_reads_at

theorem host_f (c : Dev nD) (t : Fin 8192) (j : Fin 1024) :
    (V m c main_v1 : S8192x1024.Idx → EReal) (ix2 t j) = argF m c (ix2 t j) := by
  unfold V
  after_reads_at

/-- The grid point of the rows `ib` of the result and the block `k` of tokens. -/
abbrev pt (ib : Fin 4) (k : Fin 2) : Fin cfg0.N := ⟨ib.val * 2 + k.val, by show _ < 8; omega⟩

theorem blk_u (c : Dev nD) (ib : Fin 4) (k : Fin 2) (r : Fin 4096) (i : Fin 1024) :
    (iblk m c 0 (pt ib k) : S4096x1024.Idx → EReal) (ix2 r i)
      = argU m c (ix2 ⟨k.val * 4096 + r.val, by omega⟩ ⟨ib.val * 1024 + i.val, by omega⟩) := by
  blk_simp [iblk]
  refine Eq.trans ?_ (host_u m c _ _)
  blk_ext [idx0]

theorem blk_f (c : Dev nD) (ib : Fin 4) (k : Fin 2) (r : Fin 4096) (j : Fin 1024) :
    (iblk m c 1 (pt ib k) : S4096x1024.Idx → EReal) (ix2 r j) = argF m c (ix2 ⟨k.val * 4096 + r.val, by omega⟩ j) := by
  blk_simp [iblk]
  refine Eq.trans ?_ (host_f m c _ _)
  blk_ext [idx1]

theorem part_at (c : Dev nD) (ib : Fin 4) (k : Fin 2) (x j : Fin 1024) :
    part (iblk m c 0 (pt ib k)) (iblk m c 1 (pt ib k)) (x, j)
      = ∑ r : Fin 4096, (argU m c (ix2 ⟨k.val * 4096 + r.val, by omega⟩ ⟨ib.val * 1024 + x.val, by omega⟩)
          * argU m c (ix2 ⟨k.val * 4096 + r.val, by omega⟩ ⟨ib.val * 1024 + x.val, by omega⟩))
          * argF m c (ix2 ⟨k.val * 4096 + r.val, by omega⟩ j) := by
  unfold part
  refine Finset.sum_congr rfl fun r _ => ?_
  rw [blk_u, blk_f]

/-! ## The result array -/

theorem disjoint2 : ∀ t t' : Fin cfg0.N, (cfg0.win 2).flush t = true → (cfg0.win 2).flush t' = true → t ≠ t' →
    Disjoint ((cfg0.win 2).blk t).view.set ((cfg0.win 2).blk t').view.set :=
  (cfg0.win 2).hdisj_of_index_inj fun t t' hf hf' h => by
    have h2 : win0_2.index t = win0_2.index t' := h
    rw [idx2, idx2] at h2
    have e0 := congrFun h2 0
    simp at e0
    have := (flush0_2 t).mp hf
    have := (flush0_2 t').mp hf'
    exact Fin.ext (by omega)

/-- The block after the last tokens: the sum of both parts. -/
theorem acc (c : Dev nD) (ib : Fin 4) (x : Fin 1024 × Fin 1024) :
    outsAt0 m c (pt ib 1).val (pt ib 1).isLt (ix2 x.1 x.2)
      = ∑ k : Fin 2, part (iblk m c 0 (pt ib k)) (iblk m c 1 (pt ib k)) x := by
  have h := Pipeline.eq_sum_fin_of_reset_step_apply_of_flush
    (fun n h (x : Fin 1024 × Fin 1024) => outsAt0 m c n h (ix2 x.1 x.2)) 2 (fun _ => 0)
    (fun t x => part (iblk m c 0 t) (iblk m c 1 t) x)
    (first m c) (next m c) (pt ib 1) (by show (ib.val * 2 + 1) % 2 = 1; omega) x
  rw [zero_add] at h
  refine h.trans (Finset.sum_congr rfl fun k _ =>
    congrArg (fun t => part (iblk m c 0 t) (iblk m c 1 t) x) (Fin.ext ?_))
  simp
  omega

/-- The result at an index: the sum over all tokens of the squared activation times the output's gradient. -/
theorem arr (c : Dev nD) (i : Fin 4096) (j : Fin 1024) :
    ((dats m 0 c).arrAt 2 cfg0.N : S4096x1024.Idx → EReal) (ix2 i j)
      = ∑ t : Fin 8192, (argU m c (ix2 t i) * argU m c (ix2 t i)) * argF m c (ix2 t j) := by
  set ib : Fin 4 := ⟨i.val / 1024, by omega⟩ with hib
  set x : Fin 1024 := ⟨i.val % 1024, by omega⟩ with hx
  have hiv : ib.val = i.val / 1024 := rfl
  have hxv : x.val = i.val % 1024 := rfl
  have hi : (⟨ib.val * 1024 + x.val, by omega⟩ : Fin 4096) = i := Fin.ext (by show ib.val * 1024 + x.val = i.val; omega)
  have h := (dats m 0 c).arrAt_emb_eq_flushed 2 disjoint2 (pt ib 1)
    ((flush0_2 _).mpr (by show (ib.val * 2 + 1) % 2 = 1; omega)) (ix2 x j)
  rw [flushed2] at h
  refine Eq.trans ?_ (h.trans (Eq.trans ?_ ((acc m c ib (x, j)).trans ?_)))
  · blk_ext [idx2]
  · rfl
  · refine Eq.trans (Finset.sum_congr rfl fun k _ => part_at m c ib k x j) ?_
    rw [hi]
    exact Fin.sum_mul_add_fin 2 4096 fun t : Fin 8192 => (argU m c (ix2 t i) * argU m c (ix2 t i)) * argF m c (ix2 t j)

end Cert.Kernel3Ideal.WeightGrad

namespace Cert.Reference3Ideal.WeightGrad

open Idealize.ShloMosaic Idealize.ShloMosaic.TcCoe Idealize.ShloMosaic.Tactic
open Cert.Reference3Ideal Cert.Reference3Ideal.Gen Cert.Reference3Ideal.Read

/-- The reference at an index. -/
theorem at_index (u : S8192x4096.Idx → EReal) (f : S8192x1024.Idx → EReal) (i : Fin 4096) (j : Fin 1024) :
    val_main_v4 (F := Ideal) u f (ix2 i j) = ∑ t : Fin 8192, (u (ix2 t i) * u (ix2 t i)) * f (ix2 t j) := by
  rw [val_main_v4_apply, val_main_v3_apply]
  refine Finset.sum_congr rfl fun t _ => ?_
  rw [mul_comm, val_main_v1_apply]
  have e : ridx_main_v3 (idx_main_v4 (ix2 i j)) t = ix2 t i :=
    funext fun a => match a with | ⟨0, _⟩ => rfl | ⟨1, _⟩ => rfl
  have e' : lidx_main_v3 (idx_main_v4 (ix2 i j)) t = ix2 t j :=
    funext fun a => match a with | ⟨0, _⟩ => rfl | ⟨1, _⟩ => rfl
  rw [e, e']
  rfl

end Cert.Reference3Ideal.WeightGrad

namespace Cert.Kernel3Ideal.WeightGrad

open Idealize.ShloMosaic Idealize.ShloMosaic.TcCoe Idealize.ShloMosaic.Tactic

/-- The kernel's result is the reference's. -/
theorem result (m : (ℓ : Loc nD τ sig) → Buf (Elt Ideal) ℓ) (c : Dev nD) :
    (Gen.dats m 0 c).arrAt 2 cfg0.N = Cert.Reference3Ideal.Read.val_main_v4 (F := Ideal) (argU m c) (argF m c) := by
  funext y
  rw [eq_ix2 y]
  exact (arr m c (y 0) (y 1)).trans (Cert.Reference3Ideal.WeightGrad.at_index (argU m c) (argF m c) (y 0) (y 1)).symm

end Cert.Kernel3Ideal.WeightGrad

end
-- ==== Proof.WeightGrad.Up.lean ====
/-
  The gradient of the feed-forward layer's first weight: what the kernel's array and the reference hold, at an index.
-/
module

public import proofs.«01_k».proof.Proof.Gen.Kernel4Ideal.Value
public import proofs.«01_k».proof.Proof.Gen.Reference4Ideal.Read
public import Idealize.ShloMosaic.Lib.Pointwise
public import Idealize.ShloMosaic.Lib.Pipeline.ReadBack
public import Idealize.ShloMosaic.Lib.Pipeline.ValueKit.Tiles
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Kernel4Ideal.WeightGrad

open Idealize.ShloMosaic Idealize.ShloMosaic.TcCoe Idealize.ShloMosaic.Tactic
open Cert.Kernel4Ideal Cert.Kernel4Ideal.Gen Cert.Kernel4Ideal.Value

variable (m : (ℓ : Loc nD τ sig) → Buf (Elt Ideal) ℓ)

/-- The two arguments on device `c`: the layer's input and the gradient of its activation's argument. -/
abbrev argH (c : Dev nD) : S8192x1024.Idx → EReal := m (c, Proc.tc.devRef main_arg0)
abbrev argD (c : Dev nD) : S8192x4096.Idx → EReal := m (c, Proc.tc.devRef main_arg1)

/-- What a grid point adds to an element (piece, row, column of the piece), of its blocks of the two arguments. -/
def part (a : S4096x1024.Idx → EReal) (b : S4096x1024.Idx → EReal) (x : Fin 1 × Fin 1024 × Fin 1024) : EReal :=
  ∑ r : Fin 4096, a (ix2 r x.2.1) * b (ix2 r ⟨x.1.val * 1024 + x.2.2.val, by omega⟩)

theorem hz : (![0, 0, 0] : Fin 3 → Nat) = fun _ => 0 := funext fun a => by fin_cases a <;> rfl

/-- The first block of tokens stores its part. -/
theorem first (c : Dev nD) (t : Fin cfg0.N) (h0 : t.val % 2 = 0) (x : Fin 1 × Fin 1024 × Fin 1024) :
    outsAt0 m c t.val t.isLt (ix3 x.1 x.2.1 x.2.2) = 0 + part (iblk m c 0 t) (iblk m c 1 t) x := by
  generalize hX : part (iblk m c 0 t) (iblk m c 1 t) x = X
  rw [outsAt0_A m c t h0 (by omega), zero_add]
  unfold out0_A_2
  rw [View.read_writes_eq_canon _ _ _ (cover0_A_2 _ _ _ _ _ _ _ _ _ _ _ _)]
  unfold kernelRun0_A
  dsimp only
  rw [View.canon_unit_zero hz]
  simp only [View.readAt_eq_ld, (hs0_0 t).read_unread, (hs0_1 t).read_unread]
  rw [← hX]
  obtain ⟨p, i, j⟩ := x
  fin_cases p
  unfold_payloads
  pointwise
  unfold part
  simp

/-- Every later block of tokens adds its part. -/
theorem next (c : Dev nD) (t : Fin cfg0.N) (h0 : ¬ t.val % 2 = 0) (x : Fin 1 × Fin 1024 × Fin 1024) :
    outsAt0 m c t.val t.isLt (ix3 x.1 x.2.1 x.2.2)
      = outsAt0 m c (t.val - 1) (Nat.lt_of_le_of_lt (Nat.sub_le _ _) t.isLt) (ix3 x.1 x.2.1 x.2.2)
        + part (iblk m c 0 t) (iblk m c 1 t) x := by
  generalize hX : part (iblk m c 0 t) (iblk m c 1 t) x = X
  rw [outsAt0_B m c t h0 (by omega)]
  unfold out0_B_2
  rw [View.read_writes_eq_canon _ _ _ (cover0_B_2 _ _ _ _ _ _ _ _ _ _ _ _ _)]
  unfold kernelRun0_B
  dsimp only
  rw [View.canon_unit_zero hz]
  simp only [View.readAt_eq_ld, (hs0_0 t).read_unread, (hs0_1 t).read_unread, (hs0_2 t).read_unread]
  rw [← hX]
  obtain ⟨p, i, j⟩ := x
  fin_cases p
  unfold_payloads
  pointwise
  unfold part
  simp

/-! ## Where the blocks lie -/

theorem idx0 : ∀ t : Fin cfg0.N, win0_0.index t = ![t.val % 2, 0] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![t.val / 2, 0, 0] := (by decide +kernel : ∀ t : Fin grid0.N, _)

/-- The arguments, cast. -/
theorem host_h (c : Dev nD) (t : Fin 8192) (i : Fin 1024) :
    (V m c main_v0 : S8192x1024.Idx → EReal) (ix2 t i) = argH m c (ix2 t i) := by
  unfold V
  after_reads_at

theorem host_d (c : Dev nD) (t : Fin 8192) (j : Fin 4096) :
    (V m c main_v1 : S8192x4096.Idx → EReal) (ix2 t j) = argD m c (ix2 t j) := by
  unfold V
  after_reads_at

/-- The grid point of the columns `jb` and the block `k` of tokens. -/
abbrev pt (jb : Fin 4) (k : Fin 2) : Fin cfg0.N := ⟨jb.val * 2 + k.val, by show _ < 8; omega⟩

theorem blk_h (c : Dev nD) (jb : Fin 4) (k : Fin 2) (r : Fin 4096) (i : Fin 1024) :
    (iblk m c 0 (pt jb k) : S4096x1024.Idx → EReal) (ix2 r i) = argH m c (ix2 ⟨k.val * 4096 + r.val, by omega⟩ i) := by
  blk_simp [iblk]
  refine Eq.trans ?_ (host_h m c _ _)
  blk_ext [idx0]

theorem blk_d (c : Dev nD) (jb : Fin 4) (k : Fin 2) (r : Fin 4096) (j : Fin 1024) :
    (iblk m c 1 (pt jb k) : S4096x1024.Idx → EReal) (ix2 r j)
      = argD m c (ix2 ⟨k.val * 4096 + r.val, by omega⟩ ⟨jb.val * 1024 + j.val, by omega⟩) := by
  blk_simp [iblk]
  refine Eq.trans ?_ (host_d m c _ _)
  blk_ext [idx1]

theorem part_at (c : Dev nD) (jb : Fin 4) (k : Fin 2) (x : Fin 1 × Fin 1024 × Fin 1024) :
    part (iblk m c 0 (pt jb k)) (iblk m c 1 (pt jb k)) x
      = ∑ r : Fin 4096, argH m c (ix2 ⟨k.val * 4096 + r.val, by omega⟩ x.2.1)
          * argD m c (ix2 ⟨k.val * 4096 + r.val, by omega⟩ ⟨jb.val * 1024 + (x.1.val * 1024 + x.2.2.val), by omega⟩) := by
  unfold part
  refine Finset.sum_congr rfl fun r _ => ?_
  rw [blk_h, blk_d]

/-! ## The result array -/

theorem disjoint2 : ∀ t t' : Fin cfg0.N, (cfg0.win 2).flush t = true → (cfg0.win 2).flush t' = true → t ≠ t' →
    Disjoint ((cfg0.win 2).blk t).view.set ((cfg0.win 2).blk t').view.set :=
  (cfg0.win 2).hdisj_of_index_inj fun t t' hf hf' h => by
    have h2 : win0_2.index t = win0_2.index t' := h
    rw [idx2, idx2] at h2
    have e0 := congrFun h2 0
    simp at e0
    have := (flush0_2 t).mp hf
    have := (flush0_2 t').mp hf'
    exact Fin.ext (by omega)

/-- The block after the last tokens: the sum of both parts. -/
theorem acc (c : Dev nD) (jb : Fin 4) (x : Fin 1 × Fin 1024 × Fin 1024) :
    outsAt0 m c (pt jb 1).val (pt jb 1).isLt (ix3 x.1 x.2.1 x.2.2)
      = ∑ k : Fin 2, part (iblk m c 0 (pt jb k)) (iblk m c 1 (pt jb k)) x := by
  have h := Pipeline.eq_sum_fin_of_reset_step_apply_of_flush
    (fun n h (x : Fin 1 × Fin 1024 × Fin 1024) => outsAt0 m c n h (ix3 x.1 x.2.1 x.2.2)) 2 (fun _ => 0)
    (fun t x => part (iblk m c 0 t) (iblk m c 1 t) x)
    (first m c) (next m c) (pt jb 1) (by show (jb.val * 2 + 1) % 2 = 1; omega) x
  rw [zero_add] at h
  refine h.trans (Finset.sum_congr rfl fun k _ =>
    congrArg (fun t => part (iblk m c 0 t) (iblk m c 1 t) x) (Fin.ext ?_))
  simp
  omega

/-- The result at an index (piece, row, column of the piece): the sum over all tokens of the input times the output's
    gradient. -/
theorem arr (c : Dev nD) (p : Fin 4) (i : Fin 1024) (j : Fin 1024) :
    ((dats m 0 c).arrAt 2 cfg0.N : S4x1024x1024.Idx → EReal) (ix3 p i j)
      = ∑ t : Fin 8192, argH m c (ix2 t i) * argD m c (ix2 t ⟨p.val * 1024 + j.val, by omega⟩) := by
  set jb : Fin 4 := ⟨p.val / 1, by omega⟩ with hjb
  set y : Fin 1 := ⟨p.val % 1, by omega⟩ with hy
  have hjv : jb.val = p.val / 1 := rfl
  have hyv : y.val = p.val % 1 := rfl
  have hj : ∀ h, (⟨jb.val * 1024 + (y.val * 1024 + j.val), h⟩ : Fin 4096) = ⟨p.val * 1024 + j.val, by omega⟩ :=
    fun h => Fin.ext (by show jb.val * 1024 + (y.val * 1024 + j.val) = p.val * 1024 + j.val; omega)
  have h := (dats m 0 c).arrAt_emb_eq_flushed 2 disjoint2 (pt jb 1)
    ((flush0_2 _).mpr (by show (jb.val * 2 + 1) % 2 = 1; omega)) (ix3 y i j)
  rw [flushed2] at h
  refine Eq.trans ?_ (h.trans (Eq.trans ?_ ((acc m c jb (y, i, j)).trans ?_)))
  · blk_ext [idx2]
  · rfl
  · refine Eq.trans (Finset.sum_congr rfl fun k _ => part_at m c jb k (y, i, j)) ?_
    simp only [hj]
    exact Fin.sum_mul_add_fin 2 4096 fun t : Fin 8192 =>
      argH m c (ix2 t i) * argD m c (ix2 t ⟨p.val * 1024 + j.val, by omega⟩)

end Cert.Kernel4Ideal.WeightGrad

namespace Cert.Reference4Ideal.WeightGrad

open Idealize.ShloMosaic Idealize.ShloMosaic.TcCoe Idealize.ShloMosaic.Tactic
open Cert.Reference4Ideal Cert.Reference4Ideal.Gen Cert.Reference4Ideal.Read

/-- The reference at an index. -/
theorem at_index (h : S8192x1024.Idx → EReal) (d : S8192x4096.Idx → EReal) (p : Fin 4) (i : Fin 1024) (j : Fin 1024) :
    val_main_v5 (F := Ideal) h d (ix3 p i j)
      = ∑ t : Fin 8192, h (ix2 t i) * d (ix2 t ⟨p.val * 1024 + j.val, by omega⟩) := by
  rw [val_main_v5_apply, val_main_v4_apply, val_main_v3_apply, val_main_v2_apply]
  refine Finset.sum_congr rfl fun t _ => ?_
  rw [mul_comm]
  refine congrArg₂ (· * ·) (congrArg h (funext fun a => Fin.ext ?_)) (congrArg d (funext fun a => Fin.ext ?_))
  · match a with
    | ⟨0, _⟩ => rfl
    | ⟨1, _⟩ => show ((i.val * 4 + p.val) * 1024 + j.val) / 4096 = i.val; omega
  · match a with
    | ⟨0, _⟩ => rfl
    | ⟨1, _⟩ => show ((i.val * 4 + p.val) * 1024 + j.val) % 4096 = p.val * 1024 + j.val; omega

end Cert.Reference4Ideal.WeightGrad

namespace Cert.Kernel4Ideal.WeightGrad

open Idealize.ShloMosaic Idealize.ShloMosaic.TcCoe Idealize.ShloMosaic.Tactic

/-- The kernel's result is the reference's. -/
theorem result (m : (ℓ : Loc nD τ sig) → Buf (Elt Ideal) ℓ) (c : Dev nD) :
    (Gen.dats m 0 c).arrAt 2 cfg0.N = Cert.Reference4Ideal.Read.val_main_v5 (F := Ideal) (argH m c) (argD m c) := by
  funext y
  rw [eq_ix3 y]
  exact (arr m c (y 0) (y 1) (y 2)).trans
    (Cert.Reference4Ideal.WeightGrad.at_index (argH m c) (argD m c) (y 0) (y 1) (y 2)).symm

end Cert.Kernel4Ideal.WeightGrad

end
-- ==== Proof.WeightGrad.Out.lean ====
/-
  The gradient of the heads' output projection: what the kernel's array and the reference hold, at an index.
-/
module

public import proofs.«01_k».proof.Proof.Gen.Kernel5Ideal.Value
public import proofs.«01_k».proof.Proof.Gen.Reference5Ideal.Read
public import Idealize.ShloMosaic.Lib.Pointwise
public import Idealize.ShloMosaic.Lib.Pipeline.ReadBack
public import Idealize.ShloMosaic.Lib.Pipeline.ValueKit.Tiles
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Kernel5Ideal.WeightGrad

open Idealize.ShloMosaic Idealize.ShloMosaic.TcCoe Idealize.ShloMosaic.Tactic
open Cert.Kernel5Ideal Cert.Kernel5Ideal.Gen Cert.Kernel5Ideal.Value

variable (m : (ℓ : Loc nD τ sig) → Buf (Elt Ideal) ℓ)

/-- The two arguments on device `c`: the heads' outputs and the gradient of the projection's. -/
abbrev argO (c : Dev nD) : S8192x1024.Idx → EReal := m (c, Proc.tc.devRef main_arg0)
abbrev argM (c : Dev nD) : S8192x1024.Idx → EReal := m (c, Proc.tc.devRef main_arg1)

/-- What a grid point adds to an element, of its blocks of the two arguments. -/
def part (a b : S2048x1024.Idx → EReal) (x : Fin 1024 × Fin 1024) : EReal :=
  ∑ r : Fin 2048, a (ix2 r x.1) * b (ix2 r x.2)

theorem hz : (![0, 0] : Fin 2 → Nat) = fun _ => 0 := funext fun a => by fin_cases a <;> rfl

/-- The first block of tokens stores its part. -/
theorem first (c : Dev nD) (t : Fin cfg0.N) (h0 : t.val % 4 = 0) (x : Fin 1024 × Fin 1024) :
    outsAt0 m c t.val t.isLt (ix2 x.1 x.2) = 0 + part (iblk m c 0 t) (iblk m c 1 t) x := by
  generalize hX : part (iblk m c 0 t) (iblk m c 1 t) x = X
  rw [outsAt0_A m c t h0 (by have := lt_of_lt_of_eq t.isLt (show cfg0.N = 4 from N_0); omega), zero_add]
  unfold out0_A_2
  rw [View.read_writes_eq_canon _ _ _ (cover0_A_2 _ _ _ _ _ _ _ _ _ _ _ _)]
  unfold kernelRun0_A
  dsimp only
  rw [View.canon_unit_zero hz]
  simp only [View.readAt_eq_ld, (hs0_0 t).read_unread, (hs0_1 t).read_unread]
  unfold_payloads
  pointwise
  rw [← hX]
  rfl

/-- Every later block of tokens adds its part. -/
theorem next (c : Dev nD) (t : Fin cfg0.N) (h0 : ¬ t.val % 4 = 0) (x : Fin 1024 × Fin 1024) :
    outsAt0 m c t.val t.isLt (ix2 x.1 x.2)
      = outsAt0 m c (t.val - 1) (Nat.lt_of_le_of_lt (Nat.sub_le _ _) t.isLt) (ix2 x.1 x.2)
        + part (iblk m c 0 t) (iblk m c 1 t) x := by
  generalize hX : part (iblk m c 0 t) (iblk m c 1 t) x = X
  rw [outsAt0_B m c t h0 (by omega)]
  unfold out0_B_2
  rw [View.read_writes_eq_canon _ _ _ (cover0_B_2 _ _ _ _ _ _ _ _ _ _ _ _ _)]
  unfold kernelRun0_B
  dsimp only
  rw [View.canon_unit_zero hz]
  simp only [View.readAt_eq_ld, (hs0_0 t).read_unread, (hs0_1 t).read_unread, (hs0_2 t).read_unread]
  unfold_payloads
  pointwise
  rw [← hX]
  rfl

/-! ## Where the blocks lie -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The arguments, cast. -/
theorem host_o (c : Dev nD) (t : Fin 8192) (i : Fin 1024) :
    (V m c main_v0 : S8192x1024.Idx → EReal) (ix2 t i) = argO m c (ix2 t i) := by
  unfold V
  after_reads_at

theorem host_m (c : Dev nD) (t : Fin 8192) (j : Fin 1024) :
    (V m c main_v1 : S8192x1024.Idx → EReal) (ix2 t j) = argM m c (ix2 t j) := by
  unfold V
  after_reads_at

/-- The grid point of the block `k` of tokens. -/
abbrev pt (k : Fin 4) : Fin cfg0.N := ⟨k.val, by show _ < 4; omega⟩

theorem blk_o (c : Dev nD) (k : Fin 4) (r : Fin 2048) (i : Fin 1024) :
    (iblk m c 0 (pt k) : S2048x1024.Idx → EReal) (ix2 r i) = argO m c (ix2 ⟨k.val * 2048 + r.val, by omega⟩ i) := by
  blk_simp [iblk]
  refine Eq.trans ?_ (host_o m c _ _)
  blk_ext [idx0]

theorem blk_m (c : Dev nD) (k : Fin 4) (r : Fin 2048) (j : Fin 1024) :
    (iblk m c 1 (pt k) : S2048x1024.Idx → EReal) (ix2 r j) = argM m c (ix2 ⟨k.val * 2048 + r.val, by omega⟩ j) := by
  blk_simp [iblk]
  refine Eq.trans ?_ (host_m m c _ _)
  blk_ext [idx1]

theorem part_at (c : Dev nD) (k : Fin 4) (i j : Fin 1024) :
    part (iblk m c 0 (pt k)) (iblk m c 1 (pt k)) (i, j)
      = ∑ r : Fin 2048, argO m c (ix2 ⟨k.val * 2048 + r.val, by omega⟩ i)
          * argM m c (ix2 ⟨k.val * 2048 + r.val, by omega⟩ j) := by
  unfold part
  refine Finset.sum_congr rfl fun r _ => ?_
  rw [blk_o, blk_m]

/-! ## The result array -/

theorem disjoint2 : ∀ t t' : Fin cfg0.N, (cfg0.win 2).flush t = true → (cfg0.win 2).flush t' = true → t ≠ t' →
    Disjoint ((cfg0.win 2).blk t).view.set ((cfg0.win 2).blk t').view.set := fun t t' hf hf' hne => by
  have := (flush0_2 t).mp hf
  have := (flush0_2 t').mp hf'
  have := lt_of_lt_of_eq t.isLt (show cfg0.N = 4 from N_0)
  have := lt_of_lt_of_eq t'.isLt (show cfg0.N = 4 from N_0)
  exact absurd (Fin.ext (by omega)) hne

/-- The block after the last tokens: the sum of the four parts. -/
theorem acc (c : Dev nD) (x : Fin 1024 × Fin 1024) :
    outsAt0 m c (pt 3).val (pt 3).isLt (ix2 x.1 x.2)
      = ∑ k : Fin 4, part (iblk m c 0 (pt k)) (iblk m c 1 (pt k)) x := by
  have h := Pipeline.eq_sum_fin_of_reset_step_apply_of_flush
    (fun n h (x : Fin 1024 × Fin 1024) => outsAt0 m c n h (ix2 x.1 x.2)) 4 (fun _ => 0)
    (fun t x => part (iblk m c 0 t) (iblk m c 1 t) x)
    (first m c) (next m c) (pt 3) (by decide) x
  rw [zero_add] at h
  refine h.trans (Finset.sum_congr rfl fun k _ =>
    congrArg (fun t => part (iblk m c 0 t) (iblk m c 1 t) x) (Fin.ext ?_))
  simp

/-- The result at an index: the sum over all tokens of the head's output times the gradient. -/
theorem arr (c : Dev nD) (i : Fin 1024) (j : Fin 1024) :
    ((dats m 0 c).arrAt 2 cfg0.N : S1024x1024.Idx → EReal) (ix2 i j)
      = ∑ t : Fin 8192, argO m c (ix2 t i) * argM m c (ix2 t j) := by
  have h := (dats m 0 c).arrAt_emb_eq_flushed 2 disjoint2 (pt 3) ((flush0_2 _).mpr (by show 3 % 4 = 3; rfl)) (ix2 i j)
  rw [flushed2] at h
  have h' := acc m c (i, j)
  generalize pt 3 = t at h h'
  refine Eq.trans ?_ (h.trans (Eq.trans ?_ (h'.trans ?_)))
  · blk_ext [idx2]
  · rfl
  · refine Eq.trans (Finset.sum_congr rfl fun k _ => part_at m c k i j) ?_
    exact Fin.sum_mul_add_fin 4 2048 fun t : Fin 8192 => argO m c (ix2 t i) * argM m c (ix2 t j)

end Cert.Kernel5Ideal.WeightGrad

namespace Cert.Reference5Ideal.WeightGrad

open Idealize.ShloMosaic Idealize.ShloMosaic.TcCoe Idealize.ShloMosaic.Tactic
open Cert.Reference5Ideal Cert.Reference5Ideal.Gen Cert.Reference5Ideal.Read

/-- The reference at an index. -/
theorem at_index (o d : S8192x1024.Idx → EReal) (i j : Fin 1024) :
    val_main_v3 (F := Ideal) o d (ix2 i j) = ∑ t : Fin 8192, o (ix2 t i) * d (ix2 t j) := by
  rw [val_main_v3_apply, val_main_v2_apply]
  refine Finset.sum_congr rfl fun t _ => ?_
  rw [mul_comm]
  have e : ridx_main_v2 (idx_main_v3 (ix2 i j)) t = ix2 t i :=
    funext fun a => match a with | ⟨0, _⟩ => rfl | ⟨1, _⟩ => rfl
  have e' : lidx_main_v2 (idx_main_v3 (ix2 i j)) t = ix2 t j :=
    funext fun a => match a with | ⟨0, _⟩ => rfl | ⟨1, _⟩ => rfl
  rw [e, e']

end Cert.Reference5Ideal.WeightGrad

namespace Cert.Kernel5Ideal.WeightGrad

open Idealize.ShloMosaic Idealize.ShloMosaic.TcCoe Idealize.ShloMosaic.Tactic

/-- The kernel's result is the reference's. -/
theorem result (m : (ℓ : Loc nD τ sig) → Buf (Elt Ideal) ℓ) (c : Dev nD) :
    (Gen.dats m 0 c).arrAt 2 cfg0.N = Cert.Reference5Ideal.Read.val_main_v3 (F := Ideal) (argO m c) (argM m c) := by
  funext y
  rw [eq_ix2 y]
  exact (arr m c (y 0) (y 1)).trans (Cert.Reference5Ideal.WeightGrad.at_index (argO m c) (argM m c) (y 0) (y 1)).symm

end Cert.Kernel5Ideal.WeightGrad

end
-- ==== Proof.WeightGrad.In.lean ====
/-
  The gradient of the input projection: what the kernel's array and the reference hold, at an index.
-/
module

public import proofs.«01_k».proof.Proof.Gen.Kernel6Ideal.Value
public import proofs.«01_k».proof.Proof.Gen.Reference6Ideal.Read
public import Idealize.ShloMosaic.Lib.Pointwise
public import Idealize.ShloMosaic.Lib.Pipeline.ReadBack
public import Idealize.ShloMosaic.Lib.Pipeline.ValueKit.Tiles
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Kernel6Ideal.WeightGrad

open Idealize.ShloMosaic Idealize.ShloMosaic.TcCoe Idealize.ShloMosaic.Tactic
open Cert.Kernel6Ideal Cert.Kernel6Ideal.Gen Cert.Kernel6Ideal.Value

variable (m : (ℓ : Loc nD τ sig) → Buf (Elt Ideal) ℓ)

/-- The two arguments on device `c`: the layer's input and the gradient of the projections. -/
abbrev argH (c : Dev nD) : S8192x1024.Idx → EReal := m (c, Proc.tc.devRef main_arg0)
abbrev argD (c : Dev nD) : S8192x1536.Idx → EReal := m (c, Proc.tc.devRef main_arg1)

/-- What a grid point adds to an element (piece, row, column of the piece), of its blocks of the two arguments. -/
def part (a : S4096x1024.Idx → EReal) (b : S4096x768.Idx → EReal) (x : Fin 2 × Fin 1024 × Fin 384) : EReal :=
  ∑ r : Fin 4096, a (ix2 r x.2.1) * b (ix2 r ⟨x.1.val * 384 + x.2.2.val, by omega⟩)

theorem hz : (![0, 0, 0] : Fin 3 → Nat) = fun _ => 0 := funext fun a => by fin_cases a <;> rfl
theorem hz2 : (![0, 0] : Fin 2 → Nat) = fun _ => 0 := funext fun a => by fin_cases a <;> rfl

/-- The body's product, its columns cut into two pieces: the first piece. -/
theorem product_left (a : Vec Ideal S4096x1024 .bf16) (b : Vec Ideal S4096x768 .bf16) (i : Fin 1024) (j : Fin 384) :
    k0_pay1 (F := Ideal) a b (ix3 (0 : Fin 2) i j) = part a b (0, i, j) := by
  unfold k0_pay1
  refine (concatenate_pair_apply_left (t := S2x1024x384) (s₁ := S1x1024x384) (s₂ := S1x1024x384) 0 _ _ _ (ix3 (0 : Fin 2) i j) rfl (ix3 (0 : Fin 1) i j)
    (fun b => match b with | ⟨0, _⟩ => rfl | ⟨1, _⟩ => rfl | ⟨2, _⟩ => rfl)).trans ?_
  pointwise
  unfold part
  simp

/-- The second piece. -/
theorem product_right (a : Vec Ideal S4096x1024 .bf16) (b : Vec Ideal S4096x768 .bf16) (i : Fin 1024) (j : Fin 384) :
    k0_pay1 (F := Ideal) a b (ix3 (1 : Fin 2) i j) = part a b (1, i, j) := by
  unfold k0_pay1
  refine (concatenate_pair_apply_right (t := S2x1024x384) (s₁ := S1x1024x384) (s₂ := S1x1024x384) 0 _ _ _ (ix3 (1 : Fin 2) i j) rfl rfl (ix3 (0 : Fin 1) i j)
    (fun b => match b with | ⟨0, _⟩ => fun h => absurd rfl h | ⟨1, _⟩ => fun _ => rfl | ⟨2, _⟩ => fun _ => rfl)
    (show 0 + 1 = 1 from rfl)).trans ?_
  pointwise
  unfold part
  simp [Nat.add_comm]

theorem product (a : Vec Ideal S4096x1024 .bf16) (b : Vec Ideal S4096x768 .bf16) (x : Fin 2 × Fin 1024 × Fin 384) :
    k0_pay1 (F := Ideal) a b (ix3 x.1 x.2.1 x.2.2) = part a b x := by
  obtain ⟨p, i, j⟩ := x
  fin_cases p
  · exact product_left a b i j
  · exact product_right a b i j

/-- The first block of tokens stores its part. -/
theorem first (c : Dev nD) (t : Fin cfg0.N) (h0 : t.val % 2 = 0) (x : Fin 2 × Fin 1024 × Fin 384) :
    outsAt0 m c t.val t.isLt (ix3 x.1 x.2.1 x.2.2) = 0 + part (iblk m c 0 t) (iblk m c 1 t) x := by
  generalize hX : part (iblk m c 0 t) (iblk m c 1 t) x = X
  rw [outsAt0_A m c t h0 (by omega), zero_add]
  unfold out0_A_2
  rw [View.read_writes_eq_canon _ _ _ (cover0_A_2 _ _ _ _ _ _ _ _ _ _ _ _)]
  unfold kernelRun0_A
  dsimp only
  rw [View.canon_unit_zero hz]
  simp only [View.readAt_eq_ld, (hs0_0 t).read_unread, (hs0_1 t).read_unread]
  rw [← hX]
  unfold k0_pay2
  rw [shapeCast_self]
  rw [View.ld_unit_zero hz2, View.ld_unit_zero hz2]
  exact product _ _ x

/-- Every later block of tokens adds its part. -/
theorem next (c : Dev nD) (t : Fin cfg0.N) (h0 : ¬ t.val % 2 = 0) (x : Fin 2 × Fin 1024 × Fin 384) :
    outsAt0 m c t.val t.isLt (ix3 x.1 x.2.1 x.2.2)
      = outsAt0 m c (t.val - 1) (Nat.lt_of_le_of_lt (Nat.sub_le _ _) t.isLt) (ix3 x.1 x.2.1 x.2.2)
        + part (iblk m c 0 t) (iblk m c 1 t) x := by
  generalize hX : part (iblk m c 0 t) (iblk m c 1 t) x = X
  rw [outsAt0_B m c t h0 (by omega)]
  unfold out0_B_2
  rw [View.read_writes_eq_canon _ _ _ (cover0_B_2 _ _ _ _ _ _ _ _ _ _ _ _ _)]
  unfold kernelRun0_B
  dsimp only
  rw [View.canon_unit_zero hz]
  simp only [View.readAt_eq_ld, (hs0_0 t).read_unread, (hs0_1 t).read_unread, (hs0_2 t).read_unread]
  rw [← hX]
  unfold k0_pay3
  rw [shapeCast_self]
  rw [View.ld_unit_zero hz, View.ld_unit_zero hz2, View.ld_unit_zero hz2]
  exact congrArg (fun y : EReal => outsAt0 m c (t.val - 1) _ (ix3 x.1 x.2.1 x.2.2) + y) (product _ _ x)

/-! ## Where the blocks lie -/

theorem idx0 : ∀ t : Fin cfg0.N, win0_0.index t = ![t.val % 2, 0] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![t.val / 2, 0, 0] := (by decide +kernel : ∀ t : Fin grid0.N, _)

/-- The arguments, cast. -/
theorem host_h (c : Dev nD) (t : Fin 8192) (i : Fin 1024) :
    (V m c main_v0 : S8192x1024.Idx → EReal) (ix2 t i) = argH m c (ix2 t i) := by
  unfold V
  after_reads_at

theorem host_d (c : Dev nD) (t : Fin 8192) (j : Fin 1536) :
    (V m c main_v1 : S8192x1536.Idx → EReal) (ix2 t j) = argD m c (ix2 t j) := by
  unfold V
  after_reads_at

/-- The grid point of the columns `jb` and the block `k` of tokens. -/
abbrev pt (jb : Fin 2) (k : Fin 2) : Fin cfg0.N := ⟨jb.val * 2 + k.val, by show _ < 4; omega⟩

theorem blk_h (c : Dev nD) (jb : Fin 2) (k : Fin 2) (r : Fin 4096) (i : Fin 1024) :
    (iblk m c 0 (pt jb k) : S4096x1024.Idx → EReal) (ix2 r i) = argH m c (ix2 ⟨k.val * 4096 + r.val, by omega⟩ i) := by
  blk_simp [iblk]
  refine Eq.trans ?_ (host_h m c _ _)
  blk_ext [idx0]

theorem blk_d (c : Dev nD) (jb : Fin 2) (k : Fin 2) (r : Fin 4096) (j : Fin 768) :
    (iblk m c 1 (pt jb k) : S4096x768.Idx → EReal) (ix2 r j)
      = argD m c (ix2 ⟨k.val * 4096 + r.val, by omega⟩ ⟨jb.val * 768 + j.val, by omega⟩) := by
  blk_simp [iblk]
  refine Eq.trans ?_ (host_d m c _ _)
  blk_ext [idx1]

theorem part_at (c : Dev nD) (jb : Fin 2) (k : Fin 2) (x : Fin 2 × Fin 1024 × Fin 384) :
    part (iblk m c 0 (pt jb k)) (iblk m c 1 (pt jb k)) x
      = ∑ r : Fin 4096, argH m c (ix2 ⟨k.val * 4096 + r.val, by omega⟩ x.2.1)
          * argD m c (ix2 ⟨k.val * 4096 + r.val, by omega⟩ ⟨jb.val * 768 + (x.1.val * 384 + x.2.2.val), by omega⟩) := by
  unfold part
  refine Finset.sum_congr rfl fun r _ => ?_
  rw [blk_h, blk_d]

/-! ## The result array -/

theorem disjoint2 : ∀ t t' : Fin cfg0.N, (cfg0.win 2).flush t = true → (cfg0.win 2).flush t' = true → t ≠ t' →
    Disjoint ((cfg0.win 2).blk t).view.set ((cfg0.win 2).blk t').view.set :=
  (cfg0.win 2).hdisj_of_index_inj fun t t' hf hf' h => by
    have h2 : win0_2.index t = win0_2.index t' := h
    rw [idx2, idx2] at h2
    have e0 := congrFun h2 0
    simp at e0
    have := (flush0_2 t).mp hf
    have := (flush0_2 t').mp hf'
    exact Fin.ext (by omega)

/-- The block after the last tokens: the sum of both parts. -/
theorem acc (c : Dev nD) (jb : Fin 2) (x : Fin 2 × Fin 1024 × Fin 384) :
    outsAt0 m c (pt jb 1).val (pt jb 1).isLt (ix3 x.1 x.2.1 x.2.2)
      = ∑ k : Fin 2, part (iblk m c 0 (pt jb k)) (iblk m c 1 (pt jb k)) x := by
  have h := Pipeline.eq_sum_fin_of_reset_step_apply_of_flush
    (fun n h (x : Fin 2 × Fin 1024 × Fin 384) => outsAt0 m c n h (ix3 x.1 x.2.1 x.2.2)) 2 (fun _ => 0)
    (fun t x => part (iblk m c 0 t) (iblk m c 1 t) x)
    (first m c) (next m c) (pt jb 1) (by show (jb.val * 2 + 1) % 2 = 1; omega) x
  rw [zero_add] at h
  refine h.trans (Finset.sum_congr rfl fun k _ =>
    congrArg (fun t => part (iblk m c 0 t) (iblk m c 1 t) x) (Fin.ext ?_))
  simp
  omega

/-- The result at an index (piece, row, column of the piece): the sum over all tokens of the input times the output's
    gradient. -/
theorem arr (c : Dev nD) (p : Fin 4) (i : Fin 1024) (j : Fin 384) :
    ((dats m 0 c).arrAt 2 cfg0.N : S4x1024x384.Idx → EReal) (ix3 p i j)
      = ∑ t : Fin 8192, argH m c (ix2 t i) * argD m c (ix2 t ⟨p.val * 384 + j.val, by omega⟩) := by
  set jb : Fin 2 := ⟨p.val / 2, by omega⟩ with hjb
  set y : Fin 2 := ⟨p.val % 2, by omega⟩ with hy
  have hjv : jb.val = p.val / 2 := rfl
  have hyv : y.val = p.val % 2 := rfl
  have hj : ∀ h, (⟨jb.val * 768 + (y.val * 384 + j.val), h⟩ : Fin 1536) = ⟨p.val * 384 + j.val, by omega⟩ :=
    fun h => Fin.ext (by show jb.val * 768 + (y.val * 384 + j.val) = p.val * 384 + j.val; omega)
  have h := (dats m 0 c).arrAt_emb_eq_flushed 2 disjoint2 (pt jb 1)
    ((flush0_2 _).mpr (by show (jb.val * 2 + 1) % 2 = 1; omega)) (ix3 y i j)
  rw [flushed2] at h
  refine Eq.trans ?_ (h.trans (Eq.trans ?_ ((acc m c jb (y, i, j)).trans ?_)))
  · blk_ext [idx2]
  · rfl
  · refine Eq.trans (Finset.sum_congr rfl fun k _ => part_at m c jb k (y, i, j)) ?_
    simp only [hj]
    exact Fin.sum_mul_add_fin 2 4096 fun t : Fin 8192 =>
      argH m c (ix2 t i) * argD m c (ix2 t ⟨p.val * 384 + j.val, by omega⟩)

end Cert.Kernel6Ideal.WeightGrad

namespace Cert.Reference6Ideal.WeightGrad

open Idealize.ShloMosaic Idealize.ShloMosaic.TcCoe Idealize.ShloMosaic.Tactic
open Cert.Reference6Ideal Cert.Reference6Ideal.Gen Cert.Reference6Ideal.Read

/-- The reference at an index. -/
theorem at_index (h : S8192x1024.Idx → EReal) (d : S8192x1536.Idx → EReal) (p : Fin 4) (i : Fin 1024) (j : Fin 384) :
    val_main_v5 (F := Ideal) h d (ix3 p i j)
      = ∑ t : Fin 8192, h (ix2 t i) * d (ix2 t ⟨p.val * 384 + j.val, by omega⟩) := by
  rw [val_main_v5_apply, val_main_v4_apply, val_main_v3_apply, val_main_v2_apply]
  refine Finset.sum_congr rfl fun t _ => ?_
  rw [mul_comm]
  refine congrArg₂ (· * ·) (congrArg h (funext fun a => Fin.ext ?_)) (congrArg d (funext fun a => Fin.ext ?_))
  · match a with
    | ⟨0, _⟩ => rfl
    | ⟨1, _⟩ => show ((i.val * 4 + p.val) * 384 + j.val) / 1536 = i.val; omega
  · match a with
    | ⟨0, _⟩ => rfl
    | ⟨1, _⟩ => show ((i.val * 4 + p.val) * 384 + j.val) % 1536 = p.val * 384 + j.val; omega

end Cert.Reference6Ideal.WeightGrad

namespace Cert.Kernel6Ideal.WeightGrad

open Idealize.ShloMosaic Idealize.ShloMosaic.TcCoe Idealize.ShloMosaic.Tactic

/-- The kernel's result is the reference's. -/
theorem result (m : (ℓ : Loc nD τ sig) → Buf (Elt Ideal) ℓ) (c : Dev nD) :
    (Gen.dats m 0 c).arrAt 2 cfg0.N = Cert.Reference6Ideal.Read.val_main_v5 (F := Ideal) (argH m c) (argD m c) := by
  funext y
  rw [eq_ix3 y]
  exact (arr m c (y 0) (y 1) (y 2)).trans
    (Cert.Reference6Ideal.WeightGrad.at_index (argH m c) (argD m c) (y 0) (y 1) (y 2)).symm

end Cert.Kernel6Ideal.WeightGrad

end
-- ==== Proof.FfnBwd.Model.lean ====
/-
  The gradient of the feed-forward layer, of the norms on both sides of it and of the output projection, as formulas over
  one token's rows. Two forms of a norm's derivative and of the activation's: the one the kernel computes and the one the
  derivative of the forward pass computes.
-/
module

public import Idealize.ShloMosaic.Lib.Pointwise

@[expose] public section

noncomputable section

namespace Cert.FfnBwd

open Idealize.ShloMosaic

/-- The row's width 1024, the norm's epsilon, two, and minus a half, as the programs' words. -/
def width : EReal := Ideal.ofBits .f32 0x44800000#32
def epsilon : EReal := Ideal.ofBits .f32 0x358637BD#32
def two : EReal := Ideal.ofBits .f32 0x40000000#32
def minusHalf : EReal := Ideal.ofBits .f32 0xBF000000#32

variable (x d : Fin 1024 → EReal)

/-- The mean of the squares plus epsilon, the reciprocal of its root, and the normalised row. -/
def meanSq : EReal := Ideal.div (∑ k, x k * x k) width + epsilon
def scale : EReal := Ideal.rsqrt (meanSq x)
def normed (j : Fin 1024) : EReal := x j * scale x

/-- The kernel's derivative of the normalised row `x`, applied to `d`. -/
def normBackK (j : Fin 1024) : EReal :=
  scale x * (d j - normed x j * Ideal.div (∑ k, d k * normed x k) width)

/-- Half of what the derivative of the squares' mean contributes, without the factor `x j`. -/
def tail : EReal := Ideal.div ((∑ k, x k * d k) * (minusHalf * Ideal.div (scale x) (meanSq x))) width

/-- The derivative of the normalised row by the rules of calculus: the product's two terms, the square's as two. -/
def normBackR (j : Fin 1024) : EReal := d j * scale x + x j * tail x d + tail x d * x j

/-- The input of the activation, from the normalised row, the gain and the first weight. -/
def hidden (g : Fin 1024 → EReal) (wu : Fin 1024 → Fin 4096 → EReal) (j : Fin 4096) : EReal :=
  ∑ k : Fin 1024, normed x k * g k * wu k j

/-- The gradient of the squared activation, from the gradient `f` of the layer's output and the second weight. -/
def squareBack (f : Fin 1024 → EReal) (wd : Fin 4096 → Fin 1024 → EReal) (j : Fin 4096) : EReal :=
  ∑ k : Fin 1024, f k * wd j k

/-- The kernel's gradient of the activation's input, from the activation `u`. -/
def actBackK (f : Fin 1024 → EReal) (wd : Fin 4096 → Fin 1024 → EReal) (u : Fin 4096 → EReal) (j : Fin 4096) : EReal :=
  squareBack f wd j * (two * u j)

/-- The derivative's, from the activation's input `z`: nothing where `z` is not positive. -/
def actBackR (f : Fin 1024 → EReal) (wd : Fin 4096 → Fin 1024 → EReal) (z : Fin 4096 → EReal) (j : Fin 4096) : EReal :=
  if 0 < z j then max (z j) 0 * squareBack f wd j + squareBack f wd j * max (z j) 0 else 0

/-- The gradient of the first product's input. -/
def upBack (dz : Fin 4096 → EReal) (wu : Fin 1024 → Fin 4096 → EReal) (i : Fin 1024) : EReal :=
  ∑ j : Fin 4096, dz j * wu i j

/-- The kernel's gradient of the row `x` before the first norm, whose gain is `g`: the gradient `e` that passes the
    layer by, and the normalised row's gradient `h` through the norm. -/
def inBack (e g h : Fin 1024 → EReal) (i : Fin 1024) : EReal := e i + normBackK x (fun k => h k * g k) i

/-- The gradient of the projection's input. -/
def outBack (wo : Fin 1024 → Fin 1024 → EReal) (h : Fin 1024) : EReal := ∑ j : Fin 1024, d j * wo h j

/-! ## One token's gradients

From the row `x` before the first norm, the row `y` before the second, the gradient `f` of the layer's output, the gradient
`e` that passes the layer by, the gains `g3` and `g2` and the weights `wu` and `wd`: by the kernel's forms (`K`) and by the
derivative's (`R`). -/

section
variable (x y f e g3 g2 : Fin 1024 → EReal) (wu : Fin 1024 → Fin 4096 → EReal) (wd : Fin 4096 → Fin 1024 → EReal)

/-- The gradient of the activation's input. -/
def dzK : Fin 4096 → EReal := actBackK f wd (fun j => max (hidden x g3 wu j) 0)
def dzR : Fin 4096 → EReal := actBackR f wd (hidden x g3 wu)

/-- The gradient of the first norm's input. -/
def dxK : Fin 1024 → EReal := inBack x e g3 (upBack (dzK x f g3 wu wd) wu)
def dxR (i : Fin 1024) : EReal := e i + normBackR x (fun k => upBack (dzR x f g3 wu wd) wu k * g3 k) i

/-- The gradient of the second norm's input. -/
def dmK : Fin 1024 → EReal := normBackK y (fun k => dxK x f e g3 wu wd k * g2 k)
def dmR : Fin 1024 → EReal := normBackR y (fun k => dxR x f e g3 wu wd k * g2 k)

end

end Cert.FfnBwd

end
-- ==== Proof.FfnBwd.Block.lean ====
/-
  What one grid point of the feed-forward layer's backward kernel computes, over the extended reals: the seven blocks it
  leaves in the outputs' buffers, row by row.
-/
module

public import proofs.«01_k».proof.Proof.Gen.Kernel2Ideal.Frame
public import proofs.«01_k».proof.Proof.FfnBwd.Model
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.Kernel2Ideal.FfnBwd

open Idealize.ShloMosaic Idealize.ShloMosaic.TcCoe Idealize.ShloMosaic.Tactic
open Cert.Kernel2Ideal Cert.Kernel2Ideal.Gen Cert.FfnBwd

/-- A row of a matrix. -/
abbrev row {a b : Nat} (x : Shape.Idx ⟨2, ![a, b]⟩ → EReal) (r : Fin a) : Fin b → EReal := fun k => x (ix2 r k)

theorem hz : (![0, 0] : Fin 2 → Nat) = fun _ => 0 := funext fun a => by fin_cases a <;> rfl
theorem hz3 : (![0, 0, 0] : Fin 3 → Nat) = fun _ => 0 := funext fun a => by fin_cases a <;> rfl

/-- A store over the columns from `o` on leaves the columns outside it as they were. -/
theorem canon_skip (o : Nat) (inb) (v : S256x1024.Idx → EReal) (L : List (View.Piece (Elt Ideal) S256x4096 .bf16)) (r : Fin 256)
    (j : Fin 4096) (hj : j.val < o ∨ o + 1024 ≤ j.val) :
    View.canon (⟨Rect.unit (s := S256x4096) ![0, o] S256x1024.size inb, v⟩ :: L) (ix2 r j) = View.canon L (ix2 r j) := by
  apply View.canon_cons_of_not_mem
  change ix2 r j ∉ (Rect.unit (s := S256x4096) ![0, o] S256x1024.size inb).set
  rw [Rect.mem_set_unit]
  intro h
  have h1 : o ≤ j.val := (h 1).1
  have h2 : j.val < o + 1024 := (h 1).2
  omega

/-- Within the columns the buffer holds what the last store over them wrote. -/
theorem canon_hit (o : Nat) (inb) (v : S256x1024.Idx → EReal) (L : List (View.Piece (Elt Ideal) S256x4096 .bf16)) (r : Fin 256)
    (q : Fin 1024) (j : Fin 4096) (hj : j.val = o + q.val) :
    View.canon (⟨Rect.unit (s := S256x4096) ![0, o] S256x1024.size inb, v⟩ :: L) (ix2 r j) = v (ix2 r q) := by
  have e : (ix2 r j : S256x4096.Idx) = (Rect.unit (s := S256x4096) ![0, o] S256x1024.size inb).emb (ix2 r q) := by
    funext a; apply Fin.ext
    change _ = ((Rect.unit (s := S256x4096) ![0, o] S256x1024.size inb).idx (ix2 r q) a : ℕ)
    rw [Rect.idx_unit_val]
    fin_cases a <;> simp [ix2, hj]
  rw [e, View.canon_cons_emb]

/-! ## The norms -/

theorem pay9_at (x : Vec Ideal S256x1024 .f32) (r : Fin 256) : k0_pay9 (F := Ideal) x (ix2 r 0) = scale (row x r) := by
  unfold k0_pay9
  pointwise
  simp only [scale, meanSq, width, epsilon, Ideal.ofBits_zero_f32, zero_add]

theorem pay10_at (x : Vec Ideal S256x1024 .f32) (r : Fin 256) (j : Fin 1024) :
    k0_pay10 (F := Ideal) x (ix2 r j) = normed (row x r) j := by
  unfold k0_pay10
  pointwise
  simp only [normed, ← pay9_at]

theorem pay11_at (d x : Vec Ideal S256x1024 .f32) (g : Vec Ideal S1x1024 .f32) (e : Vec Ideal S256x1024 .f32)
    (r : Fin 256) (j : Fin 1024) : k0_pay11 (F := Ideal) d x g e (ix2 r j)
      = row e r j + normBackK (row x r) (fun k => row d r k * g (ix2 0 k)) j := by
  unfold k0_pay11
  pointwise
  simp only [normBackK, ← pay9_at, ← pay10_at, width, Ideal.ofBits_zero_f32, zero_add]

theorem pay12_at (d x : Vec Ideal S256x1024 .f32) (j : Fin 1024) :
    k0_pay12 (F := Ideal) d x (ix3 0 0 j) = ∑ r : Fin 256, row d r j * normed (row x r) j := by
  unfold k0_pay12
  pointwise
  simp only [← pay10_at, Ideal.ofBits_zero_f32, zero_add]

theorem pay15_at (x : Vec Ideal S256x1024 .f32) (r : Fin 256) :
    k0_pay15 (F := Ideal) (k0_pay13 x) k0_pay14 (ix2 r 0) = scale (row x r) := by
  unfold k0_pay15 k0_pay13 k0_pay14
  pointwise
  simp only [scale, meanSq, width, epsilon, Ideal.ofBits_zero_f32, zero_add]

theorem pay16_at (x : Vec Ideal S256x1024 .f32) (r : Fin 256) (j : Fin 1024) :
    k0_pay16 (F := Ideal) x (k0_pay13 x) k0_pay14 (ix2 r j) = normed (row x r) j := by
  unfold k0_pay16
  pointwise
  simp only [normed, ← pay15_at]

theorem pay17_at (d x : Vec Ideal S256x1024 .f32) (g : Vec Ideal S1x1024 .f32) (r : Fin 256) (j : Fin 1024) :
    k0_pay17 (F := Ideal) d x (k0_pay13 x) k0_pay14 g (ix2 r j)
      = normBackK (row x r) (fun k => row d r k * g (ix2 0 k)) j := by
  unfold k0_pay17
  pointwise
  simp only [normBackK, ← pay15_at, ← pay16_at, width, Ideal.ofBits_zero_f32, zero_add]

theorem pay18_at (d x : Vec Ideal S256x1024 .f32) (j : Fin 1024) :
    k0_pay18 (F := Ideal) d x (k0_pay13 x) k0_pay14 (ix3 0 0 j) = ∑ r : Fin 256, row d r j * normed (row x r) j := by
  unfold k0_pay18
  pointwise
  simp only [← pay16_at, Ideal.ofBits_zero_f32, zero_add]

/-! ## The output projection -/

theorem pay19_at (d x : Vec Ideal S256x1024 .f32) (g : Vec Ideal S1x1024 .f32) (w : Vec Ideal S1024x1024 .bf16) (r : Fin 256)
    (h : Fin 512) : k0_pay19 (F := Ideal) d x (k0_pay13 x) k0_pay14 g (View.ld w r0_15) (ix2 r h)
      = outBack (normBackK (row x r) fun k => row d r k * g (ix2 0 k)) (row w) ⟨h.val, by omega⟩ := by
  unfold k0_pay19
  pointwise
  simp only [outBack, ← pay17_at, Ideal.ofBits_zero_f32, zero_add]

theorem pay20_at (d x : Vec Ideal S256x1024 .f32) (g : Vec Ideal S1x1024 .f32) (w : Vec Ideal S1024x1024 .bf16) (r : Fin 256)
    (h : Fin 512) : k0_pay20 (F := Ideal) d x (k0_pay13 x) k0_pay14 g (View.ld w r0_17) (ix2 r h)
      = outBack (normBackK (row x r) fun k => row d r k * g (ix2 0 k)) (row w) ⟨512 + h.val, by omega⟩ := by
  unfold k0_pay20
  pointwise
  simp only [outBack, ← pay17_at, Ideal.ofBits_zero_f32, zero_add]

/-! ## The activation's gradient, in four chunks of 1024 columns -/

section
variable (x0 : Vec Ideal S256x1024 .bf16) (x1 : Vec Ideal S4096x1024 .bf16) (x2 : Vec Ideal S256x4096 .bf16)

theorem chunk0 (r : Fin 256) (q : Fin 1024) : k0_pay2 (F := Ideal) (View.ld x0 r0_0) (View.ld x1 r0_1) (View.ld x2 r0_2) (ix2 r q)
    = actBackK (row x0 r) (row x1) (row x2 r) ⟨q.val, by omega⟩ := by
  unfold k0_pay2 k0_pay1
  pointwise
  simp only [actBackK, squareBack, two, Ideal.ofBits_zero_f32, zero_add]

theorem chunk1 (r : Fin 256) (q : Fin 1024) : k0_pay4 (F := Ideal) (View.ld x0 r0_0) (View.ld x1 r0_4) (View.ld x2 r0_5) (ix2 r q)
    = actBackK (row x0 r) (row x1) (row x2 r) ⟨1024 + q.val, by omega⟩ := by
  unfold k0_pay4 k0_pay1
  pointwise
  simp only [actBackK, squareBack, two, Ideal.ofBits_zero_f32, zero_add]

theorem chunk2 (r : Fin 256) (q : Fin 1024) :
    k0_pay6 (F := Ideal) (k0_pay1 (View.ld x0 r0_0)) (View.ld x1 r0_7) (View.ld x2 r0_8) (ix2 r q)
      = actBackK (row x0 r) (row x1) (row x2 r) ⟨2048 + q.val, by omega⟩ := by
  unfold k0_pay6 k0_pay1
  pointwise
  simp only [actBackK, squareBack, two, Ideal.ofBits_zero_f32, zero_add]

theorem chunk3 (r : Fin 256) (q : Fin 1024) :
    k0_pay7 (F := Ideal) (k0_pay1 (View.ld x0 r0_0)) (View.ld x1 r0_10) (View.ld x2 r0_11) (ix2 r q)
      = actBackK (row x0 r) (row x1) (row x2 r) ⟨3072 + q.val, by omega⟩ := by
  unfold k0_pay7 k0_pay1
  pointwise
  simp only [actBackK, squareBack, two, Ideal.ofBits_zero_f32, zero_add]

/-- A column's chunk and its place there. -/
abbrev piece (j : Fin 4096) : Fin 4 := ⟨j.val / 1024, by omega⟩
abbrev place (j : Fin 4096) : Fin 1024 := ⟨j.val % 1024, by omega⟩

/-- The first weight, put together from the four pieces. -/
abbrev joined (x3 : S4x1024x1024.Idx → EReal) (i : Fin 1024) (j : Fin 4096) : EReal := x3 (ix3 (piece j) i (place j))

/-- A sum over the columns, chunk by chunk. -/
theorem sum_chunks (f : Fin 4096 → EReal) : ∑ j : Fin 4096, f j
    = (∑ q : Fin 1024, f ⟨q.val, by omega⟩) + (∑ q : Fin 1024, f ⟨1024 + q.val, by omega⟩)
      + (∑ q : Fin 1024, f ⟨2048 + q.val, by omega⟩) + ∑ q : Fin 1024, f ⟨3072 + q.val, by omega⟩ := by
  rw [← Fin.sum_mul_add_fin 4 1024 f, Fin.sum_univ_four]
  simp

theorem joined_at (x3 : S4x1024x1024.Idx → EReal) (i q : Fin 1024) (p : Fin 4) (j : Fin 4096) (h : j.val = p.val * 1024 + q.val) :
    joined x3 i j = x3 (ix3 p i q) := by
  have e : piece j = p := Fin.ext (by show j.val / 1024 = p.val; omega)
  have e' : place j = q := Fin.ext (by show j.val % 1024 = q.val; omega)
  unfold joined
  rw [e, e']

variable (x3 : Vec Ideal S4x1024x1024 .bf16) (x4 x5 x6 : Vec Ideal S256x1024 .f32) (x7 x8 : Vec Ideal S1x1024 .f32)
  (x9 : Vec Ideal S1024x1024 .bf16)

/-- The gradient of the first product's input: the four chunks' sums. -/
theorem pay22_at (r : Fin 256) (i : Fin 1024) : k0_pay22 (F := Ideal) x0 x1 x2 x3 x4 x5 x6 x7 x8 x9 (ix2 r i)
    = upBack (actBackK (row x0 r) (row x1) (row x2 r)) (joined x3) i := by
  unfold k0_pay22 k0_pay21 k0_pay8 k0_pay3 k0_pay5
  pointwise
  rw [upBack, sum_chunks]
  simp only [chunk0, chunk1, chunk2, chunk3, Ideal.ofBits_zero_f32, zero_add]
  refine congrArg₂ (· + ·) (congrArg₂ (· + ·) (congrArg₂ (· + ·) ?_ ?_) ?_) ?_
  · exact Finset.sum_congr rfl fun q _ => congrArg _ (joined_at x3 i q 0 _ (by simp)).symm
  · exact Finset.sum_congr rfl fun q _ => congrArg _ (joined_at x3 i q 1 _ (by simp)).symm
  · exact Finset.sum_congr rfl fun q _ => congrArg _ (joined_at x3 i q 2 _ (by simp)).symm
  · exact Finset.sum_congr rfl fun q _ => congrArg _ (joined_at x3 i q 3 _ (by simp)).symm

/-- The gradient of the first norm's input, with the gradient that passes it by. -/
theorem pay23_at (r : Fin 256) (i : Fin 1024) : k0_pay23 (F := Ideal) x0 x1 x2 x3 x4 x5 x6 x7 x8 x9 (ix2 r i)
    = inBack (row x4 r) (row x5 r) (row x7 0) (upBack (actBackK (row x0 r) (row x1) (row x2 r)) (joined x3)) i := by
  unfold k0_pay23
  rw [View.ld_unit_zero hz, View.ld_unit_zero hz, View.ld_unit_zero hz, pay11_at]
  simp only [row, pay22_at]
  rfl

/-! ## The seven blocks -/

theorem out10_at (r : Fin 256) (j : Fin 4096) : out0_10 (F := Ideal) x0 x1 x2 x3 x4 x5 x6 x7 x8 x9 (ix2 r j)
    = actBackK (row x0 r) (row x1) (row x2 r) j := by
  unfold out0_10 k0_pay21
  rcases lt_or_ge j.val 1024 with h | h
  · rw [canon_skip 3072 _ _ _ r j (Or.inl (by omega)), canon_skip 2048 _ _ _ r j (Or.inl (by omega)),
      canon_skip 1024 _ _ _ r j (Or.inl (by omega)), canon_hit 0 _ _ _ r ⟨j.val, h⟩ j (by simp), chunk0]
  rcases lt_or_ge j.val 2048 with h' | h'
  · rw [canon_skip 3072 _ _ _ r j (Or.inl (by omega)), canon_skip 2048 _ _ _ r j (Or.inl (by omega)),
      canon_hit 1024 _ _ _ r ⟨j.val - 1024, by omega⟩ j (by simp; omega), chunk1]
    exact congrArg _ (Fin.ext (by simp; omega))
  rcases lt_or_ge j.val 3072 with h'' | h''
  · rw [canon_skip 3072 _ _ _ r j (Or.inl (by omega)),
      canon_hit 2048 _ _ _ r ⟨j.val - 2048, by omega⟩ j (by simp; omega), chunk2]
    exact congrArg _ (Fin.ext (by simp; omega))
  · rw [canon_hit 3072 _ _ _ r ⟨j.val - 3072, by omega⟩ j (by simp; omega), chunk3]
    exact congrArg _ (Fin.ext (by simp; omega))

theorem out11_at (r : Fin 256) (i : Fin 1024) : out0_11 (F := Ideal) x0 x1 x2 x3 x4 x5 x6 x7 x8 x9 (ix2 r i)
    = inBack (row x4 r) (row x5 r) (row x7 0) (upBack (actBackK (row x0 r) (row x1) (row x2 r)) (joined x3)) i := by
  unfold out0_11
  rw [View.canon_unit_zero hz]
  exact pay23_at x0 x1 x2 x3 x4 x5 x6 x7 x8 x9 r i

theorem out12_at (r : Fin 256) (i : Fin 1024) : out0_12 (F := Ideal) x0 x1 x2 x3 x4 x5 x6 x7 x8 x9 (ix2 r i)
    = normBackK (row x6 r) (fun k => inBack (row x4 r) (row x5 r) (row x7 0)
        (upBack (actBackK (row x0 r) (row x1) (row x2 r)) (joined x3)) k * row x8 0 k) i := by
  unfold out0_12 k0_pay24 k0_pay25
  rw [View.canon_unit_zero hz, View.ld_unit_zero hz, View.ld_unit_zero hz, pay17_at]
  simp only [row, pay23_at]

theorem out13_at (j : Fin 1024) : out0_13 (F := Ideal) x0 x1 x2 x3 x4 x5 x6 x7 x8 x9 (ix3 0 0 j)
    = ∑ r : Fin 256, upBack (actBackK (row x0 r) (row x1) (row x2 r)) (joined x3) j * normed (row x4 r) j := by
  unfold out0_13
  rw [View.canon_unit_zero hz3, View.ld_unit_zero hz, pay12_at]
  simp only [row, pay22_at]

theorem out14_at (j : Fin 1024) : out0_14 (F := Ideal) x0 x1 x2 x3 x4 x5 x6 x7 x8 x9 (ix3 0 0 j)
    = ∑ r : Fin 256, inBack (row x4 r) (row x5 r) (row x7 0)
        (upBack (actBackK (row x0 r) (row x1) (row x2 r)) (joined x3)) j * normed (row x6 r) j := by
  unfold out0_14 k0_pay24 k0_pay25
  rw [View.canon_unit_zero hz3, View.ld_unit_zero hz, pay18_at]
  simp only [row, pay23_at]

theorem out15_at (r : Fin 256) (h : Fin 512) : out0_15 (F := Ideal) x0 x1 x2 x3 x4 x5 x6 x7 x8 x9 (ix2 r h)
    = outBack (normBackK (row x6 r) (fun k => inBack (row x4 r) (row x5 r) (row x7 0)
        (upBack (actBackK (row x0 r) (row x1) (row x2 r)) (joined x3)) k * row x8 0 k)) (row x9) ⟨h.val, by omega⟩ := by
  unfold out0_15 k0_pay24 k0_pay25
  rw [View.canon_unit_zero hz, View.ld_unit_zero hz, View.ld_unit_zero hz, pay19_at]
  simp only [row, pay23_at]

theorem out16_at (r : Fin 256) (h : Fin 512) : out0_16 (F := Ideal) x0 x1 x2 x3 x4 x5 x6 x7 x8 x9 (ix2 r h)
    = outBack (normBackK (row x6 r) (fun k => inBack (row x4 r) (row x5 r) (row x7 0)
        (upBack (actBackK (row x0 r) (row x1) (row x2 r)) (joined x3)) k * row x8 0 k)) (row x9) ⟨512 + h.val, by omega⟩ := by
  unfold out0_16 k0_pay24 k0_pay25
  rw [View.canon_unit_zero hz, View.ld_unit_zero hz, View.ld_unit_zero hz, pay20_at]
  simp only [row, pay23_at]

end

end Cert.Kernel2Ideal.FfnBwd

end
-- ==== Proof.FfnBwd.Host.lean ====
/-
  The arrays that the host hands the feed-forward layer's backward kernel, over the extended reals, from the nine arguments,
  and where each grid point's blocks lie in them.
-/
module

public import proofs.«01_k».proof.Proof.Gen.Kernel2Ideal.Value
public import proofs.«01_k».proof.Proof.FfnBwd.Block
public import Idealize.ShloMosaic.Lib.Pointwise
public import Idealize.ShloMosaic.Lib.Pipeline.ReadBack
public import Idealize.ShloMosaic.Lib.Pipeline.ValueKit.Tiles
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Kernel2Ideal.FfnBwd

open Idealize.ShloMosaic Idealize.ShloMosaic.TcCoe Idealize.ShloMosaic.Tactic
open Cert.Kernel2Ideal Cert.Kernel2Ideal.Gen Cert.FfnBwd

variable (m : (ℓ : Loc nD τ sig) → Buf (Elt Ideal) ℓ)

/-- The nine arguments on device `c`: the rows before the norms, the gains, the three weights, the gradient of the
    layer's output and the gradient that passes the layer by. -/
abbrev argX (c : Dev nD) : S8192x1024.Idx → EReal := m (c, Proc.tc.devRef main_arg0)
abbrev argY (c : Dev nD) : S8192x1024.Idx → EReal := m (c, Proc.tc.devRef main_arg1)
abbrev argG3 (c : Dev nD) : S1x1024.Idx → EReal := m (c, Proc.tc.devRef main_arg2)
abbrev argG2 (c : Dev nD) : S1x1024.Idx → EReal := m (c, Proc.tc.devRef main_arg3)
abbrev argUp (c : Dev nD) : S1024x4096.Idx → EReal := m (c, Proc.tc.devRef main_arg4)
abbrev argDown (c : Dev nD) : S4096x1024.Idx → EReal := m (c, Proc.tc.devRef main_arg5)
abbrev argO (c : Dev nD) : S1024x1024.Idx → EReal := m (c, Proc.tc.devRef main_arg6)
abbrev argF (c : Dev nD) : S8192x1024.Idx → EReal := m (c, Proc.tc.devRef main_arg7)
abbrev argE (c : Dev nD) : S8192x1024.Idx → EReal := m (c, Proc.tc.devRef main_arg8)

/-! ## The arrays the host computes -/

theorem host_f (c : Dev nD) (t : Fin 8192) (k : Fin 1024) : (V m c main_v16 : S8192x1024.Idx → EReal) (ix2 t k) = argF m c (ix2 t k) := by
  unfold V
  after_reads_at

theorem host_down (c : Dev nD) (j : Fin 4096) (k : Fin 1024) :
    (V m c main_v17 : S4096x1024.Idx → EReal) (ix2 j k) = argDown m c (ix2 j k) := by
  unfold V
  after_reads_at

/-- The activation. -/
theorem host_u (c : Dev nD) (t : Fin 8192) (j : Fin 4096) : (V m c main_v18 : S8192x4096.Idx → EReal) (ix2 t j)
    = max (hidden (row (argX m c) t) (row (argG3 m c) 0) (row (argUp m c)) j) 0 := by
  unfold V
  after_reads_at
  simp only [FfnBwd.hidden, normed, scale, meanSq, width, epsilon, Ideal.ofBits_zero_f32, zero_add]

/-- The first weight's four pieces. -/
theorem host_up (c : Dev nD) (p : Fin 4) (i q : Fin 1024) : (V m c main_v19 : S4x1024x1024.Idx → EReal) (ix3 p i q)
    = argUp m c (ix2 i ⟨p.val * 1024 + q.val, by omega⟩) := by
  unfold V
  after_reads_at

theorem host_o (c : Dev nD) (i j : Fin 1024) : (V m c main_v20 : S1024x1024.Idx → EReal) (ix2 i j) = argO m c (ix2 i j) := by
  unfold V
  after_reads_at

theorem host_x (c : Dev nD) (t : Fin 8192) (k : Fin 1024) : (V m c main_arg0 : S8192x1024.Idx → EReal) (ix2 t k) = argX m c (ix2 t k) := by
  unfold V
  after_reads_at

theorem host_y (c : Dev nD) (t : Fin 8192) (k : Fin 1024) : (V m c main_arg1 : S8192x1024.Idx → EReal) (ix2 t k) = argY m c (ix2 t k) := by
  unfold V
  after_reads_at

theorem host_g3 (c : Dev nD) (k : Fin 1024) : (V m c main_arg2 : S1x1024.Idx → EReal) (ix2 0 k) = argG3 m c (ix2 0 k) := by
  unfold V
  after_reads_at

theorem host_g2 (c : Dev nD) (k : Fin 1024) : (V m c main_arg3 : S1x1024.Idx → EReal) (ix2 0 k) = argG2 m c (ix2 0 k) := by
  unfold V
  after_reads_at

theorem host_e (c : Dev nD) (t : Fin 8192) (k : Fin 1024) : (V m c main_arg8 : S8192x1024.Idx → EReal) (ix2 t k) = argE m c (ix2 t k) := by
  unfold V
  after_reads_at

/-! ## The blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0, 0] := (by decide +kernel : ∀ t : Fin grid0.N, _)
theorem idx14 : ∀ t : Fin cfg0.N, win0_14.index t = ![t.val, 0, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)

/-- The grid point of the block `b` of tokens, and token `r` of that block. -/
abbrev pt (b : Fin 32) : Fin cfg0.N := ⟨b.val, by show _ < 32; omega⟩
abbrev tok (b : Fin 32) (r : Fin 256) : Fin 8192 := ⟨b.val * 256 + r.val, by omega⟩

theorem blk0 (c : Dev nD) (b : Fin 32) (r : Fin 256) (k : Fin 1024) :
    (iblk m c 0 (pt b) : S256x1024.Idx → EReal) (ix2 r k) = argF m c (ix2 (tok b r) k) := by
  blk_simp [iblk]
  refine Eq.trans ?_ (host_f m c _ _)
  blk_ext [idx0]

theorem blk4 (c : Dev nD) (b : Fin 32) (r : Fin 256) (k : Fin 1024) :
    (iblk m c 4 (pt b) : S256x1024.Idx → EReal) (ix2 r k) = argX m c (ix2 (tok b r) k) := by
  blk_simp [iblk]
  refine Eq.trans ?_ (host_x m c _ _)
  blk_ext [idx4]

theorem blk5 (c : Dev nD) (b : Fin 32) (r : Fin 256) (k : Fin 1024) :
    (iblk m c 5 (pt b) : S256x1024.Idx → EReal) (ix2 r k) = argE m c (ix2 (tok b r) k) := by
  blk_simp [iblk]
  refine Eq.trans ?_ (host_e m c _ _)
  blk_ext [idx5]

theorem blk6 (c : Dev nD) (b : Fin 32) (r : Fin 256) (k : Fin 1024) :
    (iblk m c 6 (pt b) : S256x1024.Idx → EReal) (ix2 r k) = argY m c (ix2 (tok b r) k) := by
  blk_simp [iblk]
  refine Eq.trans ?_ (host_y m c _ _)
  blk_ext [idx6]

theorem blk2 (c : Dev nD) (b : Fin 32) (r : Fin 256) (j : Fin 4096) : (iblk m c 2 (pt b) : S256x4096.Idx → EReal) (ix2 r j)
    = max (hidden (row (argX m c) (tok b r)) (row (argG3 m c) 0) (row (argUp m c)) j) 0 := by
  blk_simp [iblk]
  refine Eq.trans ?_ (host_u m c _ _)
  blk_ext [idx2]

theorem blk1 (c : Dev nD) (b : Fin 32) (j : Fin 4096) (k : Fin 1024) :
    (iblk m c 1 (pt b) : S4096x1024.Idx → EReal) (ix2 j k) = argDown m c (ix2 j k) := by
  blk_simp [iblk]
  refine Eq.trans ?_ (host_down m c _ _)
  blk_ext [idx1]

theorem blk3 (c : Dev nD) (b : Fin 32) (p : Fin 4) (i q : Fin 1024) : (iblk m c 3 (pt b) : S4x1024x1024.Idx → EReal) (ix3 p i q)
    = argUp m c (ix2 i ⟨p.val * 1024 + q.val, by omega⟩) := by
  blk_simp [iblk]
  refine Eq.trans ?_ (host_up m c _ _ _)
  blk_ext [idx3]

theorem blk7 (c : Dev nD) (b : Fin 32) (k : Fin 1024) : (iblk m c 7 (pt b) : S1x1024.Idx → EReal) (ix2 0 k) = argG3 m c (ix2 0 k) := by
  blk_simp [iblk]
  refine Eq.trans ?_ (host_g3 m c _)
  blk_ext [idx7]

theorem blk8 (c : Dev nD) (b : Fin 32) (k : Fin 1024) : (iblk m c 8 (pt b) : S1x1024.Idx → EReal) (ix2 0 k) = argG2 m c (ix2 0 k) := by
  blk_simp [iblk]
  refine Eq.trans ?_ (host_g2 m c _)
  blk_ext [idx8]

theorem blk9 (c : Dev nD) (b : Fin 32) (i j : Fin 1024) :
    (iblk m c 9 (pt b) : S1024x1024.Idx → EReal) (ix2 i j) = argO m c (ix2 i j) := by
  blk_simp [iblk]
  refine Eq.trans ?_ (host_o m c _ _)
  blk_ext [idx9]

end Cert.Kernel2Ideal.FfnBwd

end
-- ==== Proof.FfnBwd.Arrays.lean ====
/-
  The kernel's seven result arrays at an index: the model's formulas over the arguments' rows.
-/
module

public import proofs.«01_k».proof.Proof.FfnBwd.Host

@[expose] public section

set_option maxRecDepth 16384

noncomputable section

namespace Cert.Kernel2Ideal.FfnBwd

open Idealize.ShloMosaic Idealize.ShloMosaic.TcCoe Idealize.ShloMosaic.Tactic
open Cert.Kernel2Ideal Cert.Kernel2Ideal.Gen Cert.Kernel2Ideal.Value Cert.FfnBwd

variable (m : (ℓ : Loc nD τ sig) → Buf (Elt Ideal) ℓ) (c : Dev nD)

/-! ## A token's rows -/

/-- The activation of a token. -/
abbrev act (t : Fin 8192) (j : Fin 4096) : EReal := max (FfnBwd.hidden (row (argX m c) t) (row (argG3 m c) 0) (row (argUp m c)) j) 0

theorem row0 (b : Fin 32) (r : Fin 256) :
    row (iblk m c 0 (pt b) : S256x1024.Idx → EReal) r = row (argF m c) (tok b r) := funext fun k => blk0 m c b r k

theorem row4 (b : Fin 32) (r : Fin 256) :
    row (iblk m c 4 (pt b) : S256x1024.Idx → EReal) r = row (argX m c) (tok b r) := funext fun k => blk4 m c b r k

theorem row5 (b : Fin 32) (r : Fin 256) :
    row (iblk m c 5 (pt b) : S256x1024.Idx → EReal) r = row (argE m c) (tok b r) := funext fun k => blk5 m c b r k

theorem row6 (b : Fin 32) (r : Fin 256) :
    row (iblk m c 6 (pt b) : S256x1024.Idx → EReal) r = row (argY m c) (tok b r) := funext fun k => blk6 m c b r k

theorem row2 (b : Fin 32) (r : Fin 256) :
    row (iblk m c 2 (pt b) : S256x4096.Idx → EReal) r = act m c (tok b r) := funext fun j => blk2 m c b r j

theorem row7 (b : Fin 32) : row (iblk m c 7 (pt b) : S1x1024.Idx → EReal) 0 = row (argG3 m c) 0 := funext fun k => blk7 m c b k

theorem row8 (b : Fin 32) : row (iblk m c 8 (pt b) : S1x1024.Idx → EReal) 0 = row (argG2 m c) 0 := funext fun k => blk8 m c b k

theorem row1 (b : Fin 32) : row (iblk m c 1 (pt b) : S4096x1024.Idx → EReal) = row (argDown m c) :=
  funext fun j => funext fun k => blk1 m c b j k

theorem row9 (b : Fin 32) : row (iblk m c 9 (pt b) : S1024x1024.Idx → EReal) = row (argO m c) :=
  funext fun i => funext fun j => blk9 m c b i j

theorem row3 (b : Fin 32) : joined (iblk m c 3 (pt b)) = row (argUp m c) := by
  funext i j
  refine (blk3 m c b (piece j) i (place j)).trans ?_
  exact congrArg (fun q => argUp m c (ix2 i q)) (Fin.ext (by show j.val / 1024 * 1024 + j.val % 1024 = j.val; omega))

/-! ## The arrays -/

theorem arr10 (b : Fin 32) (r : Fin 256) (j : Fin 4096) :
    ((dats m 0 c).arrAt 10 cfg0.N : S8192x4096.Idx → EReal) (ix2 (tok b r) j)
      = dzK (row (argX m c) (tok b r)) (row (argF m c) (tok b r)) (row (argG3 m c) 0) (row (argUp m c)) (row (argDown m c)) j := by
  have h := (dats m 0 c).arrAt_emb_eq_flushed 10 disjoint10 (pt b) (flush0_10 _) (ix2 r j)
  rw [flushed10] at h
  refine Eq.trans ?_ (h.trans (Eq.trans ?_ ((out10_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r j).trans ?_)))
  · blk_ext [idx10]
  · generalize out0_10 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row2]
    rfl

theorem arr11 (b : Fin 32) (r : Fin 256) (i : Fin 1024) :
    ((dats m 0 c).arrAt 11 cfg0.N : S8192x1024.Idx → EReal) (ix2 (tok b r) i)
      = dxK (row (argX m c) (tok b r)) (row (argF m c) (tok b r)) (row (argE m c) (tok b r)) (row (argG3 m c) 0) (row (argUp m c)) (row (argDown m c)) i := by
  have h := (dats m 0 c).arrAt_emb_eq_flushed 11 disjoint11 (pt b) (flush0_11 _) (ix2 r i)
  rw [flushed11] at h
  refine Eq.trans ?_ (h.trans (Eq.trans ?_ ((out11_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r i).trans ?_)))
  · blk_ext [idx11]
  · generalize out0_11 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row2, row3, row4, row5, row7]
    rfl

theorem arr12 (b : Fin 32) (r : Fin 256) (i : Fin 1024) :
    ((dats m 0 c).arrAt 12 cfg0.N : S8192x1024.Idx → EReal) (ix2 (tok b r) i)
      = dmK (row (argX m c) (tok b r)) (row (argY m c) (tok b r)) (row (argF m c) (tok b r)) (row (argE m c) (tok b r)) (row (argG3 m c) 0) (row (argG2 m c) 0)
      (row (argUp m c)) (row (argDown m c)) i := by
  have h := (dats m 0 c).arrAt_emb_eq_flushed 12 disjoint12 (pt b) (flush0_12 _) (ix2 r i)
  rw [flushed12] at h
  refine Eq.trans ?_ (h.trans (Eq.trans ?_ ((out12_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r i).trans ?_)))
  · blk_ext [idx12]
  · generalize out0_12 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row2, row3, row4, row5, row6, row7]
    simp only [blk8]
    rfl

theorem arr13 (b : Fin 32) (j : Fin 1024) :
    ((dats m 0 c).arrAt 13 cfg0.N : S32x1x1024.Idx → EReal) (ix3 b 0 j)
      = ∑ r : Fin 256, upBack (dzK (row (argX m c) (tok b r)) (row (argF m c) (tok b r)) (row (argG3 m c) 0) (row (argUp m c)) (row (argDown m c))) (row (argUp m c)) j
        * normed (row (argX m c) (tok b r)) j := by
  have h := (dats m 0 c).arrAt_emb_eq_flushed 13 disjoint13 (pt b) (flush0_13 _) (ix3 0 0 j)
  rw [flushed13] at h
  refine Eq.trans ?_ (h.trans (Eq.trans ?_ ((out13_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    j).trans ?_)))
  · blk_ext [idx13]
  · generalize out0_13 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · refine Finset.sum_congr rfl fun r _ => ?_
    rw [row0, row1, row2, row3, row4]
    rfl

theorem arr14 (b : Fin 32) (j : Fin 1024) :
    ((dats m 0 c).arrAt 14 cfg0.N : S32x1x1024.Idx → EReal) (ix3 b 0 j)
      = ∑ r : Fin 256, dxK (row (argX m c) (tok b r)) (row (argF m c) (tok b r)) (row (argE m c) (tok b r)) (row (argG3 m c) 0) (row (argUp m c)) (row (argDown m c)) j
        * normed (row (argY m c) (tok b r)) j := by
  have h := (dats m 0 c).arrAt_emb_eq_flushed 14 disjoint14 (pt b) (flush0_14 _) (ix3 0 0 j)
  rw [flushed14] at h
  refine Eq.trans ?_ (h.trans (Eq.trans ?_ ((out14_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    j).trans ?_)))
  · blk_ext [idx14]
  · generalize out0_14 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · refine Finset.sum_congr rfl fun r _ => ?_
    rw [row0, row1, row2, row3, row4, row5, row6, row7]
    rfl

theorem arr15 (b : Fin 32) (r : Fin 256) (h : Fin 512) :
    ((dats m 0 c).arrAt 15 cfg0.N : S8192x512.Idx → EReal) (ix2 (tok b r) h)
      = outBack (dmK (row (argX m c) (tok b r)) (row (argY m c) (tok b r)) (row (argF m c) (tok b r)) (row (argE m c) (tok b r)) (row (argG3 m c) 0) (row (argG2 m c) 0)
      (row (argUp m c)) (row (argDown m c)))
        (row (argO m c)) ⟨h.val, by omega⟩ := by
  have e := (dats m 0 c).arrAt_emb_eq_flushed 15 disjoint15 (pt b) (flush0_15 _) (ix2 r h)
  rw [flushed15] at e
  refine Eq.trans ?_ (e.trans (Eq.trans ?_ ((out15_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r h).trans ?_)))
  · blk_ext [idx15]
  · generalize out0_15 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row2, row3, row4, row5, row6, row7, row9]
    simp only [blk8]
    rfl

theorem arr16 (b : Fin 32) (r : Fin 256) (h : Fin 512) :
    ((dats m 0 c).arrAt 16 cfg0.N : S8192x512.Idx → EReal) (ix2 (tok b r) h)
      = outBack (dmK (row (argX m c) (tok b r)) (row (argY m c) (tok b r)) (row (argF m c) (tok b r)) (row (argE m c) (tok b r)) (row (argG3 m c) 0) (row (argG2 m c) 0)
      (row (argUp m c)) (row (argDown m c)))
        (row (argO m c)) ⟨512 + h.val, by omega⟩ := by
  have e := (dats m 0 c).arrAt_emb_eq_flushed 16 disjoint16 (pt b) (flush0_16 _) (ix2 r h)
  rw [flushed16] at e
  refine Eq.trans ?_ (e.trans (Eq.trans ?_ ((out16_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r h).trans ?_)))
  · blk_ext [idx16]
  · generalize out0_16 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row2, row3, row4, row5, row6, row7, row9]
    simp only [blk8]
    rfl

end Cert.Kernel2Ideal.FfnBwd

end
-- ==== Proof.FfnBwd.Reference.lean ====
/-
  What the reference computes: its stages, read at an index, as the model's formulas over the arguments' rows.
-/
module

public import proofs.«01_k».proof.Proof.Gen.Reference2Ideal.Read
public import proofs.«01_k».proof.Proof.FfnBwd.Model

@[expose] public section

set_option maxRecDepth 16384

noncomputable section

namespace Cert.Reference2Ideal.FfnBwd

open Idealize.ShloMosaic Idealize.ShloMosaic.TcCoe Idealize.ShloMosaic.Tactic
open Cert.Reference2Ideal Cert.Reference2Ideal.Gen Cert.Reference2Ideal.Read Cert.FfnBwd

/-- A row of a matrix. -/
abbrev row {a b : Nat} (x : Shape.Idx ⟨2, ![a, b]⟩ → EReal) (r : Fin a) : Fin b → EReal := fun k => x (ix2 r k)

/-- Token `r` of the block `b` of tokens. -/
abbrev tok (b : Fin 32) (r : Fin 256) : Fin 8192 := ⟨b.val * 256 + r.val, by omega⟩

variable (x y f e : S8192x1024.Idx → EReal) (g3 g2 : S1x1024.Idx → EReal) (wu : S1024x4096.Idx → EReal)
  (wd : S4096x1024.Idx → EReal) (wo : S1024x1024.Idx → EReal)

/-! ## The norm of a row and its derivative -/

theorem meanSq_at (t : Fin 8192) : val_main_v10 (F := Ideal) x (ix2 t 0) = meanSq (row x t) := by
  unfold val_main_v10 val_main_v9 val_main_v8 val_main_v7 val_main_v6 val_main_v5 val_main_v4 val_main_cst val_main_cst_0
    val_main_cst_1 meanSq
  pointwise
  rfl

theorem scale_at (t : Fin 8192) : val_main_v11 (F := Ideal) x (ix2 t 0) = scale (row x t) := by
  rw [scale, ← meanSq_at]
  rfl

theorem half_at (t : Fin 8192) :
    val_main_v14 (F := Ideal) x (ix2 t 0) = minusHalf * Ideal.div (scale (row x t)) (meanSq (row x t)) := by
  rw [← scale_at, ← meanSq_at]
  unfold val_main_v14 val_main_v13 val_main_v12 val_main_cst_2
  generalize val_main_v11 (F := Ideal) x = p
  generalize val_main_v10 (F := Ideal) x = q
  pointwise
  rfl

theorem normed_at (t : Fin 8192) (j : Fin 1024) : val_main_v16 (F := Ideal) x (ix2 t j) = normed (row x t) j := by
  rw [normed, ← scale_at]
  unfold val_main_v16 val_main_v15
  generalize val_main_v11 (F := Ideal) x = p
  pointwise

/-- What the derivative of the squares' mean at the rows of `x` contributes, by the reference's operations. -/
def shift (x d : FVec Ideal S8192x1024 .f32) : FVec Ideal S8192x1024 .f32 :=
  broadcastInDim S8192x1024 ![0] bcast_S8192_S8192x1024_0 (Host.reduceAdd (Host.divf (mulf
    (shapeCast S8192x1 (Host.reduceAdd (mulf x d) (val_main_cst_6 (F := Ideal)) reducesTo_S8192x1024_S8192_d1 h_S_)
      shapeCasts_S8192_S8192x1) (val_main_v14 (F := Ideal) x)) (val_main_v40 (F := Ideal))) (val_main_cst_8 (F := Ideal))
    reducesTo_S8192x1_S8192_d1 h_S_)

/-- The derivative of the norm at the rows of `x`, applied to the rows of `d`, by the reference's operations. -/
def back (x d : FVec Ideal S8192x1024 .f32) : FVec Ideal S8192x1024 .f32 :=
  addf (addf (mulf d (val_main_v37 (F := Ideal) x)) (mulf x (shift x d))) (mulf (shift x d) x)

theorem shift_at (d : S8192x1024.Idx → EReal) (t : Fin 8192) (j : Fin 1024) : shift x d (ix2 t j) = tail (row x t) (row d t) := by
  unfold tail
  rw [← half_at]
  unfold shift val_main_v40 val_main_cst_7 val_main_cst_6 val_main_cst_8
  generalize val_main_v14 (F := Ideal) x = q
  pointwise
  rw [Fin.sum_univ_one]
  rfl

theorem back_at (d : S8192x1024.Idx → EReal) (t : Fin 8192) (j : Fin 1024) :
    back x d (ix2 t j) = normBackR (row x t) (row d t) j := by
  unfold normBackR
  rw [← scale_at, ← shift_at x d t j]
  unfold back val_main_v37
  generalize shift x d = s
  generalize val_main_v11 (F := Ideal) x = q
  pointwise

/-! ## The layer -/

theorem gain_at (t : Fin 8192) (j : Fin 1024) : val_main_v3 (F := Ideal) g3 (ix2 t j) = g3 (ix2 0 j) := by
  rw [val_main_v3_apply, val_main_v2_apply, val_main_v0_apply]
  refine congrArg g3 (funext fun a => Fin.ext ?_)
  match a with
  | ⟨0, _⟩ => rfl
  | ⟨1, _⟩ => show (t.val * 1024 + j.val) % 1024 = j.val; omega

theorem hidden_at (t : Fin 8192) (j : Fin 4096) :
    val_main_v18 (F := Ideal) x g3 wu (ix2 t j) = FfnBwd.hidden (row x t) (row g3 0) (row wu) j := by
  unfold FfnBwd.hidden
  simp only [← normed_at]
  unfold val_main_v18 val_main_v17
  simp only [row, ← gain_at g3 t]
  generalize val_main_v16 (F := Ideal) x = p
  generalize val_main_v3 (F := Ideal) g3 = q
  pointwise

theorem square_at (t : Fin 8192) (j : Fin 4096) :
    val_main_v25 (F := Ideal) wd f (ix2 t j) = squareBack (row f t) (row wd) j := by
  unfold val_main_v25 squareBack
  pointwise

theorem dz_at (t : Fin 8192) (j : Fin 4096) :
    val_main_v30 (F := Ideal) x g3 wu wd f (ix2 t j) = dzR (row x t) (row f t) (row g3 0) (row wu) (row wd) j := by
  unfold dzR actBackR
  rw [← hidden_at, ← square_at]
  unfold val_main_v30 val_main_v29 val_main_v28 val_main_v27 val_main_v26 val_main_v21 val_main_v20 val_main_v19 val_main_call0_v0
    val_main_cst_3 val_main_cst_5 val_main_call0_cst
  generalize val_main_v25 (F := Ideal) wd f = p
  generalize val_main_v18 (F := Ideal) x g3 wu = q
  pointwise

theorem h_at (t : Fin 8192) (i : Fin 1024) : val_main_v31 (F := Ideal) x g3 wu wd f (ix2 t i)
    = upBack (dzR (row x t) (row f t) (row g3 0) (row wu) (row wd)) (row wu) i := by
  unfold upBack
  simp only [← dz_at]
  unfold val_main_v31
  generalize val_main_v30 (F := Ideal) x g3 wu wd f = p
  pointwise

theorem dx_at (t : Fin 8192) (i : Fin 1024) : val_main_v51 (F := Ideal) x g3 wu wd f e (ix2 t i)
    = dxR (row x t) (row f t) (row e t) (row g3 0) (row wu) (row wd) i := by
  have h : val_main_v47 (F := Ideal) x g3 wu wd f = back x (val_main_v33 (F := Ideal) x g3 wu wd f) := rfl
  have hd : row (val_main_v33 (F := Ideal) x g3 wu wd f) t
      = fun k => upBack (dzR (row x t) (row f t) (row g3 0) (row wu) (row wd)) (row wu) k * row g3 0 k := by
    funext k
    show val_main_v33 (F := Ideal) x g3 wu wd f (ix2 t k) = _
    rw [← h_at, row, ← gain_at g3 t]
    rfl
  rw [val_main_v51_apply, h, back_at, hd]
  rfl

theorem dm_at (t : Fin 8192) (i : Fin 1024) : val_main_v83 (F := Ideal) x y g3 g2 wu wd f e (ix2 t i)
    = dmR (row x t) (row y t) (row f t) (row e t) (row g3 0) (row g2 0) (row wu) (row wd) i := by
  have h : val_main_v83 (F := Ideal) x y g3 g2 wu wd f e = back y (val_main_v69 (F := Ideal) x g3 g2 wu wd f e) := rfl
  have hd : row (val_main_v69 (F := Ideal) x g3 g2 wu wd f e) t
      = fun k => dxR (row x t) (row f t) (row e t) (row g3 0) (row wu) (row wd) k * row g2 0 k := by
    funext k
    show val_main_v69 (F := Ideal) x g3 g2 wu wd f e (ix2 t k) = _
    rw [← dx_at, row, ← gain_at g2 t]
    rfl
  rw [h, back_at, hd]
  rfl

/-! ## The seven results -/

theorem dz_result (t : Fin 8192) (j : Fin 4096) :
    val_main_v90 (F := Ideal) x g3 wu wd f (ix2 t j) = dzR (row x t) (row f t) (row g3 0) (row wu) (row wd) j := by
  rw [val_main_v90_apply, dz_at]
  rfl

theorem dm_result (t : Fin 8192) (i : Fin 1024) : val_main_v91 (F := Ideal) x y g3 g2 wu wd f e (ix2 t i)
    = dmR (row x t) (row y t) (row f t) (row e t) (row g3 0) (row g2 0) (row wu) (row wd) i := by
  rw [val_main_v91_apply, dm_at]
  rfl

theorem dg3_result (b : Fin 32) (j : Fin 1024) : val_main_v50 (F := Ideal) x g3 wu wd f (ix3 b 0 j)
    = ∑ r : Fin 256, normed (row x (tok b r)) j
        * upBack (dzR (row x (tok b r)) (row f (tok b r)) (row g3 0) (row wu) (row wd)) (row wu) j := by
  rw [val_main_v50_apply, val_main_v49_apply, val_main_cst_9_apply]
  refine (congrArg (· + _) Ideal.ofBits_zero_f32).trans ((zero_add _).trans (Finset.sum_congr rfl fun r _ => ?_))
  rw [← normed_at, ← h_at, val_main_v48_apply]
  refine Eq.trans (congrArg _ ?_) (val_main_v32_apply (F := Ideal) x g3 wu wd f (ix2 (tok b r) j))
  funext a
  refine Fin.ext ?_
  match a with
  | ⟨0, _⟩ => show ((b.val * 256 + r.val) * 1024 + j.val) / 1024 = b.val * 256 + r.val; omega
  | ⟨1, _⟩ => show ((b.val * 256 + r.val) * 1024 + j.val) % 1024 = j.val; omega

theorem dg2_result (b : Fin 32) (j : Fin 1024) : val_main_v86 (F := Ideal) x y g3 wu wd f e (ix3 b 0 j)
    = ∑ r : Fin 256, normed (row y (tok b r)) j
        * dxR (row x (tok b r)) (row f (tok b r)) (row e (tok b r)) (row g3 0) (row wu) (row wd) j := by
  rw [val_main_v86_apply, val_main_v85_apply, val_main_cst_17_apply]
  refine (congrArg (· + _) Ideal.ofBits_zero_f32).trans ((zero_add _).trans (Finset.sum_congr rfl fun r _ => ?_))
  rw [← normed_at, ← dx_at, val_main_v84_apply]
  refine Eq.trans (congrArg _ ?_) (val_main_v68_apply (F := Ideal) x y g3 wu wd f e (ix2 (tok b r) j))
  funext a
  refine Fin.ext ?_
  match a with
  | ⟨0, _⟩ => show ((b.val * 256 + r.val) * 1024 + j.val) / 1024 = b.val * 256 + r.val; omega
  | ⟨1, _⟩ => show ((b.val * 256 + r.val) * 1024 + j.val) % 1024 = j.val; omega

/-- The gradient of the projection's input. -/
theorem out_at (t : Fin 8192) (h : Fin 1024) : val_main_v89 (F := Ideal) x y g3 g2 wu wd wo f e (ix2 t h)
    = outBack (dmR (row x t) (row y t) (row f t) (row e t) (row g3 0) (row g2 0) (row wu) (row wd)) (row wo) h := by
  unfold outBack
  simp only [← dm_at]
  unfold val_main_v89
  generalize val_main_v83 (F := Ideal) x y g3 g2 wu wd f e = p
  pointwise

theorem doa_result (t : Fin 8192) (h : Fin 512) : val_main_v92 (F := Ideal) x y g3 g2 wu wd wo f e (ix2 t h)
    = outBack (dmR (row x t) (row y t) (row f t) (row e t) (row g3 0) (row g2 0) (row wu) (row wd)) (row wo) ⟨h.val, by omega⟩ := by
  rw [val_main_v92_apply, ← out_at]
  exact congrArg _ (funext fun a => match a with | ⟨0, _⟩ => rfl | ⟨1, _⟩ => rfl)

theorem dob_result (t : Fin 8192) (h : Fin 512) : val_main_v93 (F := Ideal) x y g3 g2 wu wd wo f e (ix2 t h)
    = outBack (dmR (row x t) (row y t) (row f t) (row e t) (row g3 0) (row g2 0) (row wu) (row wd)) (row wo)
        ⟨512 + h.val, by omega⟩ := by
  rw [val_main_v93_apply, ← out_at]
  exact congrArg _ (funext fun a => match a with | ⟨0, _⟩ => rfl | ⟨1, _⟩ => rfl)

end Cert.Reference2Ideal.FfnBwd

end
-- ==== Proof.FfnBwd.Norm.lean ====
/-
  The two forms of the norm's derivative and of the activation's agree at all extended reals. The mean of the squares plus
  epsilon is a positive real or +∞: where it is real, its root's reciprocal squared times it is one, and a product with a
  real distributes over a sum; where it is +∞, the scale is zero and so are both forms.
-/
module

public import proofs.«01_k».proof.Proof.FfnBwd.Model

@[expose] public section

noncomputable section

namespace Cert.FfnBwd

open Idealize.ShloMosaic

/-! ## The words -/

theorem width_eq : width = ((1024 : ℝ) : EReal) := by
  simp [width, Ideal.ofBits, Ideal.ieee, ← EReal.coe_mul]
  norm_num

theorem two_eq : two = ((2 : ℝ) : EReal) := by
  simp [two, Ideal.ofBits, Ideal.ieee, ← EReal.coe_mul]
  norm_num

theorem minusHalf_eq : minusHalf = ((-(1 / 2) : ℝ) : EReal) := by
  simp [minusHalf, Ideal.ofBits, Ideal.ieee, ← EReal.coe_mul]
  norm_num

theorem epsilon_pos : ∃ r : ℝ, 0 < r ∧ epsilon = (r : EReal) := by
  refine ⟨_, ?_, (show epsilon = ((8796093 / 8796093022208 : ℝ) : EReal) from ?_)⟩
  · norm_num
  · simp [epsilon, Ideal.ofBits, Ideal.ieee, ← EReal.coe_mul]
    norm_num

theorem div_width (x : EReal) : Ideal.div x width = x * ((1 / 1024 : ℝ) : EReal) := by
  rw [width_eq, Ideal.div_coe (by norm_num)]

/-! ## Arithmetic -/

theorem square_nonneg (x : EReal) : 0 ≤ x * x := by
  induction x with
  | bot => simp
  | top => simp
  | coe r => exact_mod_cast mul_self_nonneg r

/-- A product with a non-negative real distributes over a sum. -/
theorem sum_mul_real {n : Nat} (f : Fin n → EReal) {s : ℝ} (hs : 0 ≤ s) : (∑ k, f k) * (s : EReal) = ∑ k, f k * (s : EReal) := by
  have h : ∀ t : Finset (Fin n), (∑ k ∈ t, f k) * (s : EReal) = ∑ k ∈ t, f k * (s : EReal) := by
    intro t
    induction t using Finset.induction_on with
    | empty => simp
    | insert a t ha ih =>
      rw [Finset.sum_insert ha, Finset.sum_insert ha, ← ih]
      exact EReal.right_distrib_of_nonneg_of_ne_top (EReal.coe_nonneg.2 hs) (EReal.coe_ne_top s) _ _
  exact h Finset.univ

/-- Twice an extended real. -/
theorem two_mul_eq (x : EReal) : ((2 : ℝ) : EReal) * x = x + x := by
  have h : ((2 : ℝ) : EReal) = 1 + 1 := by
    rw [← EReal.coe_one, ← EReal.coe_add]
    norm_num
  rw [h, EReal.right_distrib_of_nonneg zero_le_one zero_le_one, one_mul]

/-! ## The norm -/

theorem meanSq_pos (x : Fin 1024 → EReal) : 0 < meanSq x := by
  obtain ⟨ε, hε, he⟩ := epsilon_pos
  unfold meanSq
  rw [div_width, he]
  have h : 0 ≤ (∑ k, x k * x k) * ((1 / 1024 : ℝ) : EReal) :=
    mul_nonneg (Finset.sum_nonneg fun k _ => square_nonneg (x k)) (EReal.coe_nonneg.2 (by norm_num))
  exact lt_of_lt_of_le (EReal.coe_pos.2 hε) (le_add_of_nonneg_left h)

/-- The reciprocal of the root of a positive real `v`. -/
theorem rsqrt_real (v : ℝ) (hv : 0 < v) : ∃ s : ℝ, 0 < s ∧ 1 / v = s * s ∧ Ideal.rsqrt (v : EReal) = (s : EReal) := by
  refine ⟨(√v)⁻¹, inv_pos.2 (Real.sqrt_pos.2 hv), ?_, ?_⟩
  · rw [← mul_inv, Real.mul_self_sqrt hv.le, one_div]
  · rw [Ideal.rsqrt_coe, if_neg hv.not_gt, if_neg hv.ne']

/-- The kernel's derivative of the norm is the derivative. -/
theorem norm_eq (x d : Fin 1024 → EReal) : normBackK x d = normBackR x d := by
  funext j
  have hp := meanSq_pos x
  unfold normBackK normBackR tail normed scale
  rw [div_width, div_width, minusHalf_eq]
  generalize meanSq x = v at hp
  induction v with
  | bot => exact absurd hp (by simp)
  | top =>
    have e : Ideal.div (Ideal.rsqrt ⊤) (⊤ : EReal) = 0 := by
      rw [Ideal.rsqrt_top, Ideal.div, if_neg (by simp), zero_mul]
    rw [e, Ideal.rsqrt_top]
    simp only [zero_mul, mul_zero, add_zero]
  | coe v =>
    have hv : 0 < v := EReal.coe_pos.1 hp
    obtain ⟨s, hs, hss, hr⟩ := rsqrt_real v hv
    have hS : ∑ k, d k * (x k * (s : EReal)) = (∑ k, x k * d k) * (s : EReal) := by
      rw [sum_mul_real _ hs.le]
      exact Finset.sum_congr rfl fun k _ => by rw [← mul_assoc, mul_comm (d k)]
    rw [hr, hS, Ideal.div_coe hv.ne', hss]
    generalize ∑ k, x k * d k = S
    have hK : (s : EReal) * -(x j * (s : EReal) * (S * (s : EReal) * ((1 / 1024 : ℝ) : EReal)))
        = x j * S * ((-(s * s * s * (1 / 1024)) : ℝ) : EReal) := by
      simp only [EReal.coe_neg, EReal.coe_mul, mul_neg]
      exact congrArg _ (by ac_rfl)
    have hT : S * (((-(1 / 2) : ℝ) : EReal) * ((s : EReal) * ((s * s : ℝ) : EReal))) * ((1 / 1024 : ℝ) : EReal)
        = S * ((-(1 / 2) * (s * s * s) * (1 / 1024) : ℝ) : EReal) := by
      simp only [EReal.coe_mul]
      ac_rfl
    rw [sub_eq_add_neg, EReal.left_distrib_of_nonneg_of_ne_top (EReal.coe_nonneg.2 hs.le) (EReal.coe_ne_top s), hK, hT,
      mul_comm (S * _) (x j), add_assoc, ← two_mul_eq, mul_comm (s : EReal) (d j), ← mul_assoc (x j), mul_comm ((2 : ℝ) : EReal),
      mul_assoc (x j * S), ← EReal.coe_mul]
    refine congrArg (fun r : ℝ => d j * (s : EReal) + x j * S * (r : EReal)) ?_
    ring

/-! ## The activation -/

/-- The kernel's derivative of the squared activation is the derivative. -/
theorem act_eq (f : Fin 1024 → EReal) (wd : Fin 4096 → Fin 1024 → EReal) (z : Fin 4096 → EReal) :
    actBackK f wd (fun j => max (z j) 0) = actBackR f wd z := by
  funext j
  show squareBack f wd j * (two * max (z j) 0) = _
  unfold actBackR
  generalize squareBack f wd j = s
  rw [two_eq]
  rcases lt_or_ge 0 (z j) with h | h
  · rw [if_pos h, mul_comm (max (z j) 0) s, ← two_mul_eq, mul_left_comm]
  · rw [if_neg h.not_gt, max_eq_right h, mul_zero, mul_zero]

/-! ## One token's gradients -/

section
variable (x y f e g3 g2 : Fin 1024 → EReal) (wu : Fin 1024 → Fin 4096 → EReal) (wd : Fin 4096 → Fin 1024 → EReal)

theorem dz_eq : dzK x f g3 wu wd = dzR x f g3 wu wd := act_eq f wd (hidden x g3 wu)

theorem dx_eq : dxK x f e g3 wu wd = dxR x f e g3 wu wd := by
  funext i
  unfold dxK dxR inBack
  rw [norm_eq, dz_eq]

theorem dm_eq : dmK x y f e g3 g2 wu wd = dmR x y f e g3 g2 wu wd := by
  unfold dmK dmR
  rw [norm_eq, dx_eq]

end

end Cert.FfnBwd

end
-- ==== Proof.FfnBwd.Results.lean ====
/-
  The seven results of the kernel are the reference's seven, as arrays.
-/
module

public import proofs.«01_k».proof.Proof.FfnBwd.Arrays
public import proofs.«01_k».proof.Proof.FfnBwd.Reference
public import proofs.«01_k».proof.Proof.FfnBwd.Norm

@[expose] public section

set_option maxRecDepth 16384

noncomputable section

namespace Cert.Kernel2Ideal.FfnBwd

open Idealize.ShloMosaic Idealize.ShloMosaic.TcCoe Idealize.ShloMosaic.Tactic
open Cert.Kernel2Ideal Cert.Kernel2Ideal.Gen Cert.FfnBwd
open Cert.Reference2Ideal.Read (val_main_v90 val_main_v51 val_main_v91 val_main_v50 val_main_v86 val_main_v92 val_main_v93)

/-- Every index of a `[token, lane]` array is a lane of a token of a block. -/
theorem index_tok {n : Nat} (i : Shape.Idx ⟨2, ![8192, n]⟩) : ∃ (b : Fin 32) (r : Fin 256) (j : Fin n), i = ix2 (tok b r) j := by
  have h0 : (i 0).val < 8192 := (i 0).isLt
  refine ⟨⟨(i 0).val / 256, by omega⟩, ⟨(i 0).val % 256, by omega⟩, i 1, funext fun a => Fin.ext ?_⟩
  match a with
  | ⟨0, _⟩ => show (i 0).val = (i 0).val / 256 * 256 + (i 0).val % 256; omega
  | ⟨1, _⟩ => rfl

/-- Every index of a `[block, 1, lane]` array. -/
theorem index_gain (i : S32x1x1024.Idx) : ∃ (b : Fin 32) (j : Fin 1024), i = ix3 b 0 j := by
  have h1 : (i 1).val < 1 := (i 1).isLt
  refine ⟨i 0, i 2, funext fun a => Fin.ext ?_⟩
  match a with
  | ⟨0, _⟩ => rfl
  | ⟨1, _⟩ => show (i 1).val = 0; omega
  | ⟨2, _⟩ => rfl

variable (m : (ℓ : Loc nD τ sig) → Buf (Elt Ideal) ℓ) (c : Dev nD)

/-- The gradient of the activation's input. -/
theorem result_dz : ((dats m 0 c).arrAt 10 cfg0.N : S8192x4096.Idx → EReal)
    = val_main_v90 (F := Ideal) (argX m c) (argG3 m c) (argUp m c) (argDown m c) (argF m c) := by
  funext i
  obtain ⟨b, r, j, rfl⟩ := index_tok i
  rw [arr10 m c b r j, dz_eq]
  exact (Cert.Reference2Ideal.FfnBwd.dz_result _ _ _ _ _ _ _).symm

/-- The gradient of the first norm's input. -/
theorem result_dx : ((dats m 0 c).arrAt 11 cfg0.N : S8192x1024.Idx → EReal)
    = val_main_v51 (F := Ideal) (argX m c) (argG3 m c) (argUp m c) (argDown m c) (argF m c) (argE m c) := by
  funext i
  obtain ⟨b, r, j, rfl⟩ := index_tok i
  rw [arr11 m c b r j, dx_eq]
  exact (Cert.Reference2Ideal.FfnBwd.dx_at _ _ _ _ _ _ _ _).symm

/-- The gradient of the second norm's input. -/
theorem result_dm : ((dats m 0 c).arrAt 12 cfg0.N : S8192x1024.Idx → EReal)
    = val_main_v91 (F := Ideal) (argX m c) (argY m c) (argG3 m c) (argG2 m c) (argUp m c) (argDown m c) (argF m c) (argE m c) := by
  funext i
  obtain ⟨b, r, j, rfl⟩ := index_tok i
  rw [arr12 m c b r j, dm_eq]
  exact (Cert.Reference2Ideal.FfnBwd.dm_result _ _ _ _ _ _ _ _ _ _).symm

/-- The gradient of the first norm's gain, block by block. -/
theorem result_dg3 : ((dats m 0 c).arrAt 13 cfg0.N : S32x1x1024.Idx → EReal)
    = val_main_v50 (F := Ideal) (argX m c) (argG3 m c) (argUp m c) (argDown m c) (argF m c) := by
  funext i
  obtain ⟨b, j, rfl⟩ := index_gain i
  have e : ∑ r : Fin 256, upBack (dzK (row (argX m c) (tok b r)) (row (argF m c) (tok b r))
          (row (argG3 m c) 0) (row (argUp m c)) (row (argDown m c))) (row (argUp m c)) j * normed (row (argX m c) (tok b r)) j
      = ∑ r : Fin 256, normed (row (argX m c) (tok b r)) j * upBack (dzR (row (argX m c) (tok b r)) (row (argF m c) (tok b r))
          (row (argG3 m c) 0) (row (argUp m c)) (row (argDown m c))) (row (argUp m c)) j :=
    Finset.sum_congr rfl fun r _ => by rw [dz_eq, mul_comm]
  exact (arr13 m c b j).trans (e.trans (Cert.Reference2Ideal.FfnBwd.dg3_result _ _ _ _ _ b j).symm)

/-- The gradient of the second norm's gain, block by block. -/
theorem result_dg2 : ((dats m 0 c).arrAt 14 cfg0.N : S32x1x1024.Idx → EReal)
    = val_main_v86 (F := Ideal) (argX m c) (argY m c) (argG3 m c) (argUp m c) (argDown m c) (argF m c) (argE m c) := by
  funext i
  obtain ⟨b, j, rfl⟩ := index_gain i
  have e : ∑ r : Fin 256, dxK (row (argX m c) (tok b r)) (row (argF m c) (tok b r)) (row (argE m c) (tok b r))
          (row (argG3 m c) 0) (row (argUp m c)) (row (argDown m c)) j * normed (row (argY m c) (tok b r)) j
      = ∑ r : Fin 256, normed (row (argY m c) (tok b r)) j * dxR (row (argX m c) (tok b r)) (row (argF m c) (tok b r)) (row (argE m c) (tok b r))
          (row (argG3 m c) 0) (row (argUp m c)) (row (argDown m c)) j :=
    Finset.sum_congr rfl fun r _ => by rw [dx_eq, mul_comm]
  exact (arr14 m c b j).trans (e.trans (Cert.Reference2Ideal.FfnBwd.dg2_result _ _ _ _ _ _ _ b j).symm)

/-- The gradient of the heads' outputs, the first half of the heads. -/
theorem result_doa : ((dats m 0 c).arrAt 15 cfg0.N : S8192x512.Idx → EReal)
    = val_main_v92 (F := Ideal) (argX m c) (argY m c) (argG3 m c) (argG2 m c) (argUp m c) (argDown m c) (argO m c) (argF m c) (argE m c) := by
  funext i
  obtain ⟨b, r, j, rfl⟩ := index_tok i
  rw [arr15 m c b r j, dm_eq]
  exact (Cert.Reference2Ideal.FfnBwd.doa_result _ _ _ _ _ _ _ _ _ _ _).symm

/-- The second half. -/
theorem result_dob : ((dats m 0 c).arrAt 16 cfg0.N : S8192x512.Idx → EReal)
    = val_main_v93 (F := Ideal) (argX m c) (argY m c) (argG3 m c) (argG2 m c) (argUp m c) (argDown m c) (argO m c) (argF m c) (argE m c) := by
  funext i
  obtain ⟨b, r, j, rfl⟩ := index_tok i
  rw [arr16 m c b r j, dm_eq]
  exact (Cert.Reference2Ideal.FfnBwd.dob_result _ _ _ _ _ _ _ _ _ _ _).symm

end Cert.Kernel2Ideal.FfnBwd

end
-- ==== Proof.FfnFwd.Blocks.lean ====
/-
  The run of the feed-forward layer's forward kernel, read block by block: what each grid point writes back to an output's
  array, that two points' blocks share no index, and each array after the run.
-/
module

public import proofs.«01_k».proof.Proof.Gen.Kernel7Ideal.Frame
public import Idealize.ShloMosaic.Lib.Pipeline.Value

@[expose] public section

noncomputable section

namespace Cert.Kernel7Ideal.FfnFwd

open Cert.Kernel7Ideal Cert.Kernel7Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 10).cut (grid0.coords t) ((dats m 0 c).after 10 t) = _
  rw [after0_10]

/-- The index map sends distinct grid points to distinct block indices (decided over the 32 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S8192x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 11).cut (grid0.coords t) ((dats m 0 c).after 11 t) = _
  rw [after0_11]

/-- The index map sends distinct grid points to distinct block indices (decided over the 32 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S8192x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 12).cut (grid0.coords t) ((dats m 0 c).after 12 t) = _
  rw [after0_12]

/-- The index map sends distinct grid points to distinct block indices (decided over the 32 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S8192x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 13).cut (grid0.coords t) ((dats m 0 c).after 13 t) = _
  rw [after0_13]

/-- The index map sends distinct grid points to distinct block indices (decided over the 32 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S8192x1024.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 14).cut (grid0.coords t) ((dats m 0 c).after 14 t) = _
  rw [after0_14]

/-- The index map sends distinct grid points to distinct block indices (decided over the 32 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S8192x4096.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 15).cut (grid0.coords t) ((dats m 0 c).after 15 t) = _
  rw [after0_15]

/-- The index map sends distinct grid points to distinct block indices (decided over the 32 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S8192x1024.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 16).cut (grid0.coords t) ((dats m 0 c).after 16 t) = _
  rw [after0_16]

/-- The index map sends distinct grid points to distinct block indices (decided over the 32 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S8192x1024.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 17).cut (grid0.coords t) ((dats m 0 c).after 17 t) = _
  rw [after0_17]

/-- The index map sends distinct grid points to distinct block indices (decided over the 32 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S32x8x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 18).cut (grid0.coords t) ((dats m 0 c).after 18 t) = _
  rw [after0_18]

/-- The index map sends distinct grid points to distinct block indices (decided over the 32 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S32x1x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v5_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v5_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v5_2) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v5_3) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v5_4) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v5_5) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v5_6) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v5_7) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v5_8) = (dats m 0 c).arrAt 18 cfg0.N :=
  (h c).1 18

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: input window 8 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 8).trans (((dats m 0 c).arrAt_in 8 rfl _).trans ((A_eq m c 8).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 9 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 9).trans (((dats m 0 c).arrAt_in 9 rfl _).trans ((A_eq m c 9).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 10 cfg0.N
      ∧ r.2.mem ((c : Thread nD τ).loc main_v5_1) = (dats m 0 c).arrAt 11 cfg0.N
      ∧ r.2.mem ((c : Thread nD τ).loc main_v5_2) = (dats m 0 c).arrAt 12 cfg0.N
      ∧ r.2.mem ((c : Thread nD τ).loc main_v5_3) = (dats m 0 c).arrAt 13 cfg0.N
      ∧ r.2.mem ((c : Thread nD τ).loc main_v5_4) = (dats m 0 c).arrAt 14 cfg0.N
      ∧ r.2.mem ((c : Thread nD τ).loc main_v5_5) = (dats m 0 c).arrAt 15 cfg0.N
      ∧ r.2.mem ((c : Thread nD τ).loc main_v5_6) = (dats m 0 c).arrAt 16 cfg0.N
      ∧ r.2.mem ((c : Thread nD τ).loc main_v5_7) = (dats m 0 c).arrAt 17 cfg0.N
      ∧ r.2.mem ((c : Thread nD τ).loc main_v5_8) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post10 m r h c,
      post11 m r h c,
      post12 m r h c,
      post13 m r h c,
      post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Kernel7Ideal.FfnFwd

end
-- ==== Proof.FfnFwd.Model.lean ====
/-
  The forward pass from the heads' outputs to the loss, and the loss's gradient back through the last norm, as formulas over
  one token's rows: the output projection, the norm and the sum with the layer's input, the feed-forward layer, the error
  against the target. Two forms of the loss and of its gradient: the kernel's and the derivative's, and that they agree at
  all extended reals.
-/
module

public import proofs.«01_k».proof.Proof.FfnBwd.Norm
public import Idealize.ShloMosaic.Lib.Pointwise
public import Idealize.ShloMosaic.Lib.Pipeline.Value
public import Idealize.ShloMosaic.Lib.Pipeline.ReadBack
public import Idealize.ShloMosaic.Lib.Pipeline.ValueKit.Tiles

@[expose] public section

noncomputable section

namespace Cert.FfnFwd

open Idealize.ShloMosaic
open Cert.FfnBwd (width two normed normBackK normBackR)

/-- A half, one, and the reciprocals of the row's width and of twice the width, as the programs' words. -/
def half : EReal := Ideal.ofBits .f32 0x3F000000#32
def unit : EReal := Ideal.ofBits .f32 0x3F800000#32
def perWidth : EReal := Ideal.ofBits .f32 0x3A800000#32
def perTwice : EReal := Ideal.ofBits .f32 0x3A000000#32

/-- The heads' outputs, the first half of the heads and then the second. -/
def heads (a b : Fin 512 → EReal) (k : Fin 1024) : EReal :=
  if h : k.val < 512 then a ⟨k.val, h⟩ else b ⟨k.val - 512, by omega⟩

/-- Two matrices side by side hold in each row the one's row and then the other's. -/
theorem heads_at {n : Nat} (x y : Shape.Idx ⟨2, ![n, 512]⟩ → EReal)
    (h : Shape.Concatenates [⟨2, ![n, 512]⟩, ⟨2, ![n, 512]⟩] ⟨2, ![n, 1024]⟩ 1) (r : Fin n) (k : Fin 1024) :
    concatenate ⟨2, ![n, 1024]⟩ 1 [⟨⟨2, ![n, 512]⟩, x⟩, ⟨⟨2, ![n, 512]⟩, y⟩] h (ix2 r k)
      = heads (fun j => x (ix2 r j)) (fun j => y (ix2 r j)) k := by
  unfold heads
  by_cases hk : k.val < 512
  · rw [dif_pos hk]
    exact concatenate_pair_apply_left (t := ⟨2, ![n, 1024]⟩) (s₁ := ⟨2, ![n, 512]⟩) (s₂ := ⟨2, ![n, 512]⟩) 1 _ _ _ (ix2 r k) rfl
      (ix2 r (⟨k.val, hk⟩ : Fin 512)) fun b => match b with | ⟨0, _⟩ => rfl | ⟨1, _⟩ => rfl
  · rw [dif_neg hk]
    exact concatenate_pair_apply_right (t := ⟨2, ![n, 1024]⟩) (s₁ := ⟨2, ![n, 512]⟩) (s₂ := ⟨2, ![n, 512]⟩) 1 _ _ _ (ix2 r k) rfl rfl
      (ix2 r (⟨k.val - 512, by omega⟩ : Fin 512))
      (fun b => match b with | ⟨0, _⟩ => fun _ => rfl | ⟨1, _⟩ => fun h => absurd rfl h)
      (show k.val - 512 + 512 = k.val by omega)

/-! ## The columns in four chunks of 1024 -/

/-- A column's chunk and its place there. -/
abbrev piece (j : Fin 4096) : Fin 4 := ⟨j.val / 1024, by omega⟩
abbrev place (j : Fin 4096) : Fin 1024 := ⟨j.val % 1024, by omega⟩

/-- The first weight, put together from the four pieces. -/
abbrev joined (w : Shape.Idx ⟨3, ![4, 1024, 1024]⟩ → EReal) (i : Fin 1024) (j : Fin 4096) : EReal := w (ix3 (piece j) i (place j))

theorem joined_at (w : Shape.Idx ⟨3, ![4, 1024, 1024]⟩ → EReal) (i q : Fin 1024) (p : Fin 4) (j : Fin 4096)
    (h : j.val = p.val * 1024 + q.val) : joined w i j = w (ix3 p i q) := by
  have e : piece j = p := Fin.ext (by show j.val / 1024 = p.val; omega)
  have e' : place j = q := Fin.ext (by show j.val % 1024 = q.val; omega)
  unfold joined
  rw [e, e']

/-- A sum over the columns, chunk by chunk. -/
theorem sum_chunks (f : Fin 4096 → EReal) : ∑ j : Fin 4096, f j
    = (∑ q : Fin 1024, f ⟨q.val, by omega⟩) + (∑ q : Fin 1024, f ⟨1024 + q.val, by omega⟩)
      + (∑ q : Fin 1024, f ⟨2048 + q.val, by omega⟩) + ∑ q : Fin 1024, f ⟨3072 + q.val, by omega⟩ := by
  rw [← Fin.sum_mul_add_fin 4 1024 f, Fin.sum_univ_four]
  simp

/-! ## The rows -/

/-- The output projection of the row `o`. -/
def project (o : Fin 1024 → EReal) (wo : Fin 1024 → Fin 1024 → EReal) (j : Fin 1024) : EReal := ∑ k : Fin 1024, o k * wo k j

/-- The row `y`, normalised and times the gain `g`. -/
def gained (y g : Fin 1024 → EReal) (j : Fin 1024) : EReal := normed y j * g j

/-- The layer's input plus what the norm makes of the row `y`. -/
def added (x y g : Fin 1024 → EReal) (j : Fin 1024) : EReal := x j + gained y g j

/-- The activation of the row `h`. -/
def relu (h : Fin 1024 → EReal) (wu : Fin 1024 → Fin 4096 → EReal) (j : Fin 4096) : EReal := max (∑ k : Fin 1024, h k * wu k j) 0

/-- The second product, of the squared activation. -/
def down (u : Fin 4096 → EReal) (wd : Fin 4096 → Fin 1024 → EReal) (j : Fin 1024) : EReal := ∑ k : Fin 4096, u k * u k * wd k j

/-! ## The loss and its gradient, from the error's rows -/

/-- The gradient of the last sum, from the error `e`: the kernel's form and the derivative's. -/
def errBackK (e : Fin 1024 → EReal) (j : Fin 1024) : EReal := e j * perWidth
def errBackR (e : Fin 1024 → EReal) (j : Fin 1024) : EReal := Ideal.div (half * unit) width * (two * e j)

/-- The loss of a block of 256 tokens: half the sum of the rows' means of squares. -/
def lossK (e : Fin 256 → Fin 1024 → EReal) : EReal := (∑ r, ∑ j, e r j * e r j) * perTwice
def lossR (e : Fin 256 → Fin 1024 → EReal) : EReal := half * ∑ r, Ideal.div (∑ j, e r j * e r j) width

/-! ## One token

From the heads' outputs `a` and `b`, the layer's input `x`, the target `t`, the gains and the weights. -/

section
variable (a b : Fin 512 → EReal) (x t g2 g3 g4 : Fin 1024 → EReal) (wo : Fin 1024 → Fin 1024 → EReal)
  (wu : Fin 1024 → Fin 4096 → EReal) (wd : Fin 4096 → Fin 1024 → EReal)

def mixRow : Fin 1024 → EReal := project (heads a b) wo
def midRow : Fin 1024 → EReal := added x (mixRow a b wo) g2
def inRow : Fin 1024 → EReal := gained (midRow a b x g2 wo) g3
def actRow : Fin 4096 → EReal := relu (inRow a b x g2 g3 wo) wu
def outRow : Fin 1024 → EReal := down (actRow a b x g2 g3 wo wu) wd
def errRow (j : Fin 1024) : EReal := added (midRow a b x g2 wo) (outRow a b x g2 g3 wo wu wd) g4 j - t j

/-- The gradient of the feed-forward layer's output. -/
def dfK : Fin 1024 → EReal :=
  normBackK (outRow a b x g2 g3 wo wu wd) fun k => errBackK (errRow a b x t g2 g3 g4 wo wu wd) k * g4 k
def dfR : Fin 1024 → EReal :=
  normBackR (outRow a b x g2 g3 wo wu wd) fun k => errBackR (errRow a b x t g2 g3 g4 wo wu wd) k * g4 k

end

/-! ## The two forms agree -/

theorem half_eq : half = ((1 / 2 : ℝ) : EReal) := by
  simp [half, Ideal.ofBits, Ideal.ieee, ← EReal.coe_mul]
  norm_num

theorem unit_eq : unit = ((1 : ℝ) : EReal) := by
  simp [unit, Ideal.ofBits, Ideal.ieee, ← EReal.coe_mul]
  norm_num

theorem perWidth_eq : perWidth = ((1 / 1024 : ℝ) : EReal) := by
  simp [perWidth, Ideal.ofBits, Ideal.ieee, ← EReal.coe_mul]
  norm_num

theorem perTwice_eq : perTwice = ((1 / 2048 : ℝ) : EReal) := by
  simp [perTwice, Ideal.ofBits, Ideal.ieee, ← EReal.coe_mul]
  norm_num

theorem errBack_eq (e : Fin 1024 → EReal) : errBackK e = errBackR e := by
  funext j
  unfold errBackK errBackR
  rw [FfnBwd.div_width, half_eq, unit_eq, perWidth_eq, FfnBwd.two_eq, ← mul_assoc, mul_comm (e j), ← EReal.coe_mul, ← EReal.coe_mul,
    ← EReal.coe_mul]
  refine congrArg (fun r : ℝ => (r : EReal) * e j) ?_
  norm_num

theorem loss_eq (e : Fin 256 → Fin 1024 → EReal) : lossK e = lossR e := by
  unfold lossK lossR
  have h : ∑ r, Ideal.div (∑ j, e r j * e r j) width = (∑ r, ∑ j, e r j * e r j) * ((1 / 1024 : ℝ) : EReal) := by
    rw [FfnBwd.sum_mul_real _ (by norm_num)]
    exact Finset.sum_congr rfl fun r _ => FfnBwd.div_width _
  rw [h, half_eq, perTwice_eq, mul_left_comm, ← EReal.coe_mul]
  refine congrArg (fun r : ℝ => (∑ r, ∑ j, e r j * e r j) * (r : EReal)) ?_
  norm_num

theorem df_eq (a b : Fin 512 → EReal) (x t g2 g3 g4 : Fin 1024 → EReal) (wo : Fin 1024 → Fin 1024 → EReal)
    (wu : Fin 1024 → Fin 4096 → EReal) (wd : Fin 4096 → Fin 1024 → EReal) :
    dfK a b x t g2 g3 g4 wo wu wd = dfR a b x t g2 g3 g4 wo wu wd := by
  unfold dfK dfR
  rw [FfnBwd.norm_eq, errBack_eq]

end Cert.FfnFwd

end
-- ==== Proof.FfnFwd.Block.lean ====
/-
  What one grid point of the feed-forward layer's forward kernel computes, over the extended reals: the nine blocks it
  leaves in the outputs' buffers, row by row.
-/
module

public import proofs.«01_k».proof.Proof.Gen.Kernel7Ideal.Frame
public import proofs.«01_k».proof.Proof.FfnFwd.Model
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.Kernel7Ideal.FfnFwd

open Idealize.ShloMosaic Idealize.ShloMosaic.TcCoe Idealize.ShloMosaic.Tactic
open Cert.Kernel7Ideal Cert.Kernel7Ideal.Gen Cert.FfnFwd
open Cert.FfnBwd (width epsilon meanSq scale normed normBackK)

/-- A row of a matrix. -/
abbrev row {a b : Nat} (x : Shape.Idx ⟨2, ![a, b]⟩ → EReal) (r : Fin a) : Fin b → EReal := fun k => x (ix2 r k)

theorem hz : (![0, 0] : Fin 2 → Nat) = fun _ => 0 := funext fun a => by fin_cases a <;> rfl
theorem hz3 : (![0, 0, 0] : Fin 3 → Nat) = fun _ => 0 := funext fun a => by fin_cases a <;> rfl

/-- A store over the columns from `o` on leaves the columns outside it as they were. -/
theorem canon_skip (o : Nat) (inb) (v : S256x1024.Idx → EReal) (L : List (View.Piece (Elt Ideal) S256x4096 .bf16)) (r : Fin 256)
    (j : Fin 4096) (hj : j.val < o ∨ o + 1024 ≤ j.val) :
    View.canon (⟨Rect.unit (s := S256x4096) ![0, o] S256x1024.size inb, v⟩ :: L) (ix2 r j) = View.canon L (ix2 r j) := by
  apply View.canon_cons_of_not_mem
  change ix2 r j ∉ (Rect.unit (s := S256x4096) ![0, o] S256x1024.size inb).set
  rw [Rect.mem_set_unit]
  intro h
  have h1 : o ≤ j.val := (h 1).1
  have h2 : j.val < o + 1024 := (h 1).2
  omega

/-- Within the columns the buffer holds what the last store over them wrote. -/
theorem canon_hit (o : Nat) (inb) (v : S256x1024.Idx → EReal) (L : List (View.Piece (Elt Ideal) S256x4096 .bf16)) (r : Fin 256)
    (q : Fin 1024) (j : Fin 4096) (hj : j.val = o + q.val) :
    View.canon (⟨Rect.unit (s := S256x4096) ![0, o] S256x1024.size inb, v⟩ :: L) (ix2 r j) = v (ix2 r q) := by
  have e : (ix2 r j : S256x4096.Idx) = (Rect.unit (s := S256x4096) ![0, o] S256x1024.size inb).emb (ix2 r q) := by
    funext a; apply Fin.ext
    change _ = ((Rect.unit (s := S256x4096) ![0, o] S256x1024.size inb).idx (ix2 r q) a : ℕ)
    rw [Rect.idx_unit_val]
    fin_cases a <;> simp [ix2, hj]
  rw [e, View.canon_cons_emb]

/-! ## The two products and the norms -/

section
variable (a b : Vec Ideal S256x512 .f32) (w : Vec Ideal S1024x1024 .bf16) (x : Vec Ideal S256x1024 .f32) (g : Vec Ideal S1x1024 .f32)

theorem pay2_at (r : Fin 256) (k : Fin 1024) : k0_pay2 (F := Ideal) a b (ix2 r k) = heads (row a r) (row b r) k :=
  heads_at a b concatenates_S256x512_S256x512_S256x1024_d1 r k

theorem pay3_at (r : Fin 256) (j : Fin 1024) : k0_pay3 (F := Ideal) a b w (ix2 r j) = mixRow (row a r) (row b r) (row w) j := by
  unfold k0_pay3 mixRow project
  pointwise
  simp only [pay2_at, Ideal.ofBits_zero_f32, zero_add]

theorem pay4_at (r : Fin 256) (j : Fin 1024) : k0_pay4 (F := Ideal) a b w x g (ix2 r j)
    = midRow (row a r) (row b r) (row x r) (row g 0) (row w) j := by
  unfold k0_pay4
  pointwise
  simp only [midRow, added, gained, normed, scale, meanSq, width, epsilon, pay3_at, Ideal.ofBits_zero_f32, zero_add]

theorem pay5_at (r : Fin 256) : k0_pay5 (F := Ideal) a b w x g (ix2 r 0)
    = meanSq (midRow (row a r) (row b r) (row x r) (row g 0) (row w)) := by
  unfold k0_pay5
  pointwise
  simp only [meanSq, width, epsilon, pay4_at, Ideal.ofBits_zero_f32, zero_add]

end

theorem pay6_at (x : FVec Ideal S256x1024 .f32) (v : FVec Ideal S256x1 .f32) (g : Vec Ideal S1x1024 .f32) (r : Fin 256)
    (k : Fin 1024) : k0_pay6 (F := Ideal) x v g (ix2 r k) = x (ix2 r k) * Ideal.rsqrt (v (ix2 r 0)) * g (ix2 0 k) := by
  unfold k0_pay6
  pointwise

/-- A chunk of the activation. -/
theorem pay14_at (h : FVec Ideal S256x1024 .bf16) (w : Vec Ideal S1x1024x1024 .bf16) (r : Fin 256) (q : Fin 1024) :
    k0_pay14 (F := Ideal) h w (ix2 r q) = max (∑ k : Fin 1024, h (ix2 r k) * w (ix3 0 k q)) 0 := by
  unfold k0_pay14
  pointwise

/-- The second product, chunk by chunk. -/
theorem pay9_at (x : FVec Ideal S256x1024 .f32) (v : FVec Ideal S256x1 .f32) (g : Vec Ideal S1x1024 .f32)
    (w : Vec Ideal S1x1024x1024 .bf16) (d : Vec Ideal S1024x1024 .bf16) (r : Fin 256) (j : Fin 1024) :
    k0_pay9 (F := Ideal) x v g w d (ix2 r j)
      = ∑ q : Fin 1024, k0_pay7 (F := Ideal) x v g w (ix2 r q) * k0_pay7 (F := Ideal) x v g w (ix2 r q) * d (ix2 q j) := by
  unfold k0_pay9
  pointwise

theorem pay18_at (h : FVec Ideal S256x1024 .bf16) (y : FVec Ideal S256x1024 .f32) (s : FVec Ideal S256x1024 .bf16)
    (d1 : FVec Ideal S1024x1024 .bf16) (w2 : Vec Ideal S1x1024x1024 .bf16) (d2 : Vec Ideal S1024x1024 .bf16)
    (w3 : Vec Ideal S1x1024x1024 .bf16) (d3 : Vec Ideal S1024x1024 .bf16) (r : Fin 256) (j : Fin 1024) :
    k0_pay18 (F := Ideal) h y s d1 w2 d2 w3 d3 (ix2 r j)
      = y (ix2 r j) + (∑ q : Fin 1024, s (ix2 r q) * d1 (ix2 q j))
        + (∑ q : Fin 1024, k0_pay14 (F := Ideal) h w2 (ix2 r q) * k0_pay14 (F := Ideal) h w2 (ix2 r q) * d2 (ix2 q j))
        + ∑ q : Fin 1024, k0_pay14 (F := Ideal) h w3 (ix2 r q) * k0_pay14 (F := Ideal) h w3 (ix2 r q) * d3 (ix2 q j) := by
  have e : k0_pay16 (F := Ideal) h w3 = k0_pay14 (F := Ideal) h w3 := rfl
  unfold k0_pay18
  rw [e]
  generalize k0_pay14 (F := Ideal) h w3 = p
  generalize k0_pay14 (F := Ideal) h w2 = o
  pointwise

theorem pay19_at (h : FVec Ideal S256x1024 .bf16) (y : FVec Ideal S256x1024 .f32) (s : FVec Ideal S256x1024 .bf16)
    (d1 : FVec Ideal S1024x1024 .bf16) (w2 : Vec Ideal S1x1024x1024 .bf16) (d2 : Vec Ideal S1024x1024 .bf16)
    (w3 : Vec Ideal S1x1024x1024 .bf16) (d3 : Vec Ideal S1024x1024 .bf16) (r : Fin 256) :
    k0_pay19 (F := Ideal) h y s d1 w2 d2 w3 d3 (ix2 r 0)
      = Ideal.div (∑ k : Fin 1024, k0_pay18 (F := Ideal) h y s d1 w2 d2 w3 d3 (ix2 r k)
          * k0_pay18 (F := Ideal) h y s d1 w2 d2 w3 d3 (ix2 r k)) width := by
  unfold k0_pay19
  generalize k0_pay18 (F := Ideal) h y s d1 w2 d2 w3 d3 = p
  pointwise
  simp only [width, Ideal.ofBits_zero_f32, zero_add]

/-! ## The error, the loss and the last norm's derivative -/

section
variable (x y : FVec Ideal S256x1024 .f32) (v v' : FVec Ideal S256x1 .f32) (g : Vec Ideal S1x1024 .f32) (t : Vec Ideal S256x1024 .f32)

theorem pay21_at (r : Fin 256) : k0_pay21 (F := Ideal) v v' (ix2 r 0) = Ideal.rsqrt (v (ix2 r 0) + v' (ix2 r 0)) := by
  unfold k0_pay21
  pointwise

theorem pay22_at (r : Fin 256) (j : Fin 1024) : k0_pay22 (F := Ideal) x y v v' g t (ix2 r j)
    = x (ix2 r j) + y (ix2 r j) * k0_pay21 (F := Ideal) v v' (ix2 r 0) * g (ix2 0 j) - t (ix2 r j) := by
  unfold k0_pay22
  pointwise

theorem pay23_at (p : Fin 8) (q : Fin 128) : k0_pay23 (F := Ideal) x y v v' g t (ix3 0 p q)
    = (∑ r : Fin 256, ∑ j : Fin 1024, k0_pay22 (F := Ideal) x y v v' g t (ix2 r j) * k0_pay22 (F := Ideal) x y v v' g t (ix2 r j))
      * perTwice := by
  unfold k0_pay23
  generalize k0_pay22 (F := Ideal) x y v v' g t = o
  pointwise
  simp only [perTwice, Ideal.ofBits_zero_f32, zero_add]

theorem pay24_at (r : Fin 256) (j : Fin 1024) : k0_pay24 (F := Ideal) x y v v' g t (ix2 r j)
    = k0_pay22 (F := Ideal) x y v v' g t (ix2 r j) * perWidth := by
  unfold k0_pay24
  pointwise
  rfl

theorem pay25_at (r : Fin 256) (j : Fin 1024) : k0_pay25 (F := Ideal) y v v' (ix2 r j)
    = y (ix2 r j) * k0_pay21 (F := Ideal) v v' (ix2 r 0) := by
  unfold k0_pay25
  pointwise

theorem pay1_at (j : Fin 1024) : k0_pay1 (F := Ideal) (k0_pay26 x y v v' g t) (ix3 0 0 j)
    = ∑ r : Fin 256, k0_pay24 (F := Ideal) x y v v' g t (ix2 r j) * k0_pay25 (F := Ideal) y v v' (ix2 r j) := by
  unfold k0_pay1 k0_pay26
  generalize k0_pay24 (F := Ideal) x y v v' g t = o
  generalize k0_pay25 (F := Ideal) y v v' = p
  pointwise

theorem pay27_at (r : Fin 256) (j : Fin 1024) : k0_pay27 (F := Ideal) x y v v' g t (ix2 r j)
    = k0_pay21 (F := Ideal) v v' (ix2 r 0) * (k0_pay24 (F := Ideal) x y v v' g t (ix2 r j) * g (ix2 0 j)
      - k0_pay25 (F := Ideal) y v v' (ix2 r j) * Ideal.div (∑ k : Fin 1024, k0_pay24 (F := Ideal) x y v v' g t (ix2 r k) * g (ix2 0 k)
          * k0_pay25 (F := Ideal) y v v' (ix2 r k)) width) := by
  unfold k0_pay27
  generalize k0_pay24 (F := Ideal) x y v v' g t = o
  generalize k0_pay25 (F := Ideal) y v v' = p
  generalize k0_pay21 (F := Ideal) v v' = q
  pointwise
  simp only [width, Ideal.ofBits_zero_f32, zero_add]

end

/-! ## The values of a grid point, from its input blocks -/

section
variable (x0 x1 : Vec Ideal S256x512 .f32) (x2 : Vec Ideal S1024x1024 .bf16) (x3 : Vec Ideal S256x1024 .f32)
  (x4 x5 : Vec Ideal S1x1024 .f32) (x6 : Vec Ideal S4x1024x1024 .bf16) (x7 : Vec Ideal S4096x1024 .bf16)
  (x8 : Vec Ideal S256x1024 .f32) (x9 : Vec Ideal S1x1024 .f32)

theorem pay28_at (r : Fin 256) (j : Fin 1024) : k0_pay28 (F := Ideal) x0 x1 x2 x3 x4 x5 x6 x7 x8 x9 (ix2 r j) = midRow (row x0 r) (row x1 r) (row x3 r) (row x4 0) (row x2) j := by
  unfold k0_pay28
  rw [View.ld_unit_zero hz, View.ld_unit_zero hz, View.ld_unit_zero hz, View.ld_unit_zero hz, View.ld_unit_zero hz, pay4_at]

theorem pay29_at (r : Fin 256) : k0_pay29 (F := Ideal) x0 x1 x2 x3 x4 x5 x6 x7 x8 x9 (ix2 r 0) = meanSq (midRow (row x0 r) (row x1 r) (row x3 r) (row x4 0) (row x2)) := by
  unfold k0_pay29
  rw [View.ld_unit_zero hz, View.ld_unit_zero hz, View.ld_unit_zero hz, View.ld_unit_zero hz, View.ld_unit_zero hz, pay5_at]

theorem pay30_at (r : Fin 256) (k : Fin 1024) : k0_pay30 (F := Ideal) x0 x1 x2 x3 x4 x5 x6 x7 x8 x9 (ix2 r k) = inRow (row x0 r) (row x1 r) (row x3 r) (row x4 0) (row x5 0) (row x2) k := by
  unfold k0_pay30
  rw [View.ld_unit_zero hz, pay6_at, pay28_at, pay29_at]
  rfl

/-! ### The four chunks of the two weights and of the activation -/

theorem up0 (k q : Fin 1024) : View.ld x6 r0_4 (ix3 0 k q) = joined x6 k ⟨q.val, by omega⟩ := by
  refine Eq.trans ?_ (joined_at x6 k q 0 _ (by simp)).symm
  pointwise

theorem down0 (q j : Fin 1024) : View.ld x7 r0_6 (ix2 q j) = row x7 ⟨q.val, by omega⟩ j := by
  pointwise

theorem chunk0 (r : Fin 256) (q : Fin 1024) : k0_pay14 (F := Ideal) (k0_pay30 (F := Ideal) x0 x1 x2 x3 x4 x5 x6 x7 x8 x9) (View.ld x6 r0_4) (ix2 r q)
    = actRow (row x0 r) (row x1 r) (row x3 r) (row x4 0) (row x5 0) (row x2) (joined x6) ⟨q.val, by omega⟩ := by
  rw [pay14_at]
  unfold actRow relu
  exact congrArg (max · 0) (Finset.sum_congr rfl fun k _ => congrArg₂ (· * ·) (pay30_at x0 x1 x2 x3 x4 x5 x6 x7 x8 x9 r k) (up0 x6 k q))

theorem up1 (k q : Fin 1024) : View.ld x6 r0_7 (ix3 0 k q) = joined x6 k ⟨1024 + q.val, by omega⟩ := by
  refine Eq.trans ?_ (joined_at x6 k q 1 _ (by simp)).symm
  pointwise

theorem down1 (q j : Fin 1024) : View.ld x7 r0_9 (ix2 q j) = row x7 ⟨1024 + q.val, by omega⟩ j := by
  pointwise

theorem chunk1 (r : Fin 256) (q : Fin 1024) : k0_pay14 (F := Ideal) (k0_pay30 (F := Ideal) x0 x1 x2 x3 x4 x5 x6 x7 x8 x9) (View.ld x6 r0_7) (ix2 r q)
    = actRow (row x0 r) (row x1 r) (row x3 r) (row x4 0) (row x5 0) (row x2) (joined x6) ⟨1024 + q.val, by omega⟩ := by
  rw [pay14_at]
  unfold actRow relu
  exact congrArg (max · 0) (Finset.sum_congr rfl fun k _ => congrArg₂ (· * ·) (pay30_at x0 x1 x2 x3 x4 x5 x6 x7 x8 x9 r k) (up1 x6 k q))

theorem up2 (k q : Fin 1024) : View.ld x6 r0_10 (ix3 0 k q) = joined x6 k ⟨2048 + q.val, by omega⟩ := by
  refine Eq.trans ?_ (joined_at x6 k q 2 _ (by simp)).symm
  pointwise

theorem down2 (q j : Fin 1024) : View.ld x7 r0_12 (ix2 q j) = row x7 ⟨2048 + q.val, by omega⟩ j := by
  pointwise

theorem chunk2 (r : Fin 256) (q : Fin 1024) : k0_pay14 (F := Ideal) (k0_pay30 (F := Ideal) x0 x1 x2 x3 x4 x5 x6 x7 x8 x9) (View.ld x6 r0_10) (ix2 r q)
    = actRow (row x0 r) (row x1 r) (row x3 r) (row x4 0) (row x5 0) (row x2) (joined x6) ⟨2048 + q.val, by omega⟩ := by
  rw [pay14_at]
  unfold actRow relu
  exact congrArg (max · 0) (Finset.sum_congr rfl fun k _ => congrArg₂ (· * ·) (pay30_at x0 x1 x2 x3 x4 x5 x6 x7 x8 x9 r k) (up2 x6 k q))

theorem up3 (k q : Fin 1024) : View.ld x6 r0_13 (ix3 0 k q) = joined x6 k ⟨3072 + q.val, by omega⟩ := by
  refine Eq.trans ?_ (joined_at x6 k q 3 _ (by simp)).symm
  pointwise

theorem down3 (q j : Fin 1024) : View.ld x7 r0_15 (ix2 q j) = row x7 ⟨3072 + q.val, by omega⟩ j := by
  pointwise

theorem chunk3 (r : Fin 256) (q : Fin 1024) : k0_pay14 (F := Ideal) (k0_pay30 (F := Ideal) x0 x1 x2 x3 x4 x5 x6 x7 x8 x9) (View.ld x6 r0_13) (ix2 r q)
    = actRow (row x0 r) (row x1 r) (row x3 r) (row x4 0) (row x5 0) (row x2) (joined x6) ⟨3072 + q.val, by omega⟩ := by
  rw [pay14_at]
  unfold actRow relu
  exact congrArg (max · 0) (Finset.sum_congr rfl fun k _ => congrArg₂ (· * ·) (pay30_at x0 x1 x2 x3 x4 x5 x6 x7 x8 x9 r k) (up3 x6 k q))

/-- The feed-forward layer's output: the four chunks' sums. -/
theorem pay34_at (r : Fin 256) (j : Fin 1024) : k0_pay34 (F := Ideal) x0 x1 x2 x3 x4 x5 x6 x7 x8 x9 (ix2 r j) = outRow (row x0 r) (row x1 r) (row x3 r) (row x4 0) (row x5 0) (row x2) (joined x6) (row x7) j := by
  have e7 : k0_pay7 (F := Ideal) (k0_pay28 (F := Ideal) x0 x1 x2 x3 x4 x5 x6 x7 x8 x9) (k0_pay29 (F := Ideal) x0 x1 x2 x3 x4 x5 x6 x7 x8 x9) (View.ld x5 r0_3) (View.ld x6 r0_4)
      = k0_pay14 (k0_pay30 (F := Ideal) x0 x1 x2 x3 x4 x5 x6 x7 x8 x9) (View.ld x6 r0_4) := rfl
  have e10 : k0_pay10 (F := Ideal) (k0_pay28 (F := Ideal) x0 x1 x2 x3 x4 x5 x6 x7 x8 x9) (k0_pay29 (F := Ideal) x0 x1 x2 x3 x4 x5 x6 x7 x8 x9) (View.ld x5 r0_3) (View.ld x6 r0_7)
      = k0_pay14 (k0_pay30 (F := Ideal) x0 x1 x2 x3 x4 x5 x6 x7 x8 x9) (View.ld x6 r0_7) := rfl
  have e12 : ∀ q : Fin 1024, k0_pay32 (F := Ideal) x0 x1 x2 x3 x4 x5 x6 x7 x8 x9 (ix2 r q)
      = k0_pay10 (F := Ideal) (k0_pay28 (F := Ideal) x0 x1 x2 x3 x4 x5 x6 x7 x8 x9) (k0_pay29 (F := Ideal) x0 x1 x2 x3 x4 x5 x6 x7 x8 x9) (View.ld x5 r0_3) (View.ld x6 r0_7) (ix2 r q)
        * k0_pay10 (F := Ideal) (k0_pay28 (F := Ideal) x0 x1 x2 x3 x4 x5 x6 x7 x8 x9) (k0_pay29 (F := Ideal) x0 x1 x2 x3 x4 x5 x6 x7 x8 x9) (View.ld x5 r0_3) (View.ld x6 r0_7) (ix2 r q) := fun q => rfl
  have e13 : k0_pay33 (F := Ideal) x0 x1 x2 x3 x4 x5 x6 x7 x8 x9 = View.ld x7 r0_9 := by
    funext i
    unfold k0_pay33 k0_pay13
    generalize View.ld x7 r0_9 = d
    obtain ⟨a, b, rfl⟩ : ∃ a b : Fin 1024, i = ix2 a b := ⟨i 0, i 1, funext fun a => match a with | ⟨0, _⟩ => rfl | ⟨1, _⟩ => rfl⟩
    pointwise
  have e31 : k0_pay31 (F := Ideal) x0 x1 x2 x3 x4 x5 x6 x7 x8 x9 (ix2 r j)
      = ∑ q : Fin 1024, k0_pay14 (F := Ideal) (k0_pay30 (F := Ideal) x0 x1 x2 x3 x4 x5 x6 x7 x8 x9) (View.ld x6 r0_4) (ix2 r q)
        * k0_pay14 (F := Ideal) (k0_pay30 (F := Ideal) x0 x1 x2 x3 x4 x5 x6 x7 x8 x9) (View.ld x6 r0_4) (ix2 r q) * View.ld x7 r0_6 (ix2 q j) :=
    (pay9_at (k0_pay28 (F := Ideal) x0 x1 x2 x3 x4 x5 x6 x7 x8 x9) (k0_pay29 (F := Ideal) x0 x1 x2 x3 x4 x5 x6 x7 x8 x9) (View.ld x5 r0_3) (View.ld x6 r0_4) (View.ld x7 r0_6) r j).trans (by rw [e7])
  refine (pay18_at (k0_pay30 (F := Ideal) x0 x1 x2 x3 x4 x5 x6 x7 x8 x9) (k0_pay31 (F := Ideal) x0 x1 x2 x3 x4 x5 x6 x7 x8 x9) (k0_pay32 (F := Ideal) x0 x1 x2 x3 x4 x5 x6 x7 x8 x9) (k0_pay33 (F := Ideal) x0 x1 x2 x3 x4 x5 x6 x7 x8 x9) (View.ld x6 r0_10) (View.ld x7 r0_12) (View.ld x6 r0_13) (View.ld x7 r0_15) r j).trans ?_
  unfold outRow down
  refine Eq.trans ?_ (sum_chunks _).symm
  rw [e31, e13]
  refine congrArg₂ (· + ·) (congrArg₂ (· + ·) (congrArg₂ (· + ·) ?_ ?_) ?_) ?_
  · exact Finset.sum_congr rfl fun q _ => by rw [chunk0]; exact congrArg _ (down0 x7 q j)
  · exact Finset.sum_congr rfl fun q _ => by rw [e12, e10, chunk1]; exact congrArg _ (down1 x7 q j)
  · exact Finset.sum_congr rfl fun q _ => by rw [chunk2]; exact congrArg _ (down2 x7 q j)
  · exact Finset.sum_congr rfl fun q _ => by rw [chunk3]; exact congrArg _ (down3 x7 q j)

/-- The root's reciprocal of its mean of squares. -/
theorem scale_at (r : Fin 256) : k0_pay21 (F := Ideal) (k0_pay35 (F := Ideal) x0 x1 x2 x3 x4 x5 x6 x7 x8 x9) (k0_pay36 (F := Ideal) x0 x1 x2 x3 x4 x5 x6 x7 x8 x9) (ix2 r 0) = scale (outRow (row x0 r) (row x1 r) (row x3 r) (row x4 0) (row x5 0) (row x2) (joined x6) (row x7)) := by
  have e : k0_pay35 (F := Ideal) x0 x1 x2 x3 x4 x5 x6 x7 x8 x9 (ix2 r 0)
      = Ideal.div (∑ k : Fin 1024, k0_pay34 (F := Ideal) x0 x1 x2 x3 x4 x5 x6 x7 x8 x9 (ix2 r k) * k0_pay34 (F := Ideal) x0 x1 x2 x3 x4 x5 x6 x7 x8 x9 (ix2 r k)) width :=
    pay19_at _ _ _ _ _ _ _ _ r
  have e' : k0_pay36 (F := Ideal) x0 x1 x2 x3 x4 x5 x6 x7 x8 x9 (ix2 r 0) = epsilon := rfl
  rw [pay21_at, e, e']
  simp only [pay34_at]
  rfl

theorem normed_at (r : Fin 256) (j : Fin 1024) : k0_pay25 (F := Ideal) (k0_pay34 (F := Ideal) x0 x1 x2 x3 x4 x5 x6 x7 x8 x9) (k0_pay35 (F := Ideal) x0 x1 x2 x3 x4 x5 x6 x7 x8 x9) (k0_pay36 (F := Ideal) x0 x1 x2 x3 x4 x5 x6 x7 x8 x9) (ix2 r j)
    = normed (outRow (row x0 r) (row x1 r) (row x3 r) (row x4 0) (row x5 0) (row x2) (joined x6) (row x7)) j := by
  rw [pay25_at, scale_at, pay34_at]
  rfl

theorem err_at (r : Fin 256) (j : Fin 1024) : k0_pay22 (F := Ideal) (k0_pay28 (F := Ideal) x0 x1 x2 x3 x4 x5 x6 x7 x8 x9) (k0_pay34 (F := Ideal) x0 x1 x2 x3 x4 x5 x6 x7 x8 x9) (k0_pay35 (F := Ideal) x0 x1 x2 x3 x4 x5 x6 x7 x8 x9) (k0_pay36 (F := Ideal) x0 x1 x2 x3 x4 x5 x6 x7 x8 x9) x9 x8 (ix2 r j)
    = errRow (row x0 r) (row x1 r) (row x3 r) (row x8 r) (row x4 0) (row x5 0) (row x9 0) (row x2) (joined x6) (row x7) j := by
  rw [pay22_at, scale_at, pay34_at, pay28_at]
  rfl

theorem errBack_at (r : Fin 256) (j : Fin 1024) : k0_pay24 (F := Ideal) (k0_pay28 (F := Ideal) x0 x1 x2 x3 x4 x5 x6 x7 x8 x9) (k0_pay34 (F := Ideal) x0 x1 x2 x3 x4 x5 x6 x7 x8 x9) (k0_pay35 (F := Ideal) x0 x1 x2 x3 x4 x5 x6 x7 x8 x9) (k0_pay36 (F := Ideal) x0 x1 x2 x3 x4 x5 x6 x7 x8 x9) x9 x8 (ix2 r j)
    = errBackK (errRow (row x0 r) (row x1 r) (row x3 r) (row x8 r) (row x4 0) (row x5 0) (row x9 0) (row x2) (joined x6) (row x7)) j := by
  rw [pay24_at, err_at]
  rfl

/-! ## The nine blocks -/

theorem out10_at (r : Fin 256) (j : Fin 1024) : out0_10 (F := Ideal) x0 x1 x2 x3 x4 x5 x6 x7 x8 x9 (ix2 r j)
    = mixRow (row x0 r) (row x1 r) (row x2) j := by
  unfold out0_10
  rw [View.canon_unit_zero hz, View.ld_unit_zero hz, View.ld_unit_zero hz, View.ld_unit_zero hz, pay3_at]

theorem out11_at (r : Fin 256) (j : Fin 1024) : out0_11 (F := Ideal) x0 x1 x2 x3 x4 x5 x6 x7 x8 x9 (ix2 r j) = midRow (row x0 r) (row x1 r) (row x3 r) (row x4 0) (row x2) j := by
  unfold out0_11
  rw [View.canon_unit_zero hz]
  exact pay28_at x0 x1 x2 x3 x4 x5 x6 x7 x8 x9 r j

theorem out12_at (r : Fin 256) (j : Fin 1024) : out0_12 (F := Ideal) x0 x1 x2 x3 x4 x5 x6 x7 x8 x9 (ix2 r j) = inRow (row x0 r) (row x1 r) (row x3 r) (row x4 0) (row x5 0) (row x2) j := by
  unfold out0_12
  rw [View.canon_unit_zero hz]
  exact pay30_at x0 x1 x2 x3 x4 x5 x6 x7 x8 x9 r j

theorem out13_at (r : Fin 256) (j : Fin 1024) : out0_13 (F := Ideal) x0 x1 x2 x3 x4 x5 x6 x7 x8 x9 (ix2 r j) = heads (row x0 r) (row x1 r) j := by
  unfold out0_13
  rw [View.canon_unit_zero hz, View.ld_unit_zero hz, View.ld_unit_zero hz, pay2_at]

theorem out14_at (r : Fin 256) (j : Fin 4096) : out0_14 (F := Ideal) x0 x1 x2 x3 x4 x5 x6 x7 x8 x9 (ix2 r j) = actRow (row x0 r) (row x1 r) (row x3 r) (row x4 0) (row x5 0) (row x2) (joined x6) j := by
  unfold out0_14
  rcases lt_or_ge j.val 1024 with h | h
  · rw [canon_skip 3072 _ _ _ r j (Or.inl (by omega)), canon_skip 2048 _ _ _ r j (Or.inl (by omega)),
      canon_skip 1024 _ _ _ r j (Or.inl (by omega)), canon_hit 0 _ _ _ r ⟨j.val, h⟩ j (by simp)]
    exact chunk0 x0 x1 x2 x3 x4 x5 x6 x7 x8 x9 r ⟨j.val, h⟩
  rcases lt_or_ge j.val 2048 with h' | h'
  · rw [canon_skip 3072 _ _ _ r j (Or.inl (by omega)), canon_skip 2048 _ _ _ r j (Or.inl (by omega)),
      canon_hit 1024 _ _ _ r ⟨j.val - 1024, by omega⟩ j (by simp; omega)]
    exact (chunk1 x0 x1 x2 x3 x4 x5 x6 x7 x8 x9 r ⟨j.val - 1024, by omega⟩).trans (congrArg _ (Fin.ext (by simp; omega)))
  rcases lt_or_ge j.val 3072 with h'' | h''
  · rw [canon_skip 3072 _ _ _ r j (Or.inl (by omega)),
      canon_hit 2048 _ _ _ r ⟨j.val - 2048, by omega⟩ j (by simp; omega)]
    exact (chunk2 x0 x1 x2 x3 x4 x5 x6 x7 x8 x9 r ⟨j.val - 2048, by omega⟩).trans (congrArg _ (Fin.ext (by simp; omega)))
  · rw [canon_hit 3072 _ _ _ r ⟨j.val - 3072, by omega⟩ j (by simp; omega)]
    exact (chunk3 x0 x1 x2 x3 x4 x5 x6 x7 x8 x9 r ⟨j.val - 3072, by omega⟩).trans (congrArg _ (Fin.ext (by simp; omega)))

theorem out15_at (r : Fin 256) (j : Fin 1024) : out0_15 (F := Ideal) x0 x1 x2 x3 x4 x5 x6 x7 x8 x9 (ix2 r j) = dfK (row x0 r) (row x1 r) (row x3 r) (row x8 r) (row x4 0) (row x5 0) (row x9 0) (row x2) (joined x6) (row x7) j := by
  unfold out0_15
  rw [View.canon_unit_zero hz, View.ld_unit_zero hz, View.ld_unit_zero hz, pay27_at, scale_at]
  simp only [errBack_at, normed_at]
  rfl

theorem out16_at (r : Fin 256) (j : Fin 1024) : out0_16 (F := Ideal) x0 x1 x2 x3 x4 x5 x6 x7 x8 x9 (ix2 r j) = errBackK (errRow (row x0 r) (row x1 r) (row x3 r) (row x8 r) (row x4 0) (row x5 0) (row x9 0) (row x2) (joined x6) (row x7)) j := by
  unfold out0_16
  rw [View.canon_unit_zero hz, View.ld_unit_zero hz, View.ld_unit_zero hz, errBack_at]

theorem out17_at (p : Fin 8) (q : Fin 128) : out0_17 (F := Ideal) x0 x1 x2 x3 x4 x5 x6 x7 x8 x9 (ix3 0 p q)
    = lossK fun r => errRow (row x0 r) (row x1 r) (row x3 r) (row x8 r) (row x4 0) (row x5 0) (row x9 0) (row x2) (joined x6) (row x7) := by
  unfold out0_17
  rw [View.canon_unit_zero hz3, View.ld_unit_zero hz, View.ld_unit_zero hz, pay23_at]
  simp only [err_at]
  rfl

theorem out18_at (j : Fin 1024) : out0_18 (F := Ideal) x0 x1 x2 x3 x4 x5 x6 x7 x8 x9 (ix3 0 0 j)
    = ∑ r : Fin 256, errBackK (errRow (row x0 r) (row x1 r) (row x3 r) (row x8 r) (row x4 0) (row x5 0) (row x9 0) (row x2) (joined x6) (row x7)) j * normed (outRow (row x0 r) (row x1 r) (row x3 r) (row x4 0) (row x5 0) (row x2) (joined x6) (row x7)) j := by
  unfold out0_18
  rw [View.canon_unit_zero hz3, View.ld_unit_zero hz, View.ld_unit_zero hz, pay1_at]
  simp only [errBack_at, normed_at]

end

end Cert.Kernel7Ideal.FfnFwd

end
-- ==== Proof.FfnFwd.Host.lean ====
/-
  The arrays that the host hands the feed-forward layer's forward kernel, over the extended reals, from the ten arguments,
  and where each grid point's blocks lie in them.
-/
module

public import proofs.«01_k».proof.Proof.FfnFwd.Blocks
public import proofs.«01_k».proof.Proof.FfnFwd.Block
public import Idealize.ShloMosaic.Lib.Pointwise
public import Idealize.ShloMosaic.Lib.Pipeline.ReadBack
public import Idealize.ShloMosaic.Lib.Pipeline.ValueKit.Tiles
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Kernel7Ideal.FfnFwd

open Idealize.ShloMosaic Idealize.ShloMosaic.TcCoe Idealize.ShloMosaic.Tactic
open Cert.Kernel7Ideal Cert.Kernel7Ideal.Gen Cert.FfnFwd
open Cert.FfnBwd (width epsilon meanSq scale normed normBackK)

variable (m : (ℓ : Loc nD τ sig) → Buf (Elt Ideal) ℓ)

/-- The ten arguments on device `c`: the heads' outputs, the layer's input, the target, the three gains and the three
    weights. -/
abbrev argA (c : Dev nD) : S8192x512.Idx → EReal := m (c, Proc.tc.devRef main_arg0)
abbrev argB (c : Dev nD) : S8192x512.Idx → EReal := m (c, Proc.tc.devRef main_arg1)
abbrev argX (c : Dev nD) : S8192x1024.Idx → EReal := m (c, Proc.tc.devRef main_arg2)
abbrev argT (c : Dev nD) : S8192x1024.Idx → EReal := m (c, Proc.tc.devRef main_arg3)
abbrev argG2 (c : Dev nD) : S1x1024.Idx → EReal := m (c, Proc.tc.devRef main_arg4)
abbrev argG3 (c : Dev nD) : S1x1024.Idx → EReal := m (c, Proc.tc.devRef main_arg5)
abbrev argG4 (c : Dev nD) : S1x1024.Idx → EReal := m (c, Proc.tc.devRef main_arg6)
abbrev argO (c : Dev nD) : S1024x1024.Idx → EReal := m (c, Proc.tc.devRef main_arg7)
abbrev argUp (c : Dev nD) : S1024x4096.Idx → EReal := m (c, Proc.tc.devRef main_arg8)
abbrev argDown (c : Dev nD) : S4096x1024.Idx → EReal := m (c, Proc.tc.devRef main_arg9)

/-! ## The arrays the host computes -/

theorem host_o (c : Dev nD) (i j : Fin 1024) : (V m c main_v2 : S1024x1024.Idx → EReal) (ix2 i j) = argO m c (ix2 i j) := by
  unfold V
  after_reads_at

/-- The first weight's four pieces. -/
theorem host_up (c : Dev nD) (p : Fin 4) (i q : Fin 1024) : (V m c main_v3 : S4x1024x1024.Idx → EReal) (ix3 p i q) = argUp m c (ix2 i ⟨p.val * 1024 + q.val, by omega⟩) := by
  unfold V
  after_reads_at

theorem host_down (c : Dev nD) (j : Fin 4096) (k : Fin 1024) : (V m c main_v4 : S4096x1024.Idx → EReal) (ix2 j k) = argDown m c (ix2 j k) := by
  unfold V
  after_reads_at

theorem host_a (c : Dev nD) (t : Fin 8192) (k : Fin 512) : (V m c main_arg0 : S8192x512.Idx → EReal) (ix2 t k) = argA m c (ix2 t k) := by
  unfold V
  after_reads_at

theorem host_b (c : Dev nD) (t : Fin 8192) (k : Fin 512) : (V m c main_arg1 : S8192x512.Idx → EReal) (ix2 t k) = argB m c (ix2 t k) := by
  unfold V
  after_reads_at

theorem host_x (c : Dev nD) (t : Fin 8192) (k : Fin 1024) : (V m c main_arg2 : S8192x1024.Idx → EReal) (ix2 t k) = argX m c (ix2 t k) := by
  unfold V
  after_reads_at

theorem host_t (c : Dev nD) (t : Fin 8192) (k : Fin 1024) : (V m c main_arg3 : S8192x1024.Idx → EReal) (ix2 t k) = argT m c (ix2 t k) := by
  unfold V
  after_reads_at

theorem host_g2 (c : Dev nD) (k : Fin 1024) : (V m c main_arg4 : S1x1024.Idx → EReal) (ix2 0 k) = argG2 m c (ix2 0 k) := by
  unfold V
  after_reads_at

theorem host_g3 (c : Dev nD) (k : Fin 1024) : (V m c main_arg5 : S1x1024.Idx → EReal) (ix2 0 k) = argG3 m c (ix2 0 k) := by
  unfold V
  after_reads_at

theorem host_g4 (c : Dev nD) (k : Fin 1024) : (V m c main_arg6 : S1x1024.Idx → EReal) (ix2 0 k) = argG4 m c (ix2 0 k) := by
  unfold V
  after_reads_at

/-! ## The blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0, 0] := (by decide +kernel : ∀ t : Fin grid0.N, _)
theorem idx18 : ∀ t : Fin cfg0.N, win0_18.index t = ![t.val, 0, 0] := (by decide +kernel : ∀ t : Fin grid0.N, _)

/-- The grid point of the block `b` of tokens, and token `r` of that block. -/
abbrev pt (b : Fin 32) : Fin cfg0.N := ⟨b.val, by show _ < 32; omega⟩
abbrev tok (b : Fin 32) (r : Fin 256) : Fin 8192 := ⟨b.val * 256 + r.val, by omega⟩

theorem blk0 (c : Dev nD) (b : Fin 32) (r : Fin 256) (k : Fin 512) :
    (iblk m c 0 (pt b) : S256x512.Idx → EReal) (ix2 r k) = argA m c (ix2 (tok b r) k) := by
  blk_simp [iblk]
  refine Eq.trans ?_ (host_a m c _ _)
  blk_ext [idx0]

theorem blk1 (c : Dev nD) (b : Fin 32) (r : Fin 256) (k : Fin 512) :
    (iblk m c 1 (pt b) : S256x512.Idx → EReal) (ix2 r k) = argB m c (ix2 (tok b r) k) := by
  blk_simp [iblk]
  refine Eq.trans ?_ (host_b m c _ _)
  blk_ext [idx1]

theorem blk2 (c : Dev nD) (b : Fin 32) (i j : Fin 1024) :
    (iblk m c 2 (pt b) : S1024x1024.Idx → EReal) (ix2 i j) = argO m c (ix2 i j) := by
  blk_simp [iblk]
  refine Eq.trans ?_ (host_o m c _ _)
  blk_ext [idx2]

theorem blk3 (c : Dev nD) (b : Fin 32) (r : Fin 256) (k : Fin 1024) :
    (iblk m c 3 (pt b) : S256x1024.Idx → EReal) (ix2 r k) = argX m c (ix2 (tok b r) k) := by
  blk_simp [iblk]
  refine Eq.trans ?_ (host_x m c _ _)
  blk_ext [idx3]

theorem blk4 (c : Dev nD) (b : Fin 32) (k : Fin 1024) : (iblk m c 4 (pt b) : S1x1024.Idx → EReal) (ix2 0 k) = argG2 m c (ix2 0 k) := by
  blk_simp [iblk]
  refine Eq.trans ?_ (host_g2 m c _)
  blk_ext [idx4]

theorem blk5 (c : Dev nD) (b : Fin 32) (k : Fin 1024) : (iblk m c 5 (pt b) : S1x1024.Idx → EReal) (ix2 0 k) = argG3 m c (ix2 0 k) := by
  blk_simp [iblk]
  refine Eq.trans ?_ (host_g3 m c _)
  blk_ext [idx5]

theorem blk6 (c : Dev nD) (b : Fin 32) (p : Fin 4) (i q : Fin 1024) : (iblk m c 6 (pt b) : S4x1024x1024.Idx → EReal) (ix3 p i q)
    = argUp m c (ix2 i ⟨p.val * 1024 + q.val, by omega⟩) := by
  blk_simp [iblk]
  refine Eq.trans ?_ (host_up m c _ _ _)
  blk_ext [idx6]

theorem blk7 (c : Dev nD) (b : Fin 32) (j : Fin 4096) (k : Fin 1024) :
    (iblk m c 7 (pt b) : S4096x1024.Idx → EReal) (ix2 j k) = argDown m c (ix2 j k) := by
  blk_simp [iblk]
  refine Eq.trans ?_ (host_down m c _ _)
  blk_ext [idx7]

theorem blk8 (c : Dev nD) (b : Fin 32) (r : Fin 256) (k : Fin 1024) :
    (iblk m c 8 (pt b) : S256x1024.Idx → EReal) (ix2 r k) = argT m c (ix2 (tok b r) k) := by
  blk_simp [iblk]
  refine Eq.trans ?_ (host_t m c _ _)
  blk_ext [idx8]

theorem blk9 (c : Dev nD) (b : Fin 32) (k : Fin 1024) : (iblk m c 9 (pt b) : S1x1024.Idx → EReal) (ix2 0 k) = argG4 m c (ix2 0 k) := by
  blk_simp [iblk]
  refine Eq.trans ?_ (host_g4 m c _)
  blk_ext [idx9]

end Cert.Kernel7Ideal.FfnFwd

end
-- ==== Proof.FfnFwd.Arrays.lean ====
/-
  The nine arrays that the run of the feed-forward layer's forward kernel leaves, over the extended reals, from the ten
  arguments.
-/
module

public import proofs.«01_k».proof.Proof.FfnFwd.Host

@[expose] public section

set_option maxRecDepth 16384

noncomputable section

namespace Cert.Kernel7Ideal.FfnFwd

open Idealize.ShloMosaic Idealize.ShloMosaic.TcCoe Idealize.ShloMosaic.Tactic
open Cert.Kernel7Ideal Cert.Kernel7Ideal.Gen Cert.FfnFwd
open Cert.FfnBwd (width epsilon meanSq scale normed normBackK)

variable (m : (ℓ : Loc nD τ sig) → Buf (Elt Ideal) ℓ)

variable (c : Dev nD)

/-! ## The rows of the blocks -/

theorem row0 (b : Fin 32) (r : Fin 256) :
    row (iblk m c 0 (pt b) : S256x512.Idx → EReal) r = row (argA m c) (tok b r) := funext fun k => blk0 m c b r k

theorem row1 (b : Fin 32) (r : Fin 256) :
    row (iblk m c 1 (pt b) : S256x512.Idx → EReal) r = row (argB m c) (tok b r) := funext fun k => blk1 m c b r k

theorem row3 (b : Fin 32) (r : Fin 256) :
    row (iblk m c 3 (pt b) : S256x1024.Idx → EReal) r = row (argX m c) (tok b r) := funext fun k => blk3 m c b r k

theorem row8 (b : Fin 32) (r : Fin 256) :
    row (iblk m c 8 (pt b) : S256x1024.Idx → EReal) r = row (argT m c) (tok b r) := funext fun k => blk8 m c b r k

theorem row4 (b : Fin 32) : row (iblk m c 4 (pt b) : S1x1024.Idx → EReal) 0 = row (argG2 m c) 0 := funext fun k => blk4 m c b k

theorem row5 (b : Fin 32) : row (iblk m c 5 (pt b) : S1x1024.Idx → EReal) 0 = row (argG3 m c) 0 := funext fun k => blk5 m c b k

theorem row9 (b : Fin 32) : row (iblk m c 9 (pt b) : S1x1024.Idx → EReal) 0 = row (argG4 m c) 0 := funext fun k => blk9 m c b k

theorem row2 (b : Fin 32) : row (iblk m c 2 (pt b) : S1024x1024.Idx → EReal) = row (argO m c) :=
  funext fun i => funext fun j => blk2 m c b i j

theorem row7 (b : Fin 32) : row (iblk m c 7 (pt b) : S4096x1024.Idx → EReal) = row (argDown m c) :=
  funext fun j => funext fun k => blk7 m c b j k

theorem row6 (b : Fin 32) : joined (iblk m c 6 (pt b)) = row (argUp m c) := by
  funext i j
  refine (blk6 m c b (piece j) i (place j)).trans ?_
  exact congrArg (fun q => argUp m c (ix2 i q)) (Fin.ext (by show j.val / 1024 * 1024 + j.val % 1024 = j.val; omega))

/-! ## The arrays -/

theorem arr10 (b : Fin 32) (r : Fin 256) (j : Fin 1024) :
    ((dats m 0 c).arrAt 10 cfg0.N : S8192x1024.Idx → EReal) (ix2 (tok b r) j)
      = mixRow (row (argA m c) (tok b r)) (row (argB m c) (tok b r)) (row (argO m c)) j := by
  have h := (dats m 0 c).arrAt_emb_eq_flushed 10 disjoint10 (pt b) (flush0_10 _) (ix2 r j)
  rw [flushed10] at h
  refine Eq.trans ?_ (h.trans (Eq.trans ?_ ((out10_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r j).trans ?_)))
  · blk_ext [idx10]
  · generalize out0_10 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row2]

theorem arr11 (b : Fin 32) (r : Fin 256) (j : Fin 1024) :
    ((dats m 0 c).arrAt 11 cfg0.N : S8192x1024.Idx → EReal) (ix2 (tok b r) j)
      = midRow (row (argA m c) (tok b r)) (row (argB m c) (tok b r)) (row (argX m c) (tok b r)) (row (argG2 m c) 0) (row (argO m c)) j := by
  have h := (dats m 0 c).arrAt_emb_eq_flushed 11 disjoint11 (pt b) (flush0_11 _) (ix2 r j)
  rw [flushed11] at h
  refine Eq.trans ?_ (h.trans (Eq.trans ?_ ((out11_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r j).trans ?_)))
  · blk_ext [idx11]
  · generalize out0_11 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row3, row4, row2]

theorem arr12 (b : Fin 32) (r : Fin 256) (j : Fin 1024) :
    ((dats m 0 c).arrAt 12 cfg0.N : S8192x1024.Idx → EReal) (ix2 (tok b r) j)
      = inRow (row (argA m c) (tok b r)) (row (argB m c) (tok b r)) (row (argX m c) (tok b r)) (row (argG2 m c) 0) (row (argG3 m c) 0) (row (argO m c)) j := by
  have h := (dats m 0 c).arrAt_emb_eq_flushed 12 disjoint12 (pt b) (flush0_12 _) (ix2 r j)
  rw [flushed12] at h
  refine Eq.trans ?_ (h.trans (Eq.trans ?_ ((out12_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r j).trans ?_)))
  · blk_ext [idx12]
  · generalize out0_12 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row3, row4, row5, row2]

theorem arr13 (b : Fin 32) (r : Fin 256) (j : Fin 1024) :
    ((dats m 0 c).arrAt 13 cfg0.N : S8192x1024.Idx → EReal) (ix2 (tok b r) j)
      = heads (row (argA m c) (tok b r)) (row (argB m c) (tok b r)) j := by
  have h := (dats m 0 c).arrAt_emb_eq_flushed 13 disjoint13 (pt b) (flush0_13 _) (ix2 r j)
  rw [flushed13] at h
  refine Eq.trans ?_ (h.trans (Eq.trans ?_ ((out13_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r j).trans ?_)))
  · blk_ext [idx13]
  · generalize out0_13 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1]

theorem arr14 (b : Fin 32) (r : Fin 256) (j : Fin 4096) :
    ((dats m 0 c).arrAt 14 cfg0.N : S8192x4096.Idx → EReal) (ix2 (tok b r) j)
      = actRow (row (argA m c) (tok b r)) (row (argB m c) (tok b r)) (row (argX m c) (tok b r)) (row (argG2 m c) 0) (row (argG3 m c) 0) (row (argO m c)) (row (argUp m c)) j := by
  have h := (dats m 0 c).arrAt_emb_eq_flushed 14 disjoint14 (pt b) (flush0_14 _) (ix2 r j)
  rw [flushed14] at h
  refine Eq.trans ?_ (h.trans (Eq.trans ?_ ((out14_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r j).trans ?_)))
  · blk_ext [idx14]
  · generalize out0_14 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row3, row4, row5, row2, row6]

theorem arr15 (b : Fin 32) (r : Fin 256) (j : Fin 1024) :
    ((dats m 0 c).arrAt 15 cfg0.N : S8192x1024.Idx → EReal) (ix2 (tok b r) j)
      = dfK (row (argA m c) (tok b r)) (row (argB m c) (tok b r)) (row (argX m c) (tok b r)) (row (argT m c) (tok b r)) (row (argG2 m c) 0) (row (argG3 m c) 0) (row (argG4 m c) 0) (row (argO m c)) (row (argUp m c)) (row (argDown m c)) j := by
  have h := (dats m 0 c).arrAt_emb_eq_flushed 15 disjoint15 (pt b) (flush0_15 _) (ix2 r j)
  rw [flushed15] at h
  refine Eq.trans ?_ (h.trans (Eq.trans ?_ ((out15_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r j).trans ?_)))
  · blk_ext [idx15]
  · generalize out0_15 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row3, row8, row4, row5, row9, row2, row6, row7]

theorem arr16 (b : Fin 32) (r : Fin 256) (j : Fin 1024) :
    ((dats m 0 c).arrAt 16 cfg0.N : S8192x1024.Idx → EReal) (ix2 (tok b r) j)
      = errBackK (errRow (row (argA m c) (tok b r)) (row (argB m c) (tok b r)) (row (argX m c) (tok b r)) (row (argT m c) (tok b r)) (row (argG2 m c) 0) (row (argG3 m c) 0) (row (argG4 m c) 0) (row (argO m c)) (row (argUp m c)) (row (argDown m c))) j := by
  have h := (dats m 0 c).arrAt_emb_eq_flushed 16 disjoint16 (pt b) (flush0_16 _) (ix2 r j)
  rw [flushed16] at h
  refine Eq.trans ?_ (h.trans (Eq.trans ?_ ((out16_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    r j).trans ?_)))
  · blk_ext [idx16]
  · generalize out0_16 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · rw [row0, row1, row3, row8, row4, row5, row9, row2, row6, row7]

theorem arr17 (b : Fin 32) (p : Fin 8) (q : Fin 128) :
    ((dats m 0 c).arrAt 17 cfg0.N : S32x8x128.Idx → EReal) (ix3 b p q)
      = lossK fun r => errRow (row (argA m c) (tok b r)) (row (argB m c) (tok b r)) (row (argX m c) (tok b r)) (row (argT m c) (tok b r)) (row (argG2 m c) 0) (row (argG3 m c) 0) (row (argG4 m c) 0) (row (argO m c)) (row (argUp m c)) (row (argDown m c)) := by
  have h := (dats m 0 c).arrAt_emb_eq_flushed 17 disjoint17 (pt b) (flush0_17 _) (ix3 0 p q)
  rw [flushed17] at h
  refine Eq.trans ?_ (h.trans (Eq.trans ?_ ((out17_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    p q).trans ?_)))
  · blk_ext [idx17]
  · generalize out0_17 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · refine congrArg lossK (funext fun r => ?_)
    rw [row0, row1, row2, row3, row4, row5, row6, row7, row8, row9]

theorem arr18 (b : Fin 32) (j : Fin 1024) :
    ((dats m 0 c).arrAt 18 cfg0.N : S32x1x1024.Idx → EReal) (ix3 b 0 j)
      = ∑ r : Fin 256, errBackK (errRow (row (argA m c) (tok b r)) (row (argB m c) (tok b r)) (row (argX m c) (tok b r)) (row (argT m c) (tok b r)) (row (argG2 m c) 0) (row (argG3 m c) 0) (row (argG4 m c) 0) (row (argO m c)) (row (argUp m c)) (row (argDown m c))) j
        * normed (outRow (row (argA m c) (tok b r)) (row (argB m c) (tok b r)) (row (argX m c) (tok b r)) (row (argG2 m c) 0) (row (argG3 m c) 0) (row (argO m c)) (row (argUp m c)) (row (argDown m c))) j := by
  have h := (dats m 0 c).arrAt_emb_eq_flushed 18 disjoint18 (pt b) (flush0_18 _) (ix3 0 0 j)
  rw [flushed18] at h
  refine Eq.trans ?_ (h.trans (Eq.trans ?_ ((out18_at (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b))
    j).trans ?_)))
  · blk_ext [idx18]
  · generalize out0_18 (F := Ideal) (iblk m c 0 (pt b)) (iblk m c 1 (pt b)) (iblk m c 2 (pt b)) (iblk m c 3 (pt b)) (iblk m c 4 (pt b)) (iblk m c 5 (pt b)) (iblk m c 6 (pt b)) (iblk m c 7 (pt b)) (iblk m c 8 (pt b)) (iblk m c 9 (pt b)) = o
    generalize pt b = t
    rfl
  · refine Finset.sum_congr rfl fun r _ => ?_
    rw [row0, row1, row2, row3, row4, row5, row6, row7, row8, row9]

end Cert.Kernel7Ideal.FfnFwd

end
-- ==== Proof.FfnFwd.Reference.lean ====
/-
  What the reference of the feed-forward layer's forward pass computes: its stages, read at an index, as the model's formulas
  over the arguments' rows.
-/
module

public import proofs.«01_k».proof.Proof.Gen.Reference7Ideal.Read
public import proofs.«01_k».proof.Proof.FfnFwd.Model
public import Idealize.ShloMosaic.Lib.Pointwise

@[expose] public section

set_option maxRecDepth 16384

noncomputable section

namespace Cert.Reference7Ideal.FfnFwd

open Idealize.ShloMosaic Idealize.ShloMosaic.TcCoe Idealize.ShloMosaic.Tactic
open Cert.Reference7Ideal Cert.Reference7Ideal.Gen Cert.Reference7Ideal.Read Cert.FfnFwd
open Cert.FfnBwd (width epsilon two minusHalf meanSq scale normed tail normBackR)

/-- A row of a matrix. -/
abbrev row {a b : Nat} (x : Shape.Idx ⟨2, ![a, b]⟩ → EReal) (r : Fin a) : Fin b → EReal := fun k => x (ix2 r k)

/-- Token `r` of the block `b` of tokens. -/
abbrev tok (b : Fin 32) (r : Fin 256) : Fin 8192 := ⟨b.val * 256 + r.val, by omega⟩

/-! ## The norm of an array's rows and its derivative, by the reference's operations -/

section
variable (y d : FVec Ideal S8192x1024 .f32)

def meanSqs : FVec Ideal S8192x1 .f32 :=
  addf (Host.divf (broadcastInDim S8192x1 ![0] bcast_S8192_S8192x1_0
    (Host.reduceAdd (mulf y y) (val_main_cst (F := Ideal)) reducesTo_S8192x1024_S8192_d1 h_S_)) (val_main_v5 (F := Ideal)))
    (val_main_v7 (F := Ideal))

def scales : FVec Ideal S8192x1 .f32 := Host.rsqrt (meanSqs y)

def norms : FVec Ideal S8192x1024 .f32 := mulf y (broadcastInDim S8192x1024 ![0, 1] bcast_S8192x1_S8192x1024_0_1 (scales y))

def halves : FVec Ideal S8192x1 .f32 := mulf (val_main_v43 (F := Ideal)) (Host.divf (scales y) (meanSqs y))

/-- What the derivative of the squares' mean at the rows of `y` contributes. -/
def shift : FVec Ideal S8192x1024 .f32 :=
  broadcastInDim S8192x1024 ![0] bcast_S8192_S8192x1024_0 (Host.reduceAdd (Host.divf (mulf
    (shapeCast S8192x1 (Host.reduceAdd (mulf y d) (val_main_cst_17 (F := Ideal)) reducesTo_S8192x1024_S8192_d1 h_S_)
      shapeCasts_S8192_S8192x1) (halves y)) (val_main_v77 (F := Ideal))) (val_main_cst_19 (F := Ideal))
    reducesTo_S8192x1_S8192_d1 h_S_)

/-- The derivative of the norm at the rows of `y`, applied to the rows of `d`. -/
def back : FVec Ideal S8192x1024 .f32 :=
  addf (addf (mulf d (broadcastInDim S8192x1024 ![0, 1] bcast_S8192x1_S8192x1024_0_1 (scales y))) (mulf y (shift y d)))
    (mulf (shift y d) y)

theorem meanSqs_at (t : Fin 8192) : meanSqs y (ix2 t 0) = meanSq (row y t) := by
  unfold meanSqs val_main_v5 val_main_v7 val_main_cst val_main_cst_0 val_main_cst_1 meanSq
  pointwise
  rfl

theorem scales_at (t : Fin 8192) : scales y (ix2 t 0) = scale (row y t) := by
  rw [scale, ← meanSqs_at]
  rfl

theorem norms_at (t : Fin 8192) (j : Fin 1024) : norms y (ix2 t j) = normed (row y t) j := by
  rw [normed, ← scales_at]
  unfold norms
  generalize scales y = p
  pointwise

theorem halves_at (t : Fin 8192) : halves y (ix2 t 0) = minusHalf * Ideal.div (scale (row y t)) (meanSq (row y t)) := by
  rw [← scales_at, ← meanSqs_at]
  unfold halves val_main_v43 val_main_cst_8
  generalize scales y = p
  generalize meanSqs y = q
  pointwise
  rfl

theorem shift_at (t : Fin 8192) (j : Fin 1024) : shift y d (ix2 t j) = tail (row y t) (row d t) := by
  unfold tail
  rw [← halves_at]
  unfold shift val_main_v77 val_main_cst_17 val_main_cst_18 val_main_cst_19
  generalize halves y = q
  pointwise
  rw [Fin.sum_univ_one]
  rfl

theorem back_at (t : Fin 8192) (j : Fin 1024) : back y d (ix2 t j) = normBackR (row y t) (row d t) j := by
  unfold normBackR
  rw [← scales_at, ← shift_at y d t j]
  unfold back
  generalize shift y d = s
  generalize scales y = q
  pointwise

end

/-! ## The forward pass -/

variable (a b : S8192x512.Idx → EReal) (x y : S8192x1024.Idx → EReal) (g2 g3 g4 : S1x1024.Idx → EReal)
  (wo : S1024x1024.Idx → EReal) (wu : S1024x4096.Idx → EReal) (wd : S4096x1024.Idx → EReal)

theorem heads_v (t : Fin 8192) (k : Fin 1024) : val_main_v0 (F := Ideal) a b (ix2 t k) = heads (row a t) (row b t) k :=
  heads_at a b concatenates_S8192x512_S8192x512_S8192x1024_d1 t k

theorem mix_at (t : Fin 8192) (j : Fin 1024) : val_main_v1 (F := Ideal) a b wo (ix2 t j) = mixRow (row a t) (row b t) (row wo) j := by
  have e : ∑ k : Fin 1024, val_main_v0 (F := Ideal) a b (ix2 t k) * wo (ix2 k j) = mixRow (row a t) (row b t) (row wo) j := by
    unfold mixRow project
    exact Finset.sum_congr rfl fun k _ => by rw [heads_v]
  rw [← e]
  unfold val_main_v1
  generalize val_main_v0 (F := Ideal) a b = p
  pointwise

theorem mid_at (t : Fin 8192) (j : Fin 1024) : val_main_v14 (F := Ideal) a b x g2 wo (ix2 t j)
    = midRow (row a t) (row b t) (row x t) (row g2 0) (row wo) j := by
  have h : val_main_v14 (F := Ideal) a b x g2 wo = addf x (mulf (norms (val_main_v1 (F := Ideal) a b wo)) (val_main_v12 (F := Ideal) g2)) := rfl
  have hr : row (val_main_v1 (F := Ideal) a b wo) t = mixRow (row a t) (row b t) (row wo) := funext fun k => mix_at a b wo t k
  have hn : norms (val_main_v1 (F := Ideal) a b wo) (ix2 t j) = normed (mixRow (row a t) (row b t) (row wo)) j := by
    rw [norms_at, hr]
  unfold midRow added gained
  rw [h, ← hn]
  unfold val_main_v12
  generalize norms (val_main_v1 (F := Ideal) a b wo) = p
  pointwise

theorem in_at (t : Fin 8192) (j : Fin 1024) : val_main_v26 (F := Ideal) a b x g2 g3 wo (ix2 t j)
    = inRow (row a t) (row b t) (row x t) (row g2 0) (row g3 0) (row wo) j := by
  have h : val_main_v26 (F := Ideal) a b x g2 g3 wo
      = mulf (norms (val_main_v14 (F := Ideal) a b x g2 wo)) (val_main_v25 (F := Ideal) g3) := rfl
  have hr : row (val_main_v14 (F := Ideal) a b x g2 wo) t = midRow (row a t) (row b t) (row x t) (row g2 0) (row wo) :=
    funext fun k => mid_at a b x g2 wo t k
  have hn : norms (val_main_v14 (F := Ideal) a b x g2 wo) (ix2 t j) = normed (midRow (row a t) (row b t) (row x t) (row g2 0) (row wo)) j := by
    rw [norms_at, hr]
  unfold inRow gained
  rw [h, ← hn]
  unfold val_main_v25
  generalize norms (val_main_v14 (F := Ideal) a b x g2 wo) = p
  pointwise

theorem act_at (t : Fin 8192) (j : Fin 4096) : val_main_v28 (F := Ideal) a b x g2 g3 wo wu (ix2 t j)
    = actRow (row a t) (row b t) (row x t) (row g2 0) (row g3 0) (row wo) (row wu) j := by
  have e : max (∑ k : Fin 1024, val_main_v26 (F := Ideal) a b x g2 g3 wo (ix2 t k) * wu (ix2 k j)) 0
      = actRow (row a t) (row b t) (row x t) (row g2 0) (row g3 0) (row wo) (row wu) j :=
    congrArg (max · 0) (Finset.sum_congr rfl fun k _ => by rw [in_at])
  rw [← e]
  unfold val_main_v28 val_main_v27 val_main_call0_v0 val_main_call0_cst
  generalize val_main_v26 (F := Ideal) a b x g2 g3 wo = p
  pointwise

theorem out_at (t : Fin 8192) (j : Fin 1024) : val_main_v30 (F := Ideal) a b x g2 g3 wo wu wd (ix2 t j)
    = outRow (row a t) (row b t) (row x t) (row g2 0) (row g3 0) (row wo) (row wu) (row wd) j := by
  have e : ∑ k : Fin 4096, val_main_v28 (F := Ideal) a b x g2 g3 wo wu (ix2 t k) * val_main_v28 (F := Ideal) a b x g2 g3 wo wu (ix2 t k)
        * wd (ix2 k j)
      = outRow (row a t) (row b t) (row x t) (row g2 0) (row g3 0) (row wo) (row wu) (row wd) j := by
    unfold outRow down
    exact Finset.sum_congr rfl fun k _ => by rw [act_at]
  rw [← e]
  unfold val_main_v30 val_main_v29
  generalize val_main_v28 (F := Ideal) a b x g2 g3 wo wu = p
  pointwise

theorem gain_at (t : Fin 8192) (j : Fin 1024) : val_main_v33 (F := Ideal) g4 (ix2 t j) = g4 (ix2 0 j) := by
  rw [val_main_v33_apply, val_main_v32_apply, val_main_v31_apply]
  refine congrArg g4 (funext fun a => Fin.ext ?_)
  match a with
  | ⟨0, _⟩ => rfl
  | ⟨1, _⟩ => show (t.val * 1024 + j.val) % 1024 = j.val; omega

theorem normed_at (t : Fin 8192) (j : Fin 1024) : val_main_v46 (F := Ideal) a b x g2 g3 wo wu wd (ix2 t j)
    = normed (outRow (row a t) (row b t) (row x t) (row g2 0) (row g3 0) (row wo) (row wu) (row wd)) j := by
  have h : val_main_v46 (F := Ideal) a b x g2 g3 wo wu wd = norms (val_main_v30 (F := Ideal) a b x g2 g3 wo wu wd) := rfl
  have hr : row (val_main_v30 (F := Ideal) a b x g2 g3 wo wu wd) t
      = outRow (row a t) (row b t) (row x t) (row g2 0) (row g3 0) (row wo) (row wu) (row wd) :=
    funext fun k => out_at a b x g2 g3 wo wu wd t k
  rw [h, norms_at, hr]

/-! ## The error, the loss and its gradient -/

theorem err_at (t : Fin 8192) (j : Fin 1024) : val_main_v49 (F := Ideal) a b x y g2 g3 g4 wo wu wd (ix2 t j)
    = errRow (row a t) (row b t) (row x t) (row y t) (row g2 0) (row g3 0) (row g4 0) (row wo) (row wu) (row wd) j := by
  rw [val_main_v49_apply, val_main_v48_apply, val_main_v47_apply, mid_at, normed_at, gain_at]
  rfl

theorem weight_at (t : Fin 8192) (j : Fin 1024) : val_main_v67 (F := Ideal) (ix2 t j) = Ideal.div (half * unit) width := by
  rw [val_main_v67_apply, val_main_v66_apply, val_main_v64_apply, val_main_v63_apply, val_main_v62_apply]
  rfl

theorem errBack_at (t : Fin 8192) (j : Fin 1024) : val_main_v68 (F := Ideal) a b x y g2 g3 g4 wo wu wd (ix2 t j)
    = errBackR (errRow (row a t) (row b t) (row x t) (row y t) (row g2 0) (row g3 0) (row g4 0) (row wo) (row wu) (row wd)) j := by
  rw [val_main_v68_apply, weight_at, val_main_v52_apply, err_at]
  rfl

theorem df_at (t : Fin 8192) (j : Fin 1024) : val_main_v84 (F := Ideal) a b x y g2 g3 g4 wo wu wd (ix2 t j)
    = dfR (row a t) (row b t) (row x t) (row y t) (row g2 0) (row g3 0) (row g4 0) (row wo) (row wu) (row wd) j := by
  have h : val_main_v84 (F := Ideal) a b x y g2 g3 g4 wo wu wd
      = back (val_main_v30 (F := Ideal) a b x g2 g3 wo wu wd) (val_main_v70 (F := Ideal) a b x y g2 g3 g4 wo wu wd) := rfl
  have hr : row (val_main_v30 (F := Ideal) a b x g2 g3 wo wu wd) t
      = outRow (row a t) (row b t) (row x t) (row g2 0) (row g3 0) (row wo) (row wu) (row wd) :=
    funext fun k => out_at a b x g2 g3 wo wu wd t k
  have hd : row (val_main_v70 (F := Ideal) a b x y g2 g3 g4 wo wu wd) t
      = fun k => errBackR (errRow (row a t) (row b t) (row x t) (row y t) (row g2 0) (row g3 0) (row g4 0) (row wo) (row wu) (row wd)) k
          * row g4 0 k := by
    funext k
    show val_main_v70 (F := Ideal) a b x y g2 g3 g4 wo wu wd (ix2 t k) = _
    rw [val_main_v70_apply, errBack_at, gain_at]
    rfl
  rw [h, back_at, hr, hd]
  rfl

/-! ## The nine results -/

theorem h_result (t : Fin 8192) (j : Fin 1024) : val_main_v88 (F := Ideal) a b x g2 g3 wo (ix2 t j)
    = inRow (row a t) (row b t) (row x t) (row g2 0) (row g3 0) (row wo) j := by
  rw [val_main_v88_apply, in_at]
  rfl

theorem o_result (t : Fin 8192) (k : Fin 1024) : val_main_v89 (F := Ideal) a b (ix2 t k) = heads (row a t) (row b t) k := by
  rw [val_main_v89_apply, heads_v]
  rfl

theorem u_result (t : Fin 8192) (j : Fin 4096) : val_main_v91 (F := Ideal) a b x g2 g3 wo wu (ix2 t j)
    = actRow (row a t) (row b t) (row x t) (row g2 0) (row g3 0) (row wo) (row wu) j := by
  rw [val_main_v91_apply, ← act_at]
  rfl

theorem df_result (t : Fin 8192) (j : Fin 1024) : val_main_v92 (F := Ideal) a b x y g2 g3 g4 wo wu wd (ix2 t j)
    = dfR (row a t) (row b t) (row x t) (row y t) (row g2 0) (row g3 0) (row g4 0) (row wo) (row wu) (row wd) j := by
  rw [val_main_v92_apply, df_at]
  rfl

/-- The mean of the squares of one token's error. -/
theorem mean_at (t : Fin 8192) : val_main_v55 (F := Ideal) a b x y g2 g3 g4 wo wu wd (ix1 t)
    = Ideal.div (∑ j, errRow (row a t) (row b t) (row x t) (row y t) (row g2 0) (row g3 0) (row g4 0) (row wo) (row wu) (row wd) j
        * errRow (row a t) (row b t) (row x t) (row y t) (row g2 0) (row g3 0) (row g4 0) (row wo) (row wu) (row wd) j) width := by
  rw [val_main_v55_apply, val_main_v53_apply, val_main_cst_10_apply]
  refine congrArg₂ Ideal.div ?_ rfl
  refine (congrArg (· + _) Ideal.ofBits_zero_f32).trans ((zero_add _).trans (Finset.sum_congr rfl fun j _ => ?_))
  rw [← err_at]
  refine (val_main_v50_apply (F := Ideal) a b x y g2 g3 g4 wo wu wd _).trans ?_
  have e : idx_main_v53 (ix1 t) j = ix2 t j := funext fun c => match c with | ⟨0, _⟩ => rfl | ⟨1, _⟩ => rfl
  rw [e]
  rfl

theorem loss_result (i : Fin 32) (p : Fin 8) (q : Fin 128) : val_main_v94 (F := Ideal) a b x y g2 g3 g4 wo wu wd (ix3 i p q)
    = lossR fun r => errRow (row a (tok i r)) (row b (tok i r)) (row x (tok i r)) (row y (tok i r)) (row g2 0) (row g3 0) (row g4 0)
        (row wo) (row wu) (row wd) := by
  rw [val_main_v94_apply, val_main_v93_apply, val_main_v59_apply, val_main_v57_apply, val_main_cst_12_apply]
  refine congrArg₂ (· * ·) rfl ?_
  refine (congrArg (· + _) Ideal.ofBits_zero_f32).trans ((zero_add _).trans (Finset.sum_congr rfl fun r _ => ?_))
  rw [val_main_v56_apply]
  refine Eq.trans (congrArg _ ?_) (mean_at a b x y g2 g3 g4 wo wu wd (tok i r))
  funext c
  refine Fin.ext ?_
  match c with
  | ⟨0, _⟩ => show ((i.val * 1 + 0) * 1 + 0) * 256 + r.val = i.val * 256 + r.val; omega

theorem dg4_result (i : Fin 32) (j : Fin 1024) : val_main_v87 (F := Ideal) a b x y g2 g3 g4 wo wu wd (ix3 i 0 j)
    = ∑ r : Fin 256, normed (outRow (row a (tok i r)) (row b (tok i r)) (row x (tok i r)) (row g2 0) (row g3 0) (row wo) (row wu) (row wd)) j
        * errBackR (errRow (row a (tok i r)) (row b (tok i r)) (row x (tok i r)) (row y (tok i r)) (row g2 0) (row g3 0) (row g4 0)
          (row wo) (row wu) (row wd)) j := by
  rw [val_main_v87_apply, val_main_v86_apply, val_main_cst_20_apply]
  refine (congrArg (· + _) Ideal.ofBits_zero_f32).trans ((zero_add _).trans (Finset.sum_congr rfl fun r _ => ?_))
  rw [← normed_at, ← errBack_at, val_main_v85_apply]
  refine Eq.trans (congrArg _ ?_) (val_main_v69_apply (F := Ideal) a b x y g2 g3 g4 wo wu wd (ix2 (tok i r) j))
  funext c
  refine Fin.ext ?_
  match c with
  | ⟨0, _⟩ => show ((i.val * 256 + r.val) * 1024 + j.val) / 1024 = i.val * 256 + r.val; omega
  | ⟨1, _⟩ => show ((i.val * 256 + r.val) * 1024 + j.val) % 1024 = j.val; omega

end Cert.Reference7Ideal.FfnFwd

end
-- ==== Proof.FfnFwd.Results.lean ====
/-
  The nine results of the feed-forward layer's forward kernel are the reference's nine, as arrays.
-/
module

public import proofs.«01_k».proof.Proof.FfnFwd.Arrays
public import proofs.«01_k».proof.Proof.FfnFwd.Reference

@[expose] public section

set_option maxRecDepth 16384

noncomputable section

namespace Cert.Kernel7Ideal.FfnFwd

open Idealize.ShloMosaic Idealize.ShloMosaic.TcCoe Idealize.ShloMosaic.Tactic
open Cert.Kernel7Ideal Cert.Kernel7Ideal.Gen Cert.FfnFwd
open Cert.FfnBwd (normed)
open Cert.Reference7Ideal.Read (val_main_v1 val_main_v14 val_main_v88 val_main_v89 val_main_v91 val_main_v92 val_main_v68 val_main_v94
  val_main_v87)

/-- Every index of a `[token, lane]` array is a lane of a token of a block. -/
theorem index_tok {n : Nat} (i : Shape.Idx ⟨2, ![8192, n]⟩) : ∃ (b : Fin 32) (r : Fin 256) (j : Fin n), i = ix2 (tok b r) j := by
  have h0 : (i 0).val < 8192 := (i 0).isLt
  refine ⟨⟨(i 0).val / 256, by omega⟩, ⟨(i 0).val % 256, by omega⟩, i 1, funext fun a => Fin.ext ?_⟩
  match a with
  | ⟨0, _⟩ => show (i 0).val = (i 0).val / 256 * 256 + (i 0).val % 256; omega
  | ⟨1, _⟩ => rfl

/-- Every index of a `[block, row, lane]` array. -/
theorem index_block (i : S32x8x128.Idx) : ∃ (b : Fin 32) (p : Fin 8) (q : Fin 128), i = ix3 b p q :=
  ⟨i 0, i 1, i 2, funext fun a => match a with | ⟨0, _⟩ => rfl | ⟨1, _⟩ => rfl | ⟨2, _⟩ => rfl⟩

/-- Every index of a `[block, 1, lane]` array. -/
theorem index_gain (i : S32x1x1024.Idx) : ∃ (b : Fin 32) (j : Fin 1024), i = ix3 b 0 j := by
  have h1 : (i 1).val < 1 := (i 1).isLt
  refine ⟨i 0, i 2, funext fun a => Fin.ext ?_⟩
  match a with
  | ⟨0, _⟩ => rfl
  | ⟨1, _⟩ => show (i 1).val = 0; omega
  | ⟨2, _⟩ => rfl

variable (m : (ℓ : Loc nD τ sig) → Buf (Elt Ideal) ℓ) (c : Dev nD)

/-- The output projection. -/
theorem result_mix : ((dats m 0 c).arrAt 10 cfg0.N : S8192x1024.Idx → EReal)
    = val_main_v1 (F := Ideal) (argA m c) (argB m c) (argO m c) := by
  funext i
  obtain ⟨b, r, j, rfl⟩ := index_tok i
  rw [arr10 m c b r j]
  exact (Cert.Reference7Ideal.FfnFwd.mix_at _ _ _ _ _).symm

/-- The feed-forward layer's input, before its norm. -/
theorem result_x1 : ((dats m 0 c).arrAt 11 cfg0.N : S8192x1024.Idx → EReal)
    = val_main_v14 (F := Ideal) (argA m c) (argB m c) (argX m c) (argG2 m c) (argO m c) := by
  funext i
  obtain ⟨b, r, j, rfl⟩ := index_tok i
  rw [arr11 m c b r j]
  exact (Cert.Reference7Ideal.FfnFwd.mid_at _ _ _ _ _ _ _).symm

/-- After it. -/
theorem result_h : ((dats m 0 c).arrAt 12 cfg0.N : S8192x1024.Idx → EReal)
    = val_main_v88 (F := Ideal) (argA m c) (argB m c) (argX m c) (argG2 m c) (argG3 m c) (argO m c) := by
  funext i
  obtain ⟨b, r, j, rfl⟩ := index_tok i
  rw [arr12 m c b r j]
  exact (Cert.Reference7Ideal.FfnFwd.h_result _ _ _ _ _ _ _ _).symm

/-- The heads' outputs side by side. -/
theorem result_o : ((dats m 0 c).arrAt 13 cfg0.N : S8192x1024.Idx → EReal)
    = val_main_v89 (F := Ideal) (argA m c) (argB m c) := by
  funext i
  obtain ⟨b, r, j, rfl⟩ := index_tok i
  rw [arr13 m c b r j]
  exact (Cert.Reference7Ideal.FfnFwd.o_result _ _ _ _).symm

/-- The activation. -/
theorem result_u : ((dats m 0 c).arrAt 14 cfg0.N : S8192x4096.Idx → EReal)
    = val_main_v91 (F := Ideal) (argA m c) (argB m c) (argX m c) (argG2 m c) (argG3 m c) (argO m c) (argUp m c) := by
  funext i
  obtain ⟨b, r, j, rfl⟩ := index_tok i
  rw [arr14 m c b r j]
  exact (Cert.Reference7Ideal.FfnFwd.u_result _ _ _ _ _ _ _ _ _).symm

/-- The gradient of the feed-forward layer's output. -/
theorem result_df : ((dats m 0 c).arrAt 15 cfg0.N : S8192x1024.Idx → EReal)
    = val_main_v92 (F := Ideal) (argA m c) (argB m c) (argX m c) (argT m c) (argG2 m c) (argG3 m c) (argG4 m c) (argO m c) (argUp m c) (argDown m c) := by
  funext i
  obtain ⟨b, r, j, rfl⟩ := index_tok i
  rw [arr15 m c b r j, df_eq]
  exact (Cert.Reference7Ideal.FfnFwd.df_result _ _ _ _ _ _ _ _ _ _ _ _).symm

/-- The gradient of the last sum. -/
theorem result_dy : ((dats m 0 c).arrAt 16 cfg0.N : S8192x1024.Idx → EReal)
    = val_main_v68 (F := Ideal) (argA m c) (argB m c) (argX m c) (argT m c) (argG2 m c) (argG3 m c) (argG4 m c) (argO m c) (argUp m c) (argDown m c) := by
  funext i
  obtain ⟨b, r, j, rfl⟩ := index_tok i
  rw [arr16 m c b r j, errBack_eq]
  exact (Cert.Reference7Ideal.FfnFwd.errBack_at _ _ _ _ _ _ _ _ _ _ _ _).symm

/-- The loss, block by block. -/
theorem result_loss : ((dats m 0 c).arrAt 17 cfg0.N : S32x8x128.Idx → EReal)
    = val_main_v94 (F := Ideal) (argA m c) (argB m c) (argX m c) (argT m c) (argG2 m c) (argG3 m c) (argG4 m c) (argO m c) (argUp m c) (argDown m c) := by
  funext i
  obtain ⟨b, p, q, rfl⟩ := index_block i
  rw [arr17 m c b p q, loss_eq]
  exact (Cert.Reference7Ideal.FfnFwd.loss_result _ _ _ _ _ _ _ _ _ _ b p q).symm

/-- The gradient of the last norm's gain, block by block. -/
theorem result_dg4 : ((dats m 0 c).arrAt 18 cfg0.N : S32x1x1024.Idx → EReal)
    = val_main_v87 (F := Ideal) (argA m c) (argB m c) (argX m c) (argT m c) (argG2 m c) (argG3 m c) (argG4 m c) (argO m c) (argUp m c) (argDown m c) := by
  funext i
  obtain ⟨b, j, rfl⟩ := index_gain i
  have e : ∑ r : Fin 256, errBackK (errRow (row (argA m c) (tok b r)) (row (argB m c) (tok b r)) (row (argX m c) (tok b r)) (row (argT m c) (tok b r)) (row (argG2 m c) 0) (row (argG3 m c) 0) (row (argG4 m c) 0) (row (argO m c)) (row (argUp m c)) (row (argDown m c))) j
        * normed (outRow (row (argA m c) (tok b r)) (row (argB m c) (tok b r)) (row (argX m c) (tok b r)) (row (argG2 m c) 0) (row (argG3 m c) 0) (row (argO m c)) (row (argUp m c)) (row (argDown m c))) j
      = ∑ r : Fin 256, normed (outRow (row (argA m c) (tok b r)) (row (argB m c) (tok b r)) (row (argX m c) (tok b r)) (row (argG2 m c) 0) (row (argG3 m c) 0) (row (argO m c)) (row (argUp m c)) (row (argDown m c))) j
        * errBackR (errRow (row (argA m c) (tok b r)) (row (argB m c) (tok b r)) (row (argX m c) (tok b r)) (row (argT m c) (tok b r)) (row (argG2 m c) 0) (row (argG3 m c) 0) (row (argG4 m c) 0) (row (argO m c)) (row (argUp m c)) (row (argDown m c))) j :=
    Finset.sum_congr rfl fun r _ => by rw [errBack_eq, mul_comm]
  exact (arr18 m c b j).trans (e.trans (Cert.Reference7Ideal.FfnFwd.dg4_result _ _ _ _ _ _ _ _ _ _ b j).symm)

end Cert.Kernel7Ideal.FfnFwd

end
-- ==== Proof.lean ====
/-
  The certificate: the frames, and that the kernel's gradients of the attention's queries, keys and values are the
  derivative's of the plain softmax attention, its gradients through the feed-forward layer the derivative's of the plain
  layer, its gradients of the weights the derivatives' of the plain products, and its forward pass from the heads' outputs
  to the loss, with the loss's gradients, the plain layer's.
-/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.AttnBwd.Results
public import proofs.«01_k».proof.Proof.WeightGrad.Down
public import proofs.«01_k».proof.Proof.WeightGrad.Up
public import proofs.«01_k».proof.Proof.WeightGrad.Out
public import proofs.«01_k».proof.Proof.WeightGrad.In
public import proofs.«01_k».proof.Proof.FfnBwd.Results
public import proofs.«01_k».proof.Proof.FfnFwd.Results
public import Idealize.ShloMosaic.Adequacy
public import Idealize.ShloMosaic.Init

@[expose] public section

noncomputable section

namespace Cert.Proof

open Idealize.ShloMosaic Idealize.SL.Sem Cert.Kernel

/-- The kernel and the reference end with the same three arrays, and each with its arguments unchanged. -/
theorem attnBwd : Cert.algebraic_KernelIdeal_ReferenceIdeal_pre_all_finite (hKernelIdeal := Cert.KernelIdeal.Gen.facts)
    (hReferenceIdeal := Cert.ReferenceIdeal.Gen.facts) (hPre_all_finite := Cert.Pre_all_finite.facts) := by
  letI := Cert.Pre_all_finite.facts
  intro m g m' g' hpre hargs
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g,
    (θ_run Cert.ReferenceIdeal.defs _ _).mono (fun r h c => ?_) (Cert.ReferenceIdeal.Value.run m' g')⟩
  obtain ⟨h0, h1, h2, h3⟩ := h c
  obtain ⟨a0, a1, a2, a3⟩ := hargs c
  have hr := Cert.KernelIdeal.AttnBwd.reals_of_pre hpre c
  refine ⟨h0.trans ?_, h1.trans ?_, h2.trans ?_, h3⟩
  · rw [Cert.ReferenceIdeal.Read.val_main_v62_eq, a0, a1, a2, a3]
    exact (Cert.KernelIdeal.AttnBwd.result_q hr).symm
  · rw [Cert.ReferenceIdeal.Read.val_main_v64_eq, a0, a1, a2, a3]
    exact (Cert.KernelIdeal.AttnBwd.result_k hr).symm
  · rw [Cert.ReferenceIdeal.Read.val_main_v66_eq, a0, a1, a3]
    exact (Cert.KernelIdeal.AttnBwd.result_v hr).symm

/-- The reference runs, its arguments end unchanged, and it has no semaphore. -/
theorem referenceFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, ρ⟩ (fun r =>
        (∀ c : Dev Cert.ReferenceIdeal.nD,
          r.2.mem ((c.tc : Thread Cert.ReferenceIdeal.nD Cert.ReferenceIdeal.τ).loc Cert.ReferenceIdeal.main_arg0)
              = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
              = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
              = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3)
              = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2.2.2, sem_eq_zero_of_no_sems (by decide) r.2⟩) (Cert.ReferenceIdeal.Value.run m ρ)

/-- The gradient of the feed-forward layer's second weight. -/
theorem gradDown : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 2 Cert.Kernel3Ideal.cfg0.N,
    Cert.Kernel3Ideal.Value.run_blocks m g,
    (θ_run Cert.Reference3Ideal.defs _ _).mono (fun r h c => ?_) (Cert.Reference3Ideal.Value.run m' g')⟩
  obtain ⟨h0, h1⟩ := h c
  obtain ⟨a0, a1⟩ := hargs c
  refine ⟨h0.trans ?_, h1⟩
  rw [Cert.Reference3Ideal.Read.val_main_v4_eq, a0, a1]
  exact (Cert.Kernel3Ideal.WeightGrad.result m c).symm

theorem referenceFrame3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal))
      (onTc (τ := Cert.Reference3Ideal.τ) (Cert.Reference3Ideal.main (F := Ideal))) ⟨m, fun _ => 0, ρ⟩ (fun r =>
        (∀ c : Dev Cert.Reference3Ideal.nD,
          r.2.mem ((c.tc : Thread Cert.Reference3Ideal.nD Cert.Reference3Ideal.τ).loc Cert.Reference3Ideal.main_arg0)
              = m ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1)
              = m ((c.tc : Thread Cert.Reference3Ideal.nD Cert.Reference3Ideal.τ).loc Cert.Reference3Ideal.main_arg1))
        ∧ r.2.sem = fun _ => 0) :=
  (θ_run Cert.Reference3Ideal.defs _ _).mono
    (fun r h => ⟨fun c => (h c).2, sem_eq_zero_of_no_sems (by decide) r.2⟩) (Cert.Reference3Ideal.Value.run m ρ)

/-- The gradient of the feed-forward layer's first weight. -/
theorem gradUp : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 2 Cert.Kernel4Ideal.cfg0.N,
    Cert.Kernel4Ideal.Value.run_blocks m g,
    (θ_run Cert.Reference4Ideal.defs _ _).mono (fun r h c => ?_) (Cert.Reference4Ideal.Value.run m' g')⟩
  obtain ⟨h0, h1⟩ := h c
  obtain ⟨a0, a1⟩ := hargs c
  refine ⟨h0.trans ?_, h1⟩
  rw [Cert.Reference4Ideal.Read.val_main_v5_eq, a0, a1]
  exact (Cert.Kernel4Ideal.WeightGrad.result m c).symm

theorem referenceFrame4 (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal))
      (onTc (τ := Cert.Reference4Ideal.τ) (Cert.Reference4Ideal.main (F := Ideal))) ⟨m, fun _ => 0, ρ⟩ (fun r =>
        (∀ c : Dev Cert.Reference4Ideal.nD,
          r.2.mem ((c.tc : Thread Cert.Reference4Ideal.nD Cert.Reference4Ideal.τ).loc Cert.Reference4Ideal.main_arg0)
              = m ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1)
              = m ((c.tc : Thread Cert.Reference4Ideal.nD Cert.Reference4Ideal.τ).loc Cert.Reference4Ideal.main_arg1))
        ∧ r.2.sem = fun _ => 0) :=
  (θ_run Cert.Reference4Ideal.defs _ _).mono
    (fun r h => ⟨fun c => (h c).2, sem_eq_zero_of_no_sems (by decide) r.2⟩) (Cert.Reference4Ideal.Value.run m ρ)

/-- The gradient of the heads' output projection. -/
theorem gradOut : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 2 Cert.Kernel5Ideal.cfg0.N,
    Cert.Kernel5Ideal.Value.run_blocks m g,
    (θ_run Cert.Reference5Ideal.defs _ _).mono (fun r h c => ?_) (Cert.Reference5Ideal.Value.run m' g')⟩
  obtain ⟨h0, h1⟩ := h c
  obtain ⟨a0, a1⟩ := hargs c
  refine ⟨h0.trans ?_, h1⟩
  rw [Cert.Reference5Ideal.Read.val_main_v3_eq, a0, a1]
  exact (Cert.Kernel5Ideal.WeightGrad.result m c).symm

theorem referenceFrame5 (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal))
      (onTc (τ := Cert.Reference5Ideal.τ) (Cert.Reference5Ideal.main (F := Ideal))) ⟨m, fun _ => 0, ρ⟩ (fun r =>
        (∀ c : Dev Cert.Reference5Ideal.nD,
          r.2.mem ((c.tc : Thread Cert.Reference5Ideal.nD Cert.Reference5Ideal.τ).loc Cert.Reference5Ideal.main_arg0)
              = m ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1)
              = m ((c.tc : Thread Cert.Reference5Ideal.nD Cert.Reference5Ideal.τ).loc Cert.Reference5Ideal.main_arg1))
        ∧ r.2.sem = fun _ => 0) :=
  (θ_run Cert.Reference5Ideal.defs _ _).mono
    (fun r h => ⟨fun c => (h c).2, sem_eq_zero_of_no_sems (by decide) r.2⟩) (Cert.Reference5Ideal.Value.run m ρ)

/-- The gradient of the input projection. -/
theorem gradIn : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 2 Cert.Kernel6Ideal.cfg0.N,
    Cert.Kernel6Ideal.Value.run_blocks m g,
    (θ_run Cert.Reference6Ideal.defs _ _).mono (fun r h c => ?_) (Cert.Reference6Ideal.Value.run m' g')⟩
  obtain ⟨h0, h1⟩ := h c
  obtain ⟨a0, a1⟩ := hargs c
  refine ⟨h0.trans ?_, h1⟩
  rw [Cert.Reference6Ideal.Read.val_main_v5_eq, a0, a1]
  exact (Cert.Kernel6Ideal.WeightGrad.result m c).symm

theorem referenceFrame6 (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal))
      (onTc (τ := Cert.Reference6Ideal.τ) (Cert.Reference6Ideal.main (F := Ideal))) ⟨m, fun _ => 0, ρ⟩ (fun r =>
        (∀ c : Dev Cert.Reference6Ideal.nD,
          r.2.mem ((c.tc : Thread Cert.Reference6Ideal.nD Cert.Reference6Ideal.τ).loc Cert.Reference6Ideal.main_arg0)
              = m ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1)
              = m ((c.tc : Thread Cert.Reference6Ideal.nD Cert.Reference6Ideal.τ).loc Cert.Reference6Ideal.main_arg1))
        ∧ r.2.sem = fun _ => 0) :=
  (θ_run Cert.Reference6Ideal.defs _ _).mono
    (fun r h => ⟨fun c => (h c).2, sem_eq_zero_of_no_sems (by decide) r.2⟩) (Cert.Reference6Ideal.Value.run m ρ)

set_option maxHeartbeats 2000000 in
/-- The feed-forward layer's backward kernel and the reference end with the same seven arrays. -/
theorem ffnBwd : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    Cert.Kernel2Ideal.Value.run_blocks m g,
    (θ_run Cert.Reference2Ideal.defs _ _).mono (fun r h c => ?_) (Cert.Reference2Ideal.Value.run m' g')⟩
  obtain ⟨h0, h1, h2, h3, h4, h5, h6, h7⟩ := h c
  obtain ⟨a0, a1, a2, a3, a4, a5, a6, a7, a8⟩ := hargs c
  refine ⟨h0.trans ?_, h1.trans ?_, h2.trans ?_, h3.trans ?_, h4.trans ?_, h5.trans ?_, h6.trans ?_, h7⟩
  · rw [Cert.Reference2Ideal.Read.val_main_v90_eq, a0, a2, a4, a5, a7]
    exact (Cert.Kernel2Ideal.FfnBwd.result_dz m c).symm
  · rw [Cert.Reference2Ideal.Read.val_main_v51_eq, a0, a2, a4, a5, a7, a8]
    exact (Cert.Kernel2Ideal.FfnBwd.result_dx m c).symm
  · rw [Cert.Reference2Ideal.Read.val_main_v91_eq, a0, a1, a2, a3, a4, a5, a7, a8]
    exact (Cert.Kernel2Ideal.FfnBwd.result_dm m c).symm
  · rw [Cert.Reference2Ideal.Read.val_main_v50_eq, a0, a2, a4, a5, a7]
    exact (Cert.Kernel2Ideal.FfnBwd.result_dg3 m c).symm
  · rw [Cert.Reference2Ideal.Read.val_main_v86_eq, a0, a1, a2, a4, a5, a7, a8]
    exact (Cert.Kernel2Ideal.FfnBwd.result_dg2 m c).symm
  · rw [Cert.Reference2Ideal.Read.val_main_v92_eq, a0, a1, a2, a3, a4, a5, a6, a7, a8]
    exact (Cert.Kernel2Ideal.FfnBwd.result_doa m c).symm
  · rw [Cert.Reference2Ideal.Read.val_main_v93_eq, a0, a1, a2, a3, a4, a5, a6, a7, a8]
    exact (Cert.Kernel2Ideal.FfnBwd.result_dob m c).symm

theorem referenceFrame2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal))
      (onTc (τ := Cert.Reference2Ideal.τ) (Cert.Reference2Ideal.main (F := Ideal))) ⟨m, fun _ => 0, ρ⟩ (fun r =>
        (∀ c : Dev Cert.Reference2Ideal.nD,
          r.2.mem ((c.tc : Thread Cert.Reference2Ideal.nD Cert.Reference2Ideal.τ).loc Cert.Reference2Ideal.main_arg0)
              = m ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1)
              = m ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2)
              = m ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3)
              = m ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4)
              = m ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5)
              = m ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6)
              = m ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7)
              = m ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8)
              = m ((c.tc : Thread Cert.Reference2Ideal.nD Cert.Reference2Ideal.τ).loc Cert.Reference2Ideal.main_arg8))
        ∧ r.2.sem = fun _ => 0) :=
  (θ_run Cert.Reference2Ideal.defs _ _).mono
    (fun r h => ⟨fun c => (h c).2.2.2.2.2.2.2, sem_eq_zero_of_no_sems (by decide) r.2⟩) (Cert.Reference2Ideal.Value.run m ρ)

set_option maxHeartbeats 2000000 in
/-- The forward kernel from the heads' outputs to the loss and the reference end with the same nine arrays. -/
theorem ffnFwd : Cert.algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 10 Cert.Kernel7Ideal.cfg0.N,
    fun c => (Cert.Kernel7Ideal.Gen.dats m 0 c).arrAt 11 Cert.Kernel7Ideal.cfg0.N,
    fun c => (Cert.Kernel7Ideal.Gen.dats m 0 c).arrAt 12 Cert.Kernel7Ideal.cfg0.N,
    fun c => (Cert.Kernel7Ideal.Gen.dats m 0 c).arrAt 13 Cert.Kernel7Ideal.cfg0.N,
    fun c => (Cert.Kernel7Ideal.Gen.dats m 0 c).arrAt 14 Cert.Kernel7Ideal.cfg0.N,
    fun c => (Cert.Kernel7Ideal.Gen.dats m 0 c).arrAt 15 Cert.Kernel7Ideal.cfg0.N,
    fun c => (Cert.Kernel7Ideal.Gen.dats m 0 c).arrAt 16 Cert.Kernel7Ideal.cfg0.N,
    fun c => (Cert.Kernel7Ideal.Gen.dats m 0 c).arrAt 17 Cert.Kernel7Ideal.cfg0.N,
    fun c => (Cert.Kernel7Ideal.Gen.dats m 0 c).arrAt 18 Cert.Kernel7Ideal.cfg0.N,
    Cert.Kernel7Ideal.FfnFwd.run_blocks m g,
    (θ_run Cert.Reference7Ideal.defs _ _).mono (fun r h c => ?_) (Cert.Reference7Ideal.Value.run m' g')⟩
  obtain ⟨h0, h1, h2, h3, h4, h5, h6, h7, h8, h9⟩ := h c
  obtain ⟨a0, a1, a2, a3, a4, a5, a6, a7, a8, a9⟩ := hargs c
  refine ⟨h0.trans ?_, h1.trans ?_, h2.trans ?_, h3.trans ?_, h4.trans ?_, h5.trans ?_, h6.trans ?_, h7.trans ?_, h8.trans ?_, h9⟩
  · rw [Cert.Reference7Ideal.Read.val_main_v1_eq]
    simp only [Idealize.ShloMosaic.StableHlo.launchContents_devRef, a0, a1, a7]
    exact (Cert.Kernel7Ideal.FfnFwd.result_mix m c).symm
  · rw [Cert.Reference7Ideal.Read.val_main_v14_eq]
    simp only [Idealize.ShloMosaic.StableHlo.launchContents_devRef, a0, a1, a2, a4, a7]
    exact (Cert.Kernel7Ideal.FfnFwd.result_x1 m c).symm
  · rw [Cert.Reference7Ideal.Read.val_main_v88_eq]
    simp only [Idealize.ShloMosaic.StableHlo.launchContents_devRef, a0, a1, a2, a4, a5, a7]
    exact (Cert.Kernel7Ideal.FfnFwd.result_h m c).symm
  · rw [Cert.Reference7Ideal.Read.val_main_v89_eq]
    simp only [Idealize.ShloMosaic.StableHlo.launchContents_devRef, a0, a1]
    exact (Cert.Kernel7Ideal.FfnFwd.result_o m c).symm
  · rw [Cert.Reference7Ideal.Read.val_main_v91_eq]
    simp only [Idealize.ShloMosaic.StableHlo.launchContents_devRef, a0, a1, a2, a4, a5, a7, a8]
    exact (Cert.Kernel7Ideal.FfnFwd.result_u m c).symm
  · rw [Cert.Reference7Ideal.Read.val_main_v92_eq]
    simp only [Idealize.ShloMosaic.StableHlo.launchContents_devRef, a0, a1, a2, a3, a4, a5, a6, a7, a8, a9]
    exact (Cert.Kernel7Ideal.FfnFwd.result_df m c).symm
  · rw [Cert.Reference7Ideal.Read.val_main_v68_eq]
    simp only [Idealize.ShloMosaic.StableHlo.launchContents_devRef, a0, a1, a2, a3, a4, a5, a6, a7, a8, a9]
    exact (Cert.Kernel7Ideal.FfnFwd.result_dy m c).symm
  · rw [Cert.Reference7Ideal.Read.val_main_v94_eq]
    simp only [Idealize.ShloMosaic.StableHlo.launchContents_devRef, a0, a1, a2, a3, a4, a5, a6, a7, a8, a9]
    exact (Cert.Kernel7Ideal.FfnFwd.result_loss m c).symm
  · rw [Cert.Reference7Ideal.Read.val_main_v87_eq]
    simp only [Idealize.ShloMosaic.StableHlo.launchContents_devRef, a0, a1, a2, a3, a4, a5, a6, a7, a8, a9]
    exact (Cert.Kernel7Ideal.FfnFwd.result_dg4 m c).symm

theorem referenceFrame7 (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal))
      (onTc (τ := Cert.Reference7Ideal.τ) (Cert.Reference7Ideal.main (F := Ideal))) ⟨m, fun _ => 0, ρ⟩ (fun r =>
        (∀ c : Dev Cert.Reference7Ideal.nD,
          r.2.mem ((c.tc : Thread Cert.Reference7Ideal.nD Cert.Reference7Ideal.τ).loc Cert.Reference7Ideal.main_arg0)
              = m ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1)
              = m ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2)
              = m ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3)
              = m ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4)
              = m ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5)
              = m ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6)
              = m ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7)
              = m ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8)
              = m ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9)
              = m ((c.tc : Thread Cert.Reference7Ideal.nD Cert.Reference7Ideal.τ).loc Cert.Reference7Ideal.main_arg9))
        ∧ r.2.sem = fun _ => 0) :=
  (θ_run Cert.Reference7Ideal.defs _ _).mono
    (fun r h => ⟨fun c => (h c).2.2.2.2.2.2.2.2.2, sem_eq_zero_of_no_sems (by decide) r.2⟩) (Cert.Reference7Ideal.Value.run m ρ)

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_all_finite.facts,
    fun m ρ _ => Cert.Kernel.Gen.frame m ρ,
    fun m ρ _ => Cert.KernelIdeal.Gen.frame m ρ,
    fun m ρ _ => Cert.KernelIdeal.Gen.frame m ρ,
    fun m ρ _ => referenceFrame m ρ,
    fun m ρ _ => referenceFrame m ρ,
    fun m ρ _ => Cert.Kernel2.Gen.frame m ρ,
    fun m ρ _ => Cert.Kernel2Ideal.Gen.frame m ρ,
    fun m ρ _ => referenceFrame2 m ρ,
    fun m ρ _ => Cert.Kernel3.Gen.frame m ρ,
    fun m ρ _ => Cert.Kernel3Ideal.Gen.frame m ρ,
    fun m ρ _ => referenceFrame3 m ρ,
    fun m ρ _ => Cert.Kernel4.Gen.frame m ρ,
    fun m ρ _ => Cert.Kernel4Ideal.Gen.frame m ρ,
    fun m ρ _ => referenceFrame4 m ρ,
    fun m ρ _ => Cert.Kernel5.Gen.frame m ρ,
    fun m ρ _ => Cert.Kernel5Ideal.Gen.frame m ρ,
    fun m ρ _ => referenceFrame5 m ρ,
    fun m ρ _ => Cert.Kernel6.Gen.frame m ρ,
    fun m ρ _ => Cert.Kernel6Ideal.Gen.frame m ρ,
    fun m ρ _ => referenceFrame6 m ρ,
    fun m ρ _ => Cert.Kernel7.Gen.frame m ρ,
    fun m ρ _ => Cert.Kernel7Ideal.Gen.frame m ρ,
    fun m ρ _ => referenceFrame7 m ρ,
    trivial, attnBwd,
    trivial, ffnBwd,
    trivial, gradDown,
    trivial, gradUp,
    trivial, gradOut,
    trivial, gradIn,
    trivial, ffnFwd⟩

end Cert.Proof

end
